-- ==== Defs.lean ====
def Pre_Masks [hPre_in_range : Cert.Pre_in_range.Facts] (m : (ℓ : Loc Cert.Masks.nD Cert.Masks.τ Cert.Masks.sig) → Buf (Elt Bits) ℓ) : Prop :=
  ∀ c : Dev Cert.Masks.nD,
    (Cert.Pre_in_range.fn (F := Bits) (m ((c.tc : Thread Cert.Masks.nD Cert.Masks.τ).loc Cert.Masks.main_arg0)) (m ((c.tc : Thread Cert.Masks.nD Cert.Masks.τ).loc Cert.Masks.main_arg1)) (m ((c.tc : Thread Cert.Masks.nD Cert.Masks.τ).loc Cert.Masks.main_arg2)) (m ((c.tc : Thread Cert.Masks.nD Cert.Masks.τ).loc Cert.Masks.main_arg3))) = (fun _ => 1#1)

def Pre_MasksIdeal [hPre_in_range : Cert.Pre_in_range.Facts] (m : (ℓ : Loc Cert.MasksIdeal.nD Cert.MasksIdeal.τ Cert.MasksIdeal.sig) → Buf (Elt Ideal) ℓ) : Prop :=
  ∀ c : Dev Cert.MasksIdeal.nD,
    (Cert.Pre_in_range.fn (F := Ideal) (m ((c.tc : Thread Cert.MasksIdeal.nD Cert.MasksIdeal.τ).loc Cert.MasksIdeal.main_arg0)) (m ((c.tc : Thread Cert.MasksIdeal.nD Cert.MasksIdeal.τ).loc Cert.MasksIdeal.main_arg1)) (m ((c.tc : Thread Cert.MasksIdeal.nD Cert.MasksIdeal.τ).loc Cert.MasksIdeal.main_arg2)) (m ((c.tc : Thread Cert.MasksIdeal.nD Cert.MasksIdeal.τ).loc Cert.MasksIdeal.main_arg3))) = (fun _ => 1#1)

def Pre_MasksRefIdeal (m : (ℓ : Loc Cert.MasksRefIdeal.nD Cert.MasksRefIdeal.τ Cert.MasksRefIdeal.sig) → Buf (Elt Ideal) ℓ) : Prop :=
  True

def Pre_MasksRefIdeal_in_range [hPre_in_range : Cert.Pre_in_range.Facts] (m : (ℓ : Loc Cert.MasksRefIdeal.nD Cert.MasksRefIdeal.τ Cert.MasksRefIdeal.sig) → Buf (Elt Ideal) ℓ) : Prop :=
  ∀ c : Dev Cert.MasksRefIdeal.nD,
    (Cert.Pre_in_range.fn (F := Ideal) (m ((c.tc : Thread Cert.MasksRefIdeal.nD Cert.MasksRefIdeal.τ).loc Cert.MasksRefIdeal.main_arg0)) (m ((c.tc : Thread Cert.MasksRefIdeal.nD Cert.MasksRefIdeal.τ).loc Cert.MasksRefIdeal.main_arg1)) (m ((c.tc : Thread Cert.MasksRefIdeal.nD Cert.MasksRefIdeal.τ).loc Cert.MasksRefIdeal.main_arg2)) (m ((c.tc : Thread Cert.MasksRefIdeal.nD Cert.MasksRefIdeal.τ).loc Cert.MasksRefIdeal.main_arg3))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeRef (m : (ℓ : Loc Cert.DecodeRef.nD Cert.DecodeRef.τ Cert.DecodeRef.sig) → Buf (Elt Bits) ℓ) : Prop :=
  True

def Pre_DecodeRefIdeal (m : (ℓ : Loc Cert.DecodeRefIdeal.nD Cert.DecodeRefIdeal.τ Cert.DecodeRefIdeal.sig) → Buf (Elt Ideal) ℓ) : Prop :=
  True

def Pre_Nms (m : (ℓ : Loc Cert.Nms.nD Cert.Nms.τ Cert.Nms.sig) → Buf (Elt Bits) ℓ) : Prop :=
  True

def Pre_NmsIdeal (m : (ℓ : Loc Cert.NmsIdeal.nD Cert.NmsIdeal.τ Cert.NmsIdeal.sig) → Buf (Elt Ideal) ℓ) : Prop :=
  True

def Pre_NmsRef (m : (ℓ : Loc Cert.NmsRef.nD Cert.NmsRef.τ Cert.NmsRef.sig) → Buf (Elt Bits) ℓ) : Prop :=
  True

def Pre_NmsRefIdeal (m : (ℓ : Loc Cert.NmsRefIdeal.nD Cert.NmsRefIdeal.τ Cert.NmsRefIdeal.sig) → Buf (Elt Ideal) ℓ) : Prop :=
  True

def quiescent_Masks [hMasks : Cert.Masks.Facts] [hPre_in_range : Cert.Pre_in_range.Facts] : Prop :=
  ∀ (m : (ℓ : Loc Cert.Masks.nD Cert.Masks.τ Cert.Masks.sig) → Buf (Elt Bits) ℓ) (g : Dev Cert.Masks.nD → PrngReg), Pre_Masks m →
    θ_run (Cert.Masks.defs (F := Bits)) (onTc (τ := Cert.Masks.τ) (Cert.Masks.main (F := Bits))) ⟨m, fun _ => 0, g⟩ (fun r => (∀ c : Dev Cert.Masks.nD,
      r.2.mem ((c.tc : Thread Cert.Masks.nD Cert.Masks.τ).loc Cert.Masks.main_arg0) = m ((c.tc : Thread Cert.Masks.nD Cert.Masks.τ).loc Cert.Masks.main_arg0)
      ∧ r.2.mem ((c.tc : Thread Cert.Masks.nD Cert.Masks.τ).loc Cert.Masks.main_arg1) = m ((c.tc : Thread Cert.Masks.nD Cert.Masks.τ).loc Cert.Masks.main_arg1)
      ∧ r.2.mem ((c.tc : Thread Cert.Masks.nD Cert.Masks.τ).loc Cert.Masks.main_arg2) = m ((c.tc : Thread Cert.Masks.nD Cert.Masks.τ).loc Cert.Masks.main_arg2)
      ∧ r.2.mem ((c.tc : Thread Cert.Masks.nD Cert.Masks.τ).loc Cert.Masks.main_arg3) = m ((c.tc : Thread Cert.Masks.nD Cert.Masks.τ).loc Cert.Masks.main_arg3))
      ∧ r.2.sem = fun _ => 0)

def quiescent_MasksIdeal [hMasksIdeal : Cert.MasksIdeal.Facts] [hPre_in_range : Cert.Pre_in_range.Facts] : Prop :=
  ∀ (m : (ℓ : Loc Cert.MasksIdeal.nD Cert.MasksIdeal.τ Cert.MasksIdeal.sig) → Buf (Elt Ideal) ℓ) (g : Dev Cert.MasksIdeal.nD → PrngReg), Pre_MasksIdeal m →
    θ_run (Cert.MasksIdeal.defs (F := Ideal)) (onTc (τ := Cert.MasksIdeal.τ) (Cert.MasksIdeal.main (F := Ideal))) ⟨m, fun _ => 0, g⟩ (fun r => (∀ c : Dev Cert.MasksIdeal.nD,
      r.2.mem ((c.tc : Thread Cert.MasksIdeal.nD Cert.MasksIdeal.τ).loc Cert.MasksIdeal.main_arg0) = m ((c.tc : Thread Cert.MasksIdeal.nD Cert.MasksIdeal.τ).loc Cert.MasksIdeal.main_arg0)
      ∧ r.2.mem ((c.tc : Thread Cert.MasksIdeal.nD Cert.MasksIdeal.τ).loc Cert.MasksIdeal.main_arg1) = m ((c.tc : Thread Cert.MasksIdeal.nD Cert.MasksIdeal.τ).loc Cert.MasksIdeal.main_arg1)
      ∧ r.2.mem ((c.tc : Thread Cert.MasksIdeal.nD Cert.MasksIdeal.τ).loc Cert.MasksIdeal.main_arg2) = m ((c.tc : Thread Cert.MasksIdeal.nD Cert.MasksIdeal.τ).loc Cert.MasksIdeal.main_arg2)
      ∧ r.2.mem ((c.tc : Thread Cert.MasksIdeal.nD Cert.MasksIdeal.τ).loc Cert.MasksIdeal.main_arg3) = m ((c.tc : Thread Cert.MasksIdeal.nD Cert.MasksIdeal.τ).loc Cert.MasksIdeal.main_arg3))
      ∧ r.2.sem = fun _ => 0)

def quiescent_MasksRefIdeal [hMasksRefIdeal : Cert.MasksRefIdeal.Facts] : Prop :=
  ∀ (m : (ℓ : Loc Cert.MasksRefIdeal.nD Cert.MasksRefIdeal.τ Cert.MasksRefIdeal.sig) → Buf (Elt Ideal) ℓ) (g : Dev Cert.MasksRefIdeal.nD → PrngReg), Pre_MasksRefIdeal m →
    θ_run (Cert.MasksRefIdeal.defs (F := Ideal)) (onTc (τ := Cert.MasksRefIdeal.τ) (Cert.MasksRefIdeal.main (F := Ideal))) ⟨m, fun _ => 0, g⟩ (fun r => (∀ c : Dev Cert.MasksRefIdeal.nD,
      r.2.mem ((c.tc : Thread Cert.MasksRefIdeal.nD Cert.MasksRefIdeal.τ).loc Cert.MasksRefIdeal.main_arg0) = m ((c.tc : Thread Cert.MasksRefIdeal.nD Cert.MasksRefIdeal.τ).loc Cert.MasksRefIdeal.main_arg0)
      ∧ r.2.mem ((c.tc : Thread Cert.MasksRefIdeal.nD Cert.MasksRefIdeal.τ).loc Cert.MasksRefIdeal.main_arg1) = m ((c.tc : Thread Cert.MasksRefIdeal.nD Cert.MasksRefIdeal.τ).loc Cert.MasksRefIdeal.main_arg1)
      ∧ r.2.mem ((c.tc : Thread Cert.MasksRefIdeal.nD Cert.MasksRefIdeal.τ).loc Cert.MasksRefIdeal.main_arg2) = m ((c.tc : Thread Cert.MasksRefIdeal.nD Cert.MasksRefIdeal.τ).loc Cert.MasksRefIdeal.main_arg2)
      ∧ r.2.mem ((c.tc : Thread Cert.MasksRefIdeal.nD Cert.MasksRefIdeal.τ).loc Cert.MasksRefIdeal.main_arg3) = m ((c.tc : Thread Cert.MasksRefIdeal.nD Cert.MasksRefIdeal.τ).loc Cert.MasksRefIdeal.main_arg3))
      ∧ r.2.sem = fun _ => 0)

def quiescent_MasksRefIdeal_pre_in_range [hMasksRefIdeal : Cert.MasksRefIdeal.Facts] [hPre_in_range : Cert.Pre_in_range.Facts] : Prop :=
  ∀ (m : (ℓ : Loc Cert.MasksRefIdeal.nD Cert.MasksRefIdeal.τ Cert.MasksRefIdeal.sig) → Buf (Elt Ideal) ℓ) (g : Dev Cert.MasksRefIdeal.nD → PrngReg), Pre_MasksRefIdeal_in_range m →
    θ_run (Cert.MasksRefIdeal.defs (F := Ideal)) (onTc (τ := Cert.MasksRefIdeal.τ) (Cert.MasksRefIdeal.main (F := Ideal))) ⟨m, fun _ => 0, g⟩ (fun r => (∀ c : Dev Cert.MasksRefIdeal.nD,
      r.2.mem ((c.tc : Thread Cert.MasksRefIdeal.nD Cert.MasksRefIdeal.τ).loc Cert.MasksRefIdeal.main_arg0) = m ((c.tc : Thread Cert.MasksRefIdeal.nD Cert.MasksRefIdeal.τ).loc Cert.MasksRefIdeal.main_arg0)
      ∧ r.2.mem ((c.tc : Thread Cert.MasksRefIdeal.nD Cert.MasksRefIdeal.τ).loc Cert.MasksRefIdeal.main_arg1) = m ((c.tc : Thread Cert.MasksRefIdeal.nD Cert.MasksRefIdeal.τ).loc Cert.MasksRefIdeal.main_arg1)
      ∧ r.2.mem ((c.tc : Thread Cert.MasksRefIdeal.nD Cert.MasksRefIdeal.τ).loc Cert.MasksRefIdeal.main_arg2) = m ((c.tc : Thread Cert.MasksRefIdeal.nD Cert.MasksRefIdeal.τ).loc Cert.MasksRefIdeal.main_arg2)
      ∧ r.2.mem ((c.tc : Thread Cert.MasksRefIdeal.nD Cert.MasksRefIdeal.τ).loc Cert.MasksRefIdeal.main_arg3) = m ((c.tc : Thread Cert.MasksRefIdeal.nD Cert.MasksRefIdeal.τ).loc Cert.MasksRefIdeal.main_arg3))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodeRef [hDecodeRef : Cert.DecodeRef.Facts] : Prop :=
  ∀ (m : (ℓ : Loc Cert.DecodeRef.nD Cert.DecodeRef.τ Cert.DecodeRef.sig) → Buf (Elt Bits) ℓ) (g : Dev Cert.DecodeRef.nD → PrngReg), Pre_DecodeRef m →
    θ_run (Cert.DecodeRef.defs (F := Bits)) (onTc (τ := Cert.DecodeRef.τ) (Cert.DecodeRef.main (F := Bits))) ⟨m, fun _ => 0, g⟩ (fun r => (∀ c : Dev Cert.DecodeRef.nD,
      r.2.mem ((c.tc : Thread Cert.DecodeRef.nD Cert.DecodeRef.τ).loc Cert.DecodeRef.main_arg0) = m ((c.tc : Thread Cert.DecodeRef.nD Cert.DecodeRef.τ).loc Cert.DecodeRef.main_arg0)
      ∧ r.2.mem ((c.tc : Thread Cert.DecodeRef.nD Cert.DecodeRef.τ).loc Cert.DecodeRef.main_arg1) = m ((c.tc : Thread Cert.DecodeRef.nD Cert.DecodeRef.τ).loc Cert.DecodeRef.main_arg1)
      ∧ r.2.mem ((c.tc : Thread Cert.DecodeRef.nD Cert.DecodeRef.τ).loc Cert.DecodeRef.main_arg2) = m ((c.tc : Thread Cert.DecodeRef.nD Cert.DecodeRef.τ).loc Cert.DecodeRef.main_arg2)
      ∧ r.2.mem ((c.tc : Thread Cert.DecodeRef.nD Cert.DecodeRef.τ).loc Cert.DecodeRef.main_arg3) = m ((c.tc : Thread Cert.DecodeRef.nD Cert.DecodeRef.τ).loc Cert.DecodeRef.main_arg3))
      ∧ r.2.sem = fun _ => 0)

def quiescent_DecodeRefIdeal [hDecodeRefIdeal : Cert.DecodeRefIdeal.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3))
      ∧ r.2.sem = fun _ => 0)

def quiescent_Nms [hNms : Cert.Nms.Facts] : Prop :=
  ∀ (m : (ℓ : Loc Cert.Nms.nD Cert.Nms.τ Cert.Nms.sig) → Buf (Elt Bits) ℓ) (g : Dev Cert.Nms.nD → PrngReg), Pre_Nms m →
    θ_run (Cert.Nms.defs (F := Bits)) (onTc (τ := Cert.Nms.τ) (Cert.Nms.main (F := Bits))) ⟨m, fun _ => 0, g⟩ (fun r => (∀ c : Dev Cert.Nms.nD,
      r.2.mem ((c.tc : Thread Cert.Nms.nD Cert.Nms.τ).loc Cert.Nms.main_arg0) = m ((c.tc : Thread Cert.Nms.nD Cert.Nms.τ).loc Cert.Nms.main_arg0)
      ∧ r.2.mem ((c.tc : Thread Cert.Nms.nD Cert.Nms.τ).loc Cert.Nms.main_arg1) = m ((c.tc : Thread Cert.Nms.nD Cert.Nms.τ).loc Cert.Nms.main_arg1)
      ∧ r.2.mem ((c.tc : Thread Cert.Nms.nD Cert.Nms.τ).loc Cert.Nms.main_arg2) = m ((c.tc : Thread Cert.Nms.nD Cert.Nms.τ).loc Cert.Nms.main_arg2))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
      ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2))
      ∧ r.2.sem = fun _ => 0)

def quiescent_NmsRef [hNmsRef : Cert.NmsRef.Facts] : Prop :=
  ∀ (m : (ℓ : Loc Cert.NmsRef.nD Cert.NmsRef.τ Cert.NmsRef.sig) → Buf (Elt Bits) ℓ) (g : Dev Cert.NmsRef.nD → PrngReg), Pre_NmsRef m →
    θ_run (Cert.NmsRef.defs (F := Bits)) (onTc (τ := Cert.NmsRef.τ) (Cert.NmsRef.main (F := Bits))) ⟨m, fun _ => 0, g⟩ (fun r => (∀ c : Dev Cert.NmsRef.nD,
      r.2.mem ((c.tc : Thread Cert.NmsRef.nD Cert.NmsRef.τ).loc Cert.NmsRef.main_arg0) = m ((c.tc : Thread Cert.NmsRef.nD Cert.NmsRef.τ).loc Cert.NmsRef.main_arg0)
      ∧ r.2.mem ((c.tc : Thread Cert.NmsRef.nD Cert.NmsRef.τ).loc Cert.NmsRef.main_arg1) = m ((c.tc : Thread Cert.NmsRef.nD Cert.NmsRef.τ).loc Cert.NmsRef.main_arg1)
      ∧ r.2.mem ((c.tc : Thread Cert.NmsRef.nD Cert.NmsRef.τ).loc Cert.NmsRef.main_arg2) = m ((c.tc : Thread Cert.NmsRef.nD Cert.NmsRef.τ).loc Cert.NmsRef.main_arg2))
      ∧ r.2.sem = fun _ => 0)

def quiescent_NmsRefIdeal [hNmsRefIdeal : Cert.NmsRefIdeal.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1)
      ∧ r.2.mem ((c.tc : Thread Cert.NmsRefIdeal.nD Cert.NmsRefIdeal.τ).loc Cert.NmsRefIdeal.main_arg2) = m ((c.tc : Thread Cert.NmsRefIdeal.nD Cert.NmsRefIdeal.τ).loc Cert.NmsRefIdeal.main_arg2))
      ∧ r.2.sem = fun _ => 0)

def preserves_Masks_MasksIdeal : Prop :=
  True

def algebraic_MasksIdeal_MasksRefIdeal [hMasksIdeal : Cert.MasksIdeal.Facts] [hMasksRefIdeal : Cert.MasksRefIdeal.Facts] [hPre_in_range : Cert.Pre_in_range.Facts] : Prop :=
  ∀ (m : (ℓ : Loc Cert.MasksIdeal.nD Cert.MasksIdeal.τ Cert.MasksIdeal.sig) → Buf (Elt Ideal) ℓ) (g : Dev Cert.MasksIdeal.nD → PrngReg)
    (m' : (ℓ : Loc Cert.MasksRefIdeal.nD Cert.MasksRefIdeal.τ Cert.MasksRefIdeal.sig) → Buf (Elt Ideal) ℓ) (g' : Dev Cert.MasksRefIdeal.nD → PrngReg), Pre_MasksIdeal m →
    (∀ c : Dev Cert.MasksIdeal.nD,
      m' ((c.tc : Thread Cert.MasksRefIdeal.nD Cert.MasksRefIdeal.τ).loc Cert.MasksRefIdeal.main_arg0) = m ((c.tc : Thread Cert.MasksIdeal.nD Cert.MasksIdeal.τ).loc Cert.MasksIdeal.main_arg0)
      ∧ m' ((c.tc : Thread Cert.MasksRefIdeal.nD Cert.MasksRefIdeal.τ).loc Cert.MasksRefIdeal.main_arg1) = m ((c.tc : Thread Cert.MasksIdeal.nD Cert.MasksIdeal.τ).loc Cert.MasksIdeal.main_arg1)
      ∧ m' ((c.tc : Thread Cert.MasksRefIdeal.nD Cert.MasksRefIdeal.τ).loc Cert.MasksRefIdeal.main_arg2) = m ((c.tc : Thread Cert.MasksIdeal.nD Cert.MasksIdeal.τ).loc Cert.MasksIdeal.main_arg2)
      ∧ m' ((c.tc : Thread Cert.MasksRefIdeal.nD Cert.MasksRefIdeal.τ).loc Cert.MasksRefIdeal.main_arg3) = m ((c.tc : Thread Cert.MasksIdeal.nD Cert.MasksIdeal.τ).loc Cert.MasksIdeal.main_arg3)) →
    ∃ (v0 : (c : Dev Cert.MasksIdeal.nD) → Buf (Elt Ideal) ((c.tc : Thread Cert.MasksIdeal.nD Cert.MasksIdeal.τ).loc Cert.MasksIdeal.main_v64)),
      θ_run (Cert.MasksIdeal.defs (F := Ideal)) (onTc (τ := Cert.MasksIdeal.τ) (Cert.MasksIdeal.main (F := Ideal))) ⟨m, fun _ => 0, g⟩ (fun r => ∀ c : Dev Cert.MasksIdeal.nD,
          r.2.mem ((c.tc : Thread Cert.MasksIdeal.nD Cert.MasksIdeal.τ).loc Cert.MasksIdeal.main_v64) = v0 c
          ∧ r.2.mem ((c.tc : Thread Cert.MasksIdeal.nD Cert.MasksIdeal.τ).loc Cert.MasksIdeal.main_arg0) = m ((c.tc : Thread Cert.MasksIdeal.nD Cert.MasksIdeal.τ).loc Cert.MasksIdeal.main_arg0)
          ∧ r.2.mem ((c.tc : Thread Cert.MasksIdeal.nD Cert.MasksIdeal.τ).loc Cert.MasksIdeal.main_arg1) = m ((c.tc : Thread Cert.MasksIdeal.nD Cert.MasksIdeal.τ).loc Cert.MasksIdeal.main_arg1)
          ∧ r.2.mem ((c.tc : Thread Cert.MasksIdeal.nD Cert.MasksIdeal.τ).loc Cert.MasksIdeal.main_arg2) = m ((c.tc : Thread Cert.MasksIdeal.nD Cert.MasksIdeal.τ).loc Cert.MasksIdeal.main_arg2)
          ∧ r.2.mem ((c.tc : Thread Cert.MasksIdeal.nD Cert.MasksIdeal.τ).loc Cert.MasksIdeal.main_arg3) = m ((c.tc : Thread Cert.MasksIdeal.nD Cert.MasksIdeal.τ).loc Cert.MasksIdeal.main_arg3))
      ∧ θ_run (Cert.MasksRefIdeal.defs (F := Ideal)) (onTc (τ := Cert.MasksRefIdeal.τ) (Cert.MasksRefIdeal.main (F := Ideal))) ⟨m', fun _ => 0, g'⟩ (fun r => ∀ c : Dev Cert.MasksRefIdeal.nD,
          r.2.mem ((c.tc : Thread Cert.MasksRefIdeal.nD Cert.MasksRefIdeal.τ).loc Cert.MasksRefIdeal.main_v63) = v0 c
          ∧ r.2.mem ((c.tc : Thread Cert.MasksRefIdeal.nD Cert.MasksRefIdeal.τ).loc Cert.MasksRefIdeal.main_arg0) = m' ((c.tc : Thread Cert.MasksRefIdeal.nD Cert.MasksRefIdeal.τ).loc Cert.MasksRefIdeal.main_arg0)
          ∧ r.2.mem ((c.tc : Thread Cert.MasksRefIdeal.nD Cert.MasksRefIdeal.τ).loc Cert.MasksRefIdeal.main_arg1) = m' ((c.tc : Thread Cert.MasksRefIdeal.nD Cert.MasksRefIdeal.τ).loc Cert.MasksRefIdeal.main_arg1)
          ∧ r.2.mem ((c.tc : Thread Cert.MasksRefIdeal.nD Cert.MasksRefIdeal.τ).loc Cert.MasksRefIdeal.main_arg2) = m' ((c.tc : Thread Cert.MasksRefIdeal.nD Cert.MasksRefIdeal.τ).loc Cert.MasksRefIdeal.main_arg2)
          ∧ r.2.mem ((c.tc : Thread Cert.MasksRefIdeal.nD Cert.MasksRefIdeal.τ).loc Cert.MasksRefIdeal.main_arg3) = m' ((c.tc : Thread Cert.MasksRefIdeal.nD Cert.MasksRefIdeal.τ).loc Cert.MasksRefIdeal.main_arg3))

def preserves_Decode_DecodeIdeal : Prop :=
  True

def algebraic_DecodeIdeal_DecodeRefIdeal [hDecodeIdeal : Cert.DecodeIdeal.Facts] [hDecodeRefIdeal : Cert.DecodeRefIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeRefIdeal.nD Cert.DecodeRefIdeal.τ Cert.DecodeRefIdeal.sig) → Buf (Elt Ideal) ℓ) (g' : Dev Cert.DecodeRefIdeal.nD → PrngReg), Pre_DecodeIdeal m →
    (∀ c : Dev Cert.DecodeIdeal.nD,
      m' ((c.tc : Thread Cert.DecodeRefIdeal.nD Cert.DecodeRefIdeal.τ).loc Cert.DecodeRefIdeal.main_arg0) = m ((c.tc : Thread Cert.DecodeIdeal.nD Cert.DecodeIdeal.τ).loc Cert.DecodeIdeal.main_arg0)
      ∧ m' ((c.tc : Thread Cert.DecodeRefIdeal.nD Cert.DecodeRefIdeal.τ).loc Cert.DecodeRefIdeal.main_arg1) = m ((c.tc : Thread Cert.DecodeIdeal.nD Cert.DecodeIdeal.τ).loc Cert.DecodeIdeal.main_arg1)
      ∧ m' ((c.tc : Thread Cert.DecodeRefIdeal.nD Cert.DecodeRefIdeal.τ).loc Cert.DecodeRefIdeal.main_arg2) = m ((c.tc : Thread Cert.DecodeIdeal.nD Cert.DecodeIdeal.τ).loc Cert.DecodeIdeal.main_arg2)
      ∧ m' ((c.tc : Thread Cert.DecodeRefIdeal.nD Cert.DecodeRefIdeal.τ).loc Cert.DecodeRefIdeal.main_arg3) = m ((c.tc : Thread Cert.DecodeIdeal.nD Cert.DecodeIdeal.τ).loc Cert.DecodeIdeal.main_arg3)) →
    ∃ (v0 : (c : Dev Cert.DecodeIdeal.nD) → Buf (Elt Ideal) ((c.tc : Thread Cert.DecodeIdeal.nD Cert.DecodeIdeal.τ).loc Cert.DecodeIdeal.main_v0_0)) (v1 : (c : Dev Cert.DecodeIdeal.nD) → Buf (Elt Ideal) ((c.tc : Thread Cert.DecodeIdeal.nD Cert.DecodeIdeal.τ).loc Cert.DecodeIdeal.main_v0_1)) (v2 : (c : Dev Cert.DecodeIdeal.nD) → Buf (Elt Ideal) ((c.tc : Thread Cert.DecodeIdeal.nD Cert.DecodeIdeal.τ).loc Cert.DecodeIdeal.main_v0_2)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v0_0) = v0 c
          ∧ r.2.mem ((c.tc : Thread Cert.DecodeIdeal.nD Cert.DecodeIdeal.τ).loc Cert.DecodeIdeal.main_v0_1) = v1 c
          ∧ r.2.mem ((c.tc : Thread Cert.DecodeIdeal.nD Cert.DecodeIdeal.τ).loc Cert.DecodeIdeal.main_v0_2) = v2 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ θ_run (Cert.DecodeRefIdeal.defs (F := Ideal)) (onTc (τ := Cert.DecodeRefIdeal.τ) (Cert.DecodeRefIdeal.main (F := Ideal))) ⟨m', fun _ => 0, g'⟩ (fun r => ∀ c : Dev Cert.DecodeRefIdeal.nD,
          r.2.mem ((c.tc : Thread Cert.DecodeRefIdeal.nD Cert.DecodeRefIdeal.τ).loc Cert.DecodeRefIdeal.main_v13) = v0 c
          ∧ r.2.mem ((c.tc : Thread Cert.DecodeRefIdeal.nD Cert.DecodeRefIdeal.τ).loc Cert.DecodeRefIdeal.main_v15) = v1 c
          ∧ r.2.mem ((c.tc : Thread Cert.DecodeRefIdeal.nD Cert.DecodeRefIdeal.τ).loc Cert.DecodeRefIdeal.main_v9) = v2 c
          ∧ r.2.mem ((c.tc : Thread Cert.DecodeRefIdeal.nD Cert.DecodeRefIdeal.τ).loc Cert.DecodeRefIdeal.main_arg0) = m' ((c.tc : Thread Cert.DecodeRefIdeal.nD Cert.DecodeRefIdeal.τ).loc Cert.DecodeRefIdeal.main_arg0)
          ∧ r.2.mem ((c.tc : Thread Cert.DecodeRefIdeal.nD Cert.DecodeRefIdeal.τ).loc Cert.DecodeRefIdeal.main_arg1) = m' ((c.tc : Thread Cert.DecodeRefIdeal.nD Cert.DecodeRefIdeal.τ).loc Cert.DecodeRefIdeal.main_arg1)
          ∧ r.2.mem ((c.tc : Thread Cert.DecodeRefIdeal.nD Cert.DecodeRefIdeal.τ).loc Cert.DecodeRefIdeal.main_arg2) = m' ((c.tc : Thread Cert.DecodeRefIdeal.nD Cert.DecodeRefIdeal.τ).loc Cert.DecodeRefIdeal.main_arg2)
          ∧ r.2.mem ((c.tc : Thread Cert.DecodeRefIdeal.nD Cert.DecodeRefIdeal.τ).loc Cert.DecodeRefIdeal.main_arg3) = m' ((c.tc : Thread Cert.DecodeRefIdeal.nD Cert.DecodeRefIdeal.τ).loc Cert.DecodeRefIdeal.main_arg3))

def preserves_Nms_NmsIdeal : Prop :=
  True

def algebraic_NmsIdeal_NmsRefIdeal [hNmsIdeal : Cert.NmsIdeal.Facts] [hNmsRefIdeal : Cert.NmsRefIdeal.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsRefIdeal.nD Cert.NmsRefIdeal.τ Cert.NmsRefIdeal.sig) → Buf (Elt Ideal) ℓ) (g' : Dev Cert.NmsRefIdeal.nD → PrngReg), Pre_NmsIdeal m →
    (∀ c : Dev Cert.NmsIdeal.nD,
      m' ((c.tc : Thread Cert.NmsRefIdeal.nD Cert.NmsRefIdeal.τ).loc Cert.NmsRefIdeal.main_arg0) = m ((c.tc : Thread Cert.NmsIdeal.nD Cert.NmsIdeal.τ).loc Cert.NmsIdeal.main_arg0)
      ∧ m' ((c.tc : Thread Cert.NmsRefIdeal.nD Cert.NmsRefIdeal.τ).loc Cert.NmsRefIdeal.main_arg1) = m ((c.tc : Thread Cert.NmsIdeal.nD Cert.NmsIdeal.τ).loc Cert.NmsIdeal.main_arg1)
      ∧ m' ((c.tc : Thread Cert.NmsRefIdeal.nD Cert.NmsRefIdeal.τ).loc Cert.NmsRefIdeal.main_arg2) = m ((c.tc : Thread Cert.NmsIdeal.nD Cert.NmsIdeal.τ).loc Cert.NmsIdeal.main_arg2)) →
    ∃ (v0 : (c : Dev Cert.NmsIdeal.nD) → Buf (Elt Ideal) ((c.tc : Thread Cert.NmsIdeal.nD Cert.NmsIdeal.τ).loc Cert.NmsIdeal.main_v11_0)) (v1 : (c : Dev Cert.NmsIdeal.nD) → Buf (Elt Ideal) ((c.tc : Thread Cert.NmsIdeal.nD Cert.NmsIdeal.τ).loc Cert.NmsIdeal.main_v11_1)) (v2 : (c : Dev Cert.NmsIdeal.nD) → Buf (Elt Ideal) ((c.tc : Thread Cert.NmsIdeal.nD Cert.NmsIdeal.τ).loc Cert.NmsIdeal.main_v11_2)) (v3 : (c : Dev Cert.NmsIdeal.nD) → Buf (Elt Ideal) ((c.tc : Thread Cert.NmsIdeal.nD Cert.NmsIdeal.τ).loc Cert.NmsIdeal.main_v11_3)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v11_0) = v0 c
          ∧ r.2.mem ((c.tc : Thread Cert.NmsIdeal.nD Cert.NmsIdeal.τ).loc Cert.NmsIdeal.main_v11_1) = v1 c
          ∧ r.2.mem ((c.tc : Thread Cert.NmsIdeal.nD Cert.NmsIdeal.τ).loc Cert.NmsIdeal.main_v11_2) = v2 c
          ∧ r.2.mem ((c.tc : Thread Cert.NmsIdeal.nD Cert.NmsIdeal.τ).loc Cert.NmsIdeal.main_v11_3) = v3 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
          ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2))
      ∧ θ_run (Cert.NmsRefIdeal.defs (F := Ideal)) (onTc (τ := Cert.NmsRefIdeal.τ) (Cert.NmsRefIdeal.main (F := Ideal))) ⟨m', fun _ => 0, g'⟩ (fun r => ∀ c : Dev Cert.NmsRefIdeal.nD,
          r.2.mem ((c.tc : Thread Cert.NmsRefIdeal.nD Cert.NmsRefIdeal.τ).loc Cert.NmsRefIdeal.main_v71) = v0 c
          ∧ r.2.mem ((c.tc : Thread Cert.NmsRefIdeal.nD Cert.NmsRefIdeal.τ).loc Cert.NmsRefIdeal.main_v73) = v1 c
          ∧ r.2.mem ((c.tc : Thread Cert.NmsRefIdeal.nD Cert.NmsRefIdeal.τ).loc Cert.NmsRefIdeal.main_v75) = v2 c
          ∧ r.2.mem ((c.tc : Thread Cert.NmsRefIdeal.nD Cert.NmsRefIdeal.τ).loc Cert.NmsRefIdeal.main_v62) = v3 c
          ∧ r.2.mem ((c.tc : Thread Cert.NmsRefIdeal.nD Cert.NmsRefIdeal.τ).loc Cert.NmsRefIdeal.main_arg0) = m' ((c.tc : Thread Cert.NmsRefIdeal.nD Cert.NmsRefIdeal.τ).loc Cert.NmsRefIdeal.main_arg0)
          ∧ r.2.mem ((c.tc : Thread Cert.NmsRefIdeal.nD Cert.NmsRefIdeal.τ).loc Cert.NmsRefIdeal.main_arg1) = m' ((c.tc : Thread Cert.NmsRefIdeal.nD Cert.NmsRefIdeal.τ).loc Cert.NmsRefIdeal.main_arg1)
          ∧ r.2.mem ((c.tc : Thread Cert.NmsRefIdeal.nD Cert.NmsRefIdeal.τ).loc Cert.NmsRefIdeal.main_arg2) = m' ((c.tc : Thread Cert.NmsRefIdeal.nD Cert.NmsRefIdeal.τ).loc Cert.NmsRefIdeal.main_arg2))

def Claim : Prop :=
  ∃ (hMasks : Cert.Masks.Facts) (hMasksIdeal : Cert.MasksIdeal.Facts) (hMasksRefIdeal : Cert.MasksRefIdeal.Facts) (hDecode : Cert.Decode.Facts) (hDecodeIdeal : Cert.DecodeIdeal.Facts) (hDecodeRef : Cert.DecodeRef.Facts) (hDecodeRefIdeal : Cert.DecodeRefIdeal.Facts) (hNms : Cert.Nms.Facts) (hNmsIdeal : Cert.NmsIdeal.Facts) (hNmsRef : Cert.NmsRef.Facts) (hNmsRefIdeal : Cert.NmsRefIdeal.Facts) (hPre_in_range : Cert.Pre_in_range.Facts),
    quiescent_Masks (hMasks := hMasks) (hPre_in_range := hPre_in_range)
    ∧ quiescent_MasksIdeal (hMasksIdeal := hMasksIdeal) (hPre_in_range := hPre_in_range)
    ∧ quiescent_MasksRefIdeal (hMasksRefIdeal := hMasksRefIdeal)
    ∧ quiescent_MasksRefIdeal_pre_in_range (hMasksRefIdeal := hMasksRefIdeal) (hPre_in_range := hPre_in_range)
    ∧ quiescent_Decode (hDecode := hDecode)
    ∧ quiescent_DecodeIdeal (hDecodeIdeal := hDecodeIdeal)
    ∧ quiescent_DecodeRef (hDecodeRef := hDecodeRef)
    ∧ quiescent_DecodeRefIdeal (hDecodeRefIdeal := hDecodeRefIdeal)
    ∧ quiescent_Nms (hNms := hNms)
    ∧ quiescent_NmsIdeal (hNmsIdeal := hNmsIdeal)
    ∧ quiescent_NmsRef (hNmsRef := hNmsRef)
    ∧ quiescent_NmsRefIdeal (hNmsRefIdeal := hNmsRefIdeal)
    ∧ preserves_Masks_MasksIdeal
    ∧ algebraic_MasksIdeal_MasksRefIdeal (hMasksIdeal := hMasksIdeal) (hMasksRefIdeal := hMasksRefIdeal) (hPre_in_range := hPre_in_range)
    ∧ preserves_Decode_DecodeIdeal
    ∧ algebraic_DecodeIdeal_DecodeRefIdeal (hDecodeIdeal := hDecodeIdeal) (hDecodeRefIdeal := hDecodeRefIdeal)
    ∧ preserves_Nms_NmsIdeal
    ∧ algebraic_NmsIdeal_NmsRefIdeal (hNmsIdeal := hNmsIdeal) (hNmsRefIdeal := hNmsRefIdeal)
-- ==== Pre_in_range.lean ====
abbrev S4x5000x169 : Shape := ⟨3, ![4, 5000, 169]⟩
abbrev S4x64x64x8 : Shape := ⟨4, ![4, 64, 64, 8]⟩
abbrev S4x1000 : Shape := ⟨2, ![4, 1000]⟩
abbrev S4x1 : Shape := ⟨2, ![4, 1]⟩
abbrev S_ : Shape := ⟨0, ![]⟩

class Facts : Prop where
  bcast_S_S4x1000 : S_.BroadcastsInDim S4x1000 (![] : Fin 0 → Fin S4x1000.rank)
  reducesTo_S4x1000_S_d0_1 : S4x1000.ReducesTo [0, 1] S_
  h_S_ : 0 < S_.numel

variable [Facts]

def fn {F : FTy → Type} [FloatOps F] (main_arg0 : FVec F S4x5000x169 .f32) (main_arg1 : FVec F S4x64x64x8 .f32) (main_arg2 : IVec S4x1000 32) (main_arg3 : IVec S4x1 32) : IVec S_ 1 :=
  let main_c : IVec S_ 32 := constantI S_ 32 0#32
  let main_v0 : IVec S4x1000 32 := broadcastInDim S4x1000 ![] bcast_S_S4x1000 main_c
  let main_v1 : IVec S4x1000 1 := cmpi .sge main_arg2 main_v0
  let main_c_0 : IVec S_ 32 := constantI S_ 32 5000#32
  let main_v2 : IVec S4x1000 32 := broadcastInDim S4x1000 ![] bcast_S_S4x1000 main_c_0
  let main_v3 : IVec S4x1000 1 := cmpi .slt main_arg2 main_v2
  let main_v4 : IVec S4x1000 1 := andi main_v1 main_v3
  let main_c_1 : IVec S_ 1 := constantI S_ 1 1#1
  let main_v5 : IVec S_ 1 := (fun x v => Host.reduce IntOp.andi x v reducesTo_S4x1000_S_d0_1 h_S_) main_v4 main_c_1
  main_v5
-- ==== Masks.lean ====
abbrev S4x5000x169 : Shape := ⟨3, ![4, 5000, 169]⟩
abbrev S4x64x64x8 : Shape := ⟨4, ![4, 64, 64, 8]⟩
abbrev S4x1000 : Shape := ⟨2, ![4, 1000]⟩
abbrev S4x1 : Shape := ⟨2, ![4, 1]⟩
abbrev S4x1x1000 : Shape := ⟨3, ![4, 1, 1000]⟩
abbrev S4x8x64x64 : Shape := ⟨4, ![4, 8, 64, 64]⟩
abbrev S4x8x4096 : Shape := ⟨3, ![4, 8, 4096]⟩
abbrev S64 : Shape := ⟨1, ![64]⟩
abbrev S_ : Shape := ⟨0, ![]⟩
abbrev S1x64 : Shape := ⟨2, ![1, 64]⟩
abbrev S64x64 : Shape := ⟨2, ![64, 64]⟩
abbrev S4096 : Shape := ⟨1, ![4096]⟩
abbrev S1x1x4096 : Shape := ⟨3, ![1, 1, 4096]⟩
abbrev S1x22x4096 : Shape := ⟨3, ![1, 22, 4096]⟩
abbrev S4x1x4096 : Shape := ⟨3, ![4, 1, 4096]⟩
abbrev S4x22x4096 : Shape := ⟨3, ![4, 22, 4096]⟩
abbrev S4x32x4096 : Shape := ⟨3, ![4, 32, 4096]⟩
abbrev S512 : Shape := ⟨1, ![512]⟩
abbrev S512x1 : Shape := ⟨2, ![512, 1]⟩
abbrev S512x64 : Shape := ⟨2, ![512, 64]⟩
abbrev S64x512 : Shape := ⟨2, ![64, 512]⟩
abbrev S4x100x512x512 : Shape := ⟨4, ![4, 100, 512, 512]⟩
abbrev S1x5000x169 : Shape := ⟨3, ![1, 5000, 169]⟩
abbrev S1x32x4096 : Shape := ⟨3, ![1, 32, 4096]⟩
abbrev S1x1x1000 : Shape := ⟨3, ![1, 1, 1000]⟩
abbrev S1x10x512x512 : Shape := ⟨4, ![1, 10, 512, 512]⟩
abbrev S32x4096 : Shape := ⟨2, ![32, 4096]⟩
abbrev S1x1 : Shape := ⟨2, ![1, 1]⟩
abbrev S1x1x1 : Shape := ⟨3, ![1, 1, 1]⟩
abbrev S1x1x169 : Shape := ⟨3, ![1, 1, 169]⟩
abbrev S1x169 : Shape := ⟨2, ![1, 169]⟩
abbrev S1x10 : Shape := ⟨2, ![1, 10]⟩
abbrev S1x21 : Shape := ⟨2, ![1, 21]⟩
abbrev S1x32 : Shape := ⟨2, ![1, 32]⟩
abbrev S80x32 : Shape := ⟨2, ![80, 32]⟩
abbrev S32x1 : Shape := ⟨2, ![32, 1]⟩
abbrev S80x1 : Shape := ⟨2, ![80, 1]⟩
abbrev S80x4096 : Shape := ⟨2, ![80, 4096]⟩
abbrev S16x1 : Shape := ⟨2, ![16, 1]⟩
abbrev S1x8 : Shape := ⟨2, ![1, 8]⟩
abbrev S1x7 : Shape := ⟨2, ![1, 7]⟩
abbrev S1x16 : Shape := ⟨2, ![1, 16]⟩
abbrev S8x16 : Shape := ⟨2, ![8, 16]⟩
abbrev S8x1 : Shape := ⟨2, ![8, 1]⟩
abbrev S8x4096 : Shape := ⟨2, ![8, 4096]⟩
abbrev S16x4096 : Shape := ⟨2, ![16, 4096]⟩
abbrev S1x9 : Shape := ⟨2, ![1, 9]⟩
abbrev S1x4096 : Shape := ⟨2, ![1, 4096]⟩
abbrev S9x4096 : Shape := ⟨2, ![9, 4096]⟩
abbrev S1x1x64x512 : Shape := ⟨4, ![1, 1, 64, 512]⟩

abbrev nBuf : Space → Nat
  | .hbm => 98
  | .vmem => 9
  | .smem => 3
  | _ => 0

abbrev bufTy : (tb : Table) → Fin (tcTables nBuf tb) → BufTy
  | .hbm, ⟨0, _⟩ => ⟨S4x5000x169, .f32⟩
  | .hbm, ⟨1, _⟩ => ⟨S4x64x64x8, .f32⟩
  | .hbm, ⟨2, _⟩ => ⟨S4x1000, .i32⟩
  | .hbm, ⟨3, _⟩ => ⟨S4x1, .i32⟩
  | .hbm, ⟨4, _⟩ => ⟨S4x1x1000, .i32⟩
  | .hbm, ⟨5, _⟩ => ⟨S4x8x64x64, .f32⟩
  | .hbm, ⟨6, _⟩ => ⟨S4x8x4096, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S64x64, .f32⟩
  | .hbm, ⟨29, _⟩ => ⟨S4096, .f32⟩
  | .hbm, ⟨30, _⟩ => ⟨S1x1x4096, .f32⟩
  | .hbm, ⟨31, _⟩ => ⟨S64x64, .f32⟩
  | .hbm, ⟨32, _⟩ => ⟨S4096, .f32⟩
  | .hbm, ⟨33, _⟩ => ⟨S1x1x4096, .f32⟩
  | .hbm, ⟨34, _⟩ => ⟨S_, .f32⟩
  | .hbm, ⟨35, _⟩ => ⟨S1x22x4096, .f32⟩
  | .hbm, ⟨36, _⟩ => ⟨S4x1x4096, .f32⟩
  | .hbm, ⟨37, _⟩ => ⟨S4x1x4096, .f32⟩
  | .hbm, ⟨38, _⟩ => ⟨S4x22x4096, .f32⟩
  | .hbm, ⟨39, _⟩ => ⟨S4x32x4096, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S64, .f32⟩
  | .hbm, ⟨64, _⟩ => ⟨S1x64, .f32⟩
  | .hbm, ⟨65, _⟩ => ⟨S512x1, .f32⟩
  | .hbm, ⟨66, _⟩ => ⟨S512x64, .f32⟩
  | .hbm, ⟨67, _⟩ => ⟨S512x64, .f32⟩
  | .hbm, ⟨68, _⟩ => ⟨S512x64, .i1⟩
  | .hbm, ⟨69, _⟩ => ⟨S512x1, .f32⟩
  | .hbm, ⟨70, _⟩ => ⟨S_, .f32⟩
  | .hbm, ⟨71, _⟩ => ⟨S512x1, .f32⟩
  | .hbm, ⟨72, _⟩ => ⟨S512x1, .f32⟩
  | .hbm, ⟨73, _⟩ => ⟨S_, .f32⟩
  | .hbm, ⟨74, _⟩ => ⟨S_, .f32⟩
  | .hbm, ⟨75, _⟩ => ⟨S512x64, .f32⟩
  | .hbm, ⟨76, _⟩ => ⟨S512x64, .f32⟩
  | .hbm, ⟨77, _⟩ => ⟨S512x64, .f32⟩
  | .hbm, ⟨78, _⟩ => ⟨S512x1, .f32⟩
  | .hbm, ⟨79, _⟩ => ⟨S_, .f32⟩
  | .hbm, ⟨80, _⟩ => ⟨S512x1, .f32⟩
  | .hbm, ⟨81, _⟩ => ⟨S512x1, .f32⟩
  | .hbm, ⟨82, _⟩ => ⟨S512x64, .f32⟩
  | .hbm, ⟨83, _⟩ => ⟨S512x64, .f32⟩
  | .hbm, ⟨84, _⟩ => ⟨S512x64, .i1⟩
  | .hbm, ⟨85, _⟩ => ⟨S512x1, .f32⟩
  | .hbm, ⟨86, _⟩ => ⟨S_, .f32⟩
  | .hbm, ⟨87, _⟩ => ⟨S_, .f32⟩
  | .hbm, ⟨88, _⟩ => ⟨S512x64, .f32⟩
  | .hbm, ⟨89, _⟩ => ⟨S512x64, .f32⟩
  | .hbm, ⟨90, _⟩ => ⟨S512x64, .f32⟩
  | .hbm, ⟨91, _⟩ => ⟨S512x64, .f32⟩
  | .hbm, ⟨92, _⟩ => ⟨S64x512, .f32⟩
  | .hbm, ⟨93, _⟩ => ⟨S4x100x512x512, .i32⟩
  | .hbm, ⟨94, _⟩ => ⟨S_, .i32⟩
  | .hbm, ⟨95, _⟩ => ⟨S4x100x512x512, .i32⟩
  | .hbm, ⟨96, _⟩ => ⟨S4x100x512x512, .i1⟩
  | .hbm, ⟨97, _⟩ => ⟨S4x100x512x512, .i1⟩
  | .local _ .vmem, ⟨0, _⟩ => ⟨S1x5000x169, .f32⟩
  | .local _ .vmem, ⟨1, _⟩ => ⟨S1x5000x169, .f32⟩
  | .local _ .vmem, ⟨2, _⟩ => ⟨S1x32x4096, .f32⟩
  | .local _ .vmem, ⟨3, _⟩ => ⟨S1x32x4096, .f32⟩
  | .local _ .vmem, ⟨4, _⟩ => ⟨S512x64, .f32⟩
  | .local _ .vmem, ⟨5, _⟩ => ⟨S64x512, .f32⟩
  | .local _ .vmem, ⟨6, _⟩ => ⟨S1x10x512x512, .i32⟩
  | .local _ .vmem, ⟨7, _⟩ => ⟨S1x10x512x512, .i32⟩
  | .local _ .vmem, ⟨8, _⟩ => ⟨S64x64, .f32⟩
  | .local _ .smem, ⟨0, _⟩ => ⟨S1x1x1000, .i32⟩
  | .local _ .smem, ⟨1, _⟩ => ⟨S1x1x1000, .i32⟩
  | .local _ .smem, ⟨2, _⟩ => ⟨S4x1, .i32⟩
  | _, _ => ⟨S4x5000x169, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_cst_10 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg4_0 : Ref sig .tc := ⟨.smem, 0, rfl⟩
abbrev cc0_stg4_1 : Ref sig .tc := ⟨.smem, 1, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 10], ![false, false]⟩

def k0_off1 (i : grid0.Coords) : Fin 2 → Nat :=
  let arg0 : BitVec 32 := BitVec.ofNat 32 (i 0).val
  let v2 : Index := Scalar.indexCast arg0
  let c0_2 : Index := 0#32
  ![v2.toNat, 0]
def k0_off2 (i : grid0.Coords) : Fin 3 → Nat :=
  let c0_3 : Index := 0#32
  let c0_4 : Index := 0#32
  let arg1 : BitVec 32 := BitVec.ofNat 32 (i 1).val
  let c10_i32 : BitVec 32 := 10#32
  let v4 : BitVec 32 := Scalar.muli arg1 c10_i32
  let c0_i32 : BitVec 32 := 0#32
  let v5 : BitVec 32 := Scalar.addi v4 c0_i32
  let v6 : Index := Scalar.indexCast v5
  ![0, 0, v6.toNat]
def k0_off3 (v7 : BitVec 32) : Fin 3 → Nat :=
  let c0_5 : Index := 0#32
  let v8 : Index := Scalar.indexCast v7
  let c0_6 : Index := 0#32
  ![0, v8.toNat, 0]

def k0_chk1 (v7 : BitVec 32) : Prop :=
  (∀ a, (k0_off3 v7) a + S1x1x169.size a ≤ S1x5000x169.size a)
theorem k0_off3_inb : ∀ (v7 : BitVec 32) (k0_hw1 : k0_chk1 v7), ∀ a, (k0_off3 v7) a + S1x1x169.size a ≤ S1x5000x169.size a := fun v7 k0_hw1 => k0_hw1

def k0_off4 (i : grid0.Coords) : Fin 3 → Nat :=
  let c0_14 : Index := 0#32
  let c0_15 : Index := 0#32
  let arg1 : BitVec 32 := BitVec.ofNat 32 (i 1).val
  let c10_i32 : BitVec 32 := 10#32
  let v4 : BitVec 32 := Scalar.muli arg1 c10_i32
  let c1_i32 : BitVec 32 := 1#32
  let v43 : BitVec 32 := Scalar.addi v4 c1_i32
  let v44 : Index := Scalar.indexCast v43
  ![0, 0, v44.toNat]
def k0_off5 (v45 : BitVec 32) : Fin 3 → Nat :=
  let c0_16 : Index := 0#32
  let v46 : Index := Scalar.indexCast v45
  let c0_17 : Index := 0#32
  ![0, v46.toNat, 0]

def k0_chk2 (v45 : BitVec 32) : Prop :=
  (∀ a, (k0_off5 v45) a + S1x1x169.size a ≤ S1x5000x169.size a)
theorem k0_off5_inb : ∀ (v45 : BitVec 32) (k0_hw2 : k0_chk2 v45), ∀ a, (k0_off5 v45) a + S1x1x169.size a ≤ S1x5000x169.size a := fun v45 k0_hw2 => k0_hw2

def k0_off6 (i : grid0.Coords) : Fin 3 → Nat :=
  let c0_26 : Index := 0#32
  let c0_27 : Index := 0#32
  let arg1 : BitVec 32 := BitVec.ofNat 32 (i 1).val
  let c10_i32 : BitVec 32 := 10#32
  let v4 : BitVec 32 := Scalar.muli arg1 c10_i32
  let c2_i32 : BitVec 32 := 2#32
  let v81 : BitVec 32 := Scalar.addi v4 c2_i32
  let v82 : Index := Scalar.indexCast v81
  ![0, 0, v82.toNat]
def k0_off7 (v83 : BitVec 32) : Fin 3 → Nat :=
  let c0_28 : Index := 0#32
  let v84 : Index := Scalar.indexCast v83
  let c0_29 : Index := 0#32
  ![0, v84.toNat, 0]

def k0_chk3 (v83 : BitVec 32) : Prop :=
  (∀ a, (k0_off7 v83) a + S1x1x169.size a ≤ S1x5000x169.size a)
theorem k0_off7_inb : ∀ (v83 : BitVec 32) (k0_hw3 : k0_chk3 v83), ∀ a, (k0_off7 v83) a + S1x1x169.size a ≤ S1x5000x169.size a := fun v83 k0_hw3 => k0_hw3

def k0_off8 (i : grid0.Coords) : Fin 3 → Nat :=
  let c0_38 : Index := 0#32
  let c0_39 : Index := 0#32
  let arg1 : BitVec 32 := BitVec.ofNat 32 (i 1).val
  let c10_i32 : BitVec 32 := 10#32
  let v4 : BitVec 32 := Scalar.muli arg1 c10_i32
  let c3_i32 : BitVec 32 := 3#32
  let v119 : BitVec 32 := Scalar.addi v4 c3_i32
  let v120 : Index := Scalar.indexCast v119
  ![0, 0, v120.toNat]
def k0_off9 (v121 : BitVec 32) : Fin 3 → Nat :=
  let c0_40 : Index := 0#32
  let v122 : Index := Scalar.indexCast v121
  let c0_41 : Index := 0#32
  ![0, v122.toNat, 0]

def k0_chk4 (v121 : BitVec 32) : Prop :=
  (∀ a, (k0_off9 v121) a + S1x1x169.size a ≤ S1x5000x169.size a)
theorem k0_off9_inb : ∀ (v121 : BitVec 32) (k0_hw4 : k0_chk4 v121), ∀ a, (k0_off9 v121) a + S1x1x169.size a ≤ S1x5000x169.size a := fun v121 k0_hw4 => k0_hw4

def k0_off10 (i : grid0.Coords) : Fin 3 → Nat :=
  let c0_50 : Index := 0#32
  let c0_51 : Index := 0#32
  let arg1 : BitVec 32 := BitVec.ofNat 32 (i 1).val
  let c10_i32 : BitVec 32 := 10#32
  let v4 : BitVec 32 := Scalar.muli arg1 c10_i32
  let c4_i32 : BitVec 32 := 4#32
  let v157 : BitVec 32 := Scalar.addi v4 c4_i32
  let v158 : Index := Scalar.indexCast v157
  ![0, 0, v158.toNat]
def k0_off11 (v159 : BitVec 32) : Fin 3 → Nat :=
  let c0_52 : Index := 0#32
  let v160 : Index := Scalar.indexCast v159
  let c0_53 : Index := 0#32
  ![0, v160.toNat, 0]

def k0_chk5 (v159 : BitVec 32) : Prop :=
  (∀ a, (k0_off11 v159) a + S1x1x169.size a ≤ S1x5000x169.size a)
theorem k0_off11_inb : ∀ (v159 : BitVec 32) (k0_hw5 : k0_chk5 v159), ∀ a, (k0_off11 v159) a + S1x1x169.size a ≤ S1x5000x169.size a := fun v159 k0_hw5 => k0_hw5

def k0_off12 (i : grid0.Coords) : Fin 3 → Nat :=
  let c0_62 : Index := 0#32
  let c0_63 : Index := 0#32
  let arg1 : BitVec 32 := BitVec.ofNat 32 (i 1).val
  let c10_i32 : BitVec 32 := 10#32
  let v4 : BitVec 32 := Scalar.muli arg1 c10_i32
  let c5_i32 : BitVec 32 := 5#32
  let v195 : BitVec 32 := Scalar.addi v4 c5_i32
  let v196 : Index := Scalar.indexCast v195
  ![0, 0, v196.toNat]
def k0_off13 (v197 : BitVec 32) : Fin 3 → Nat :=
  let c0_64 : Index := 0#32
  let v198 : Index := Scalar.indexCast v197
  let c0_65 : Index := 0#32
  ![0, v198.toNat, 0]

def k0_chk6 (v197 : BitVec 32) : Prop :=
  (∀ a, (k0_off13 v197) a + S1x1x169.size a ≤ S1x5000x169.size a)
theorem k0_off13_inb : ∀ (v197 : BitVec 32) (k0_hw6 : k0_chk6 v197), ∀ a, (k0_off13 v197) a + S1x1x169.size a ≤ S1x5000x169.size a := fun v197 k0_hw6 => k0_hw6

def k0_off14 (i : grid0.Coords) : Fin 3 → Nat :=
  let c0_74 : Index := 0#32
  let c0_75 : Index := 0#32
  let arg1 : BitVec 32 := BitVec.ofNat 32 (i 1).val
  let c10_i32 : BitVec 32 := 10#32
  let v4 : BitVec 32 := Scalar.muli arg1 c10_i32
  let c6_i32 : BitVec 32 := 6#32
  let v233 : BitVec 32 := Scalar.addi v4 c6_i32
  let v234 : Index := Scalar.indexCast v233
  ![0, 0, v234.toNat]
def k0_off15 (v235 : BitVec 32) : Fin 3 → Nat :=
  let c0_76 : Index := 0#32
  let v236 : Index := Scalar.indexCast v235
  let c0_77 : Index := 0#32
  ![0, v236.toNat, 0]

def k0_chk7 (v235 : BitVec 32) : Prop :=
  (∀ a, (k0_off15 v235) a + S1x1x169.size a ≤ S1x5000x169.size a)
theorem k0_off15_inb : ∀ (v235 : BitVec 32) (k0_hw7 : k0_chk7 v235), ∀ a, (k0_off15 v235) a + S1x1x169.size a ≤ S1x5000x169.size a := fun v235 k0_hw7 => k0_hw7

def k0_off16 (i : grid0.Coords) : Fin 3 → Nat :=
  let c0_86 : Index := 0#32
  let c0_87 : Index := 0#32
  let arg1 : BitVec 32 := BitVec.ofNat 32 (i 1).val
  let c10_i32 : BitVec 32 := 10#32
  let v4 : BitVec 32 := Scalar.muli arg1 c10_i32
  let c7_i32 : BitVec 32 := 7#32
  let v271 : BitVec 32 := Scalar.addi v4 c7_i32
  let v272 : Index := Scalar.indexCast v271
  ![0, 0, v272.toNat]
def k0_off17 (v273 : BitVec 32) : Fin 3 → Nat :=
  let c0_88 : Index := 0#32
  let v274 : Index := Scalar.indexCast v273
  let c0_89 : Index := 0#32
  ![0, v274.toNat, 0]

def k0_chk8 (v273 : BitVec 32) : Prop :=
  (∀ a, (k0_off17 v273) a + S1x1x169.size a ≤ S1x5000x169.size a)
theorem k0_off17_inb : ∀ (v273 : BitVec 32) (k0_hw8 : k0_chk8 v273), ∀ a, (k0_off17 v273) a + S1x1x169.size a ≤ S1x5000x169.size a := fun v273 k0_hw8 => k0_hw8

def k0_off18 (i : grid0.Coords) : Fin 3 → Nat :=
  let c0_98 : Index := 0#32
  let c0_99 : Index := 0#32
  let arg1 : BitVec 32 := BitVec.ofNat 32 (i 1).val
  let c10_i32 : BitVec 32 := 10#32
  let v4 : BitVec 32 := Scalar.muli arg1 c10_i32
  let c8_i32 : BitVec 32 := 8#32
  let v309 : BitVec 32 := Scalar.addi v4 c8_i32
  let v310 : Index := Scalar.indexCast v309
  ![0, 0, v310.toNat]
def k0_off19 (v311 : BitVec 32) : Fin 3 → Nat :=
  let c0_100 : Index := 0#32
  let v312 : Index := Scalar.indexCast v311
  let c0_101 : Index := 0#32
  ![0, v312.toNat, 0]

def k0_chk9 (v311 : BitVec 32) : Prop :=
  (∀ a, (k0_off19 v311) a + S1x1x169.size a ≤ S1x5000x169.size a)
theorem k0_off19_inb : ∀ (v311 : BitVec 32) (k0_hw9 : k0_chk9 v311), ∀ a, (k0_off19 v311) a + S1x1x169.size a ≤ S1x5000x169.size a := fun v311 k0_hw9 => k0_hw9

def k0_off20 (i : grid0.Coords) : Fin 3 → Nat :=
  let c0_110 : Index := 0#32
  let c0_111 : Index := 0#32
  let arg1 : BitVec 32 := BitVec.ofNat 32 (i 1).val
  let c10_i32 : BitVec 32 := 10#32
  let v4 : BitVec 32 := Scalar.muli arg1 c10_i32
  let c9_i32 : BitVec 32 := 9#32
  let v347 : BitVec 32 := Scalar.addi v4 c9_i32
  let v348 : Index := Scalar.indexCast v347
  ![0, 0, v348.toNat]
def k0_off21 (v349 : BitVec 32) : Fin 3 → Nat :=
  let c0_112 : Index := 0#32
  let v350 : Index := Scalar.indexCast v349
  let c0_113 : Index := 0#32
  ![0, v350.toNat, 0]

def k0_chk10 (v349 : BitVec 32) : Prop :=
  (∀ a, (k0_off21 v349) a + S1x1x169.size a ≤ S1x5000x169.size a)
theorem k0_off21_inb : ∀ (v349 : BitVec 32) (k0_hw10 : k0_chk10 v349), ∀ a, (k0_off21 v349) a + S1x1x169.size a ≤ S1x5000x169.size a := fun v349 k0_hw10 => k0_hw10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x5000x169 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .smem S1x1x1000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S4x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x10x512x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MasksRefIdeal.lean ====
abbrev S4x5000x169 : Shape := ⟨3, ![4, 5000, 169]⟩
abbrev S4x64x64x8 : Shape := ⟨4, ![4, 64, 64, 8]⟩
abbrev S4x1000 : Shape := ⟨2, ![4, 1000]⟩
abbrev S4x1 : Shape := ⟨2, ![4, 1]⟩
abbrev S4x100 : Shape := ⟨2, ![4, 100]⟩
abbrev S4x100x1 : Shape := ⟨3, ![4, 100, 1]⟩
abbrev S_ : Shape := ⟨0, ![]⟩
abbrev S1 : Shape := ⟨1, ![1]⟩
abbrev S1x1x1 : Shape := ⟨3, ![1, 1, 1]⟩
abbrev S4x100x169 : Shape := ⟨3, ![4, 100, 169]⟩
abbrev S100 : Shape := ⟨1, ![100]⟩
abbrev S1x100 : Shape := ⟨2, ![1, 100]⟩
abbrev S64 : Shape := ⟨1, ![64]⟩
abbrev S1x1x64x1 : Shape := ⟨4, ![1, 1, 64, 1]⟩
abbrev S4x64x64x1 : Shape := ⟨4, ![4, 64, 64, 1]⟩
abbrev S1x64x1x1 : Shape := ⟨4, ![1, 64, 1, 1]⟩
abbrev S4x64x64x10 : Shape := ⟨4, ![4, 64, 64, 10]⟩
abbrev S4x4096x10 : Shape := ⟨3, ![4, 4096, 10]⟩
abbrev S4x100x80 : Shape := ⟨3, ![4, 100, 80]⟩
abbrev S4x100x8x10 : Shape := ⟨4, ![4, 100, 8, 10]⟩
abbrev S4x100x8 : Shape := ⟨3, ![4, 100, 8]⟩
abbrev S4x100x64 : Shape := ⟨3, ![4, 100, 64]⟩
abbrev S4x100x8x8 : Shape := ⟨4, ![4, 100, 8, 8]⟩
abbrev S4x100x8x4096 : Shape := ⟨4, ![4, 100, 8, 4096]⟩
abbrev S4x100x4096x8 : Shape := ⟨4, ![4, 100, 4096, 8]⟩
abbrev S4x100x1x8 : Shape := ⟨4, ![4, 100, 1, 8]⟩
abbrev S4x100x4096 : Shape := ⟨3, ![4, 100, 4096]⟩
abbrev S4x100x64x64 : Shape := ⟨4, ![4, 100, 64, 64]⟩
abbrev S512 : Shape := ⟨1, ![512]⟩
abbrev S1x512 : Shape := ⟨2, ![1, 512]⟩
abbrev S64x1 : Shape := ⟨2, ![64, 1]⟩
abbrev S64x512 : Shape := ⟨2, ![64, 512]⟩
abbrev S512x4x100x64 : Shape := ⟨4, ![512, 4, 100, 64]⟩
abbrev S4x100x512x64 : Shape := ⟨4, ![4, 100, 512, 64]⟩
abbrev S4x100x512x512 : Shape := ⟨4, ![4, 100, 512, 512]⟩
abbrev S4x100x1x1 : Shape := ⟨4, ![4, 100, 1, 1]⟩

abbrev nBuf : Space → Nat
  | .hbm => 231
  | .vmem => 0
  | .smem => 0
  | _ => 0

abbrev hbmTy0_0 (i : Nat) : BufTy := match i % 128 with
  | 0 => ⟨S4x5000x169, .f32⟩
  | 1 => ⟨S4x64x64x8, .f32⟩
  | 2 => ⟨S4x1000, .i32⟩
  | 3 => ⟨S4x1, .i32⟩
  | 4 => ⟨S4x100, .i32⟩
  | 5 => ⟨S4x100x1, .i32⟩
  | 6 => ⟨S_, .i32⟩
  | 7 => ⟨S4x100x1, .i32⟩
  | 8 => ⟨S4x100x1, .i1⟩
  | 9 => ⟨S_, .i32⟩
  | 10 => ⟨S4x100x1, .i32⟩
  | 11 => ⟨S4x100x1, .i32⟩
  | 12 => ⟨S4x100x1, .i32⟩
  | 13 => ⟨S1, .i32⟩
  | 14 => ⟨S_, .i32⟩
  | 15 => ⟨S4x100x1, .i32⟩
  | 16 => ⟨S4x100x1, .i1⟩
  | 17 => ⟨S1x1x1, .i32⟩
  | 18 => ⟨S4x100x1, .i32⟩
  | 19 => ⟨S4x100x1, .i1⟩
  | 20 => ⟨S4x100x1, .i1⟩
  | 21 => ⟨S_, .i1⟩
  | 22 => ⟨S4x100, .i1⟩
  | 23 => ⟨S4x100x169, .f32⟩
  | 24 => ⟨S4x100x169, .i1⟩
  | 25 => ⟨S_, .f32⟩
  | 26 => ⟨S4x100x169, .f32⟩
  | 27 => ⟨S4x100x169, .f32⟩
  | 28 => ⟨S100, .i32⟩
  | 29 => ⟨S1x100, .i32⟩
  | 30 => ⟨S4x100, .i32⟩
  | 31 => ⟨S4x100, .i32⟩
  | 32 => ⟨S4x100, .i1⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S1x1x64x1, .f32⟩
  | 54 => ⟨S4x64x64x1, .f32⟩
  | 55 => ⟨S1x64x1x1, .f32⟩
  | 56 => ⟨S4x64x64x1, .f32⟩
  | 57 => ⟨S4x64x64x10, .f32⟩
  | 58 => ⟨S4x4096x10, .f32⟩
  | 59 => ⟨S4x100x80, .f32⟩
  | 60 => ⟨S4x100x8x10, .f32⟩
  | 61 => ⟨S4x100x8, .f32⟩
  | 62 => ⟨S4x100x64, .f32⟩
  | 63 => ⟨S4x100x8x8, .f32⟩
  | 64 => ⟨S4x100x8, .f32⟩
  | 65 => ⟨S4x100x8, .f32⟩
  | 66 => ⟨S4x100x1, .f32⟩
  | 67 => ⟨S4x100x8x4096, .f32⟩
  | 68 => ⟨S4x100x4096x8, .f32⟩
  | 69 => ⟨S4x100x1x8, .f32⟩
  | 70 => ⟨S4x100x4096x8, .f32⟩
  | 71 => ⟨S4x100x4096x8, .f32⟩
  | 72 => ⟨S_, .f32⟩
  | 73 => ⟨S4x100x4096x8, .f32⟩
  | 74 => ⟨S4x100x4096x8, .f32⟩
  | 75 => ⟨S4x100x4096x8, .f32⟩
  | 76 => ⟨S4x100x1x8, .f32⟩
  | 77 => ⟨S4x100x4096x8, .f32⟩
  | 78 => ⟨S4x100x4096x8, .f32⟩
  | 79 => ⟨S_, .f32⟩
  | 80 => ⟨S4x100x4096x8, .f32⟩
  | 81 => ⟨S4x100x4096x8, .f32⟩
  | 82 => ⟨S4x100x4096, .f32⟩
  | 83 => ⟨S4x100x4096, .f32⟩
  | 84 => ⟨S4x100x4096, .f32⟩
  | 85 => ⟨S4x100x4096, .f32⟩
  | 86 => ⟨S4x100x4096, .f32⟩
  | 87 => ⟨S_, .f32⟩
  | 88 => ⟨S4x100x4096, .f32⟩
  | 89 => ⟨S4x100x4096, .f32⟩
  | 90 => ⟨S_, .f32⟩
  | 91 => ⟨S4x100x4096, .f32⟩
  | 92 => ⟨S4x100x4096, .f32⟩
  | 93 => ⟨S4x100x64x64, .f32⟩
  | 94 => ⟨S512, .f32⟩
  | 95 => ⟨S_, .f32⟩
  | 96 => ⟨S512, .f32⟩
  | 97 => ⟨S512, .f32⟩
  | 98 => ⟨S_, .f32⟩
  | 99 => ⟨S512, .f32⟩
  | 100 => ⟨S512, .f32⟩
  | 101 => ⟨S_, .f32⟩
  | 102 => ⟨S512, .f32⟩
  | 103 => ⟨S512, .f32⟩
  | 104 => ⟨S_, .f32⟩
  | 105 => ⟨S512, .f32⟩
  | 106 => ⟨S512, .f32⟩
  | 107 => ⟨S64, .f32⟩
  | 108 => ⟨S1x512, .f32⟩
  | 109 => ⟨S64x1, .f32⟩
  | 110 => ⟨S64x512, .f32⟩
  | 111 => ⟨S64x512, .f32⟩
  | 112 => ⟨S64x512, .f32⟩
  | 113 => ⟨S64x512, .f32⟩
  | 114 => ⟨S_, .f32⟩
  | 115 => ⟨S64x512, .f32⟩
  | 116 => ⟨S64x512, .f32⟩
  | 117 => ⟨S64x512, .f32⟩
  | 118 => ⟨S_, .f32⟩
  | 119 => ⟨S64x512, .f32⟩
  | 120 => ⟨S64x512, .f32⟩
  | 121 => ⟨S_, .f32⟩
  | 122 => ⟨S64x512, .f32⟩
  | 123 => ⟨S64x512, .f32⟩
  | 124 => ⟨S_, .f32⟩
  | 125 => ⟨S512, .f32⟩
  | 126 => ⟨S1x512, .f32⟩
  | 127 => ⟨S1x512, .f32⟩
  | _ => ⟨S4x5000x169, .f32⟩

abbrev hbmTy0_1 (i : Nat) : BufTy := match i % 128 with
  | 0 => ⟨S_, .f32⟩
  | 1 => ⟨S1x512, .f32⟩
  | 2 => ⟨S1x512, .i1⟩
  | 3 => ⟨S_, .f32⟩
  | 4 => ⟨S1x512, .f32⟩
  | 5 => ⟨S1x512, .i1⟩
  | 6 => ⟨S_, .i32⟩
  | 7 => ⟨S_, .f32⟩
  | 8 => ⟨S1x512, .f32⟩
  | 9 => ⟨S1x512, .f32⟩
  | 10 => ⟨S64x512, .f32⟩
  | 11 => ⟨S64x512, .f32⟩
  | 12 => ⟨S_, .i32⟩
  | 13 => ⟨S_, .f32⟩
  | 14 => ⟨S64x512, .i1⟩
  | 15 => ⟨S64x512, .f32⟩
  | 16 => ⟨S64x512, .f32⟩
  | 17 => ⟨S_, .f32⟩
  | 18 => ⟨S512, .f32⟩
  | 19 => ⟨S512, .i1⟩
  | 20 => ⟨S_, .f32⟩
  | 21 => ⟨S512, .f32⟩
  | 22 => ⟨S512, .i1⟩
  | 23 => ⟨S512, .i1⟩
  | 24 => ⟨S1x512, .i1⟩
  | 25 => ⟨S_, .i32⟩
  | 26 => ⟨S_, .f32⟩
  | 27 => ⟨S64x512, .i1⟩
  | 28 => ⟨S64x512, .f32⟩
  | 29 => ⟨S64x512, .f32⟩
  | 30 => ⟨S512x4x100x64, .f32⟩
  | 31 => ⟨S4x100x512x64, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S64, .f32⟩
  | 46 => ⟨S1x512, .f32⟩
  | 47 => ⟨S64x1, .f32⟩
  | 48 => ⟨S64x512, .f32⟩
  | 49 => ⟨S64x512, .f32⟩
  | 50 => ⟨S64x512, .f32⟩
  | 51 => ⟨S64x512, .f32⟩
  | 52 => ⟨S_, .f32⟩
  | 53 => ⟨S64x512, .f32⟩
  | 54 => ⟨S64x512, .f32⟩
  | 55 => ⟨S64x512, .f32⟩
  | 56 => ⟨S_, .f32⟩
  | 57 => ⟨S64x512, .f32⟩
  | 58 => ⟨S64x512, .f32⟩
  | 59 => ⟨S_, .f32⟩
  | 60 => ⟨S64x512, .f32⟩
  | 61 => ⟨S64x512, .f32⟩
  | 62 => ⟨S_, .f32⟩
  | 63 => ⟨S512, .f32⟩
  | 64 => ⟨S1x512, .f32⟩
  | 65 => ⟨S1x512, .f32⟩
  | 66 => ⟨S_, .f32⟩
  | 67 => ⟨S1x512, .f32⟩
  | 68 => ⟨S1x512, .i1⟩
  | 69 => ⟨S_, .f32⟩
  | 70 => ⟨S1x512, .f32⟩
  | 71 => ⟨S1x512, .i1⟩
  | 72 => ⟨S_, .i32⟩
  | 73 => ⟨S_, .f32⟩
  | 74 => ⟨S1x512, .f32⟩
  | 75 => ⟨S1x512, .f32⟩
  | 76 => ⟨S64x512, .f32⟩
  | 77 => ⟨S64x512, .f32⟩
  | 78 => ⟨S_, .i32⟩
  | 79 => ⟨S_, .f32⟩
  | 80 => ⟨S64x512, .i1⟩
  | 81 => ⟨S64x512, .f32⟩
  | 82 => ⟨S64x512, .f32⟩
  | 83 => ⟨S_, .f32⟩
  | 84 => ⟨S512, .f32⟩
  | 85 => ⟨S512, .i1⟩
  | 86 => ⟨S_, .f32⟩
  | 87 => ⟨S512, .f32⟩
  | 88 => ⟨S512, .i1⟩
  | 89 => ⟨S512, .i1⟩
  | 90 => ⟨S1x512, .i1⟩
  | 91 => ⟨S_, .i32⟩
  | 92 => ⟨S_, .f32⟩
  | 93 => ⟨S64x512, .i1⟩
  | 94 => ⟨S64x512, .f32⟩
  | 95 => ⟨S64x512, .f32⟩
  | 96 => ⟨S4x100x512x512, .f32⟩
  | 97 => ⟨S_, .f32⟩
  | 98 => ⟨S4x100x512x512, .f32⟩
  | 99 => ⟨S4x100x512x512, .i1⟩
  | 100 => ⟨S4x100x1x1, .i1⟩
  | 101 => ⟨S4x100x512x512, .i1⟩
  | 102 => ⟨S4x100x512x512, .i1⟩
  | _ => ⟨S4x5000x169, .f32⟩

abbrev hbmTy (i : Nat) : BufTy := match i / 128 with
  | 0 => hbmTy0_0 i
  | 1 => hbmTy0_1 i
  | _ => ⟨S4x5000x169, .f32⟩

abbrev bufTy : (tb : Table) → Fin (tcTables nBuf tb) → BufTy
  | .hbm, ⟨i, _⟩ => hbmTy i
  | _, _ => ⟨S4x5000x169, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call1_cst : Ref sig .tc := ⟨.hbm, 72, rfl⟩
abbrev main_call1_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call2_cst : Ref sig .tc := ⟨.hbm, 79, rfl⟩
abbrev main_call2_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_5 : Ref sig .tc := ⟨.hbm, 87, rfl⟩
abbrev main_v52 : Ref sig .tc := ⟨.hbm, 88, rfl⟩
abbrev main_v53 : Ref sig .tc := ⟨.hbm, 89, rfl⟩
abbrev main_cst_6 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call3_v0 : Ref sig .tc := ⟨.hbm, 94, rfl⟩
abbrev main_call3_cst : Ref sig .tc := ⟨.hbm, 95, rfl⟩
abbrev main_call3_v1 : Ref sig .tc := ⟨.hbm, 96, rfl⟩
abbrev main_call3_v2 : Ref sig .tc := ⟨.hbm, 97, rfl⟩
abbrev main_call3_cst_0 : Ref sig .tc := ⟨.hbm, 98, rfl⟩
abbrev main_call3_v3 : Ref sig .tc := ⟨.hbm, 99, rfl⟩
abbrev main_call3_v4 : Ref sig .tc := ⟨.hbm, 100, rfl⟩
abbrev main_call3_cst_1 : Ref sig .tc := ⟨.hbm, 101, rfl⟩
abbrev main_call3_v5 : Ref sig .tc := ⟨.hbm, 102, rfl⟩
abbrev main_call3_v6 : Ref sig .tc := ⟨.hbm, 103, rfl⟩
abbrev main_call3_cst_2 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_v15 : Ref sig .tc := ⟨.hbm, 113, rfl⟩
abbrev main_call3_cst_3 : Ref sig .tc := ⟨.hbm, 114, rfl⟩
abbrev main_call3_v16 : Ref sig .tc := ⟨.hbm, 115, rfl⟩
abbrev main_call3_v17 : Ref sig .tc := ⟨.hbm, 116, rfl⟩
abbrev main_call3_v18 : Ref sig .tc := ⟨.hbm, 117, rfl⟩
abbrev main_call3_cst_4 : Ref sig .tc := ⟨.hbm, 118, rfl⟩
abbrev main_call3_v19 : Ref sig .tc := ⟨.hbm, 119, rfl⟩
abbrev main_call3_v20 : Ref sig .tc := ⟨.hbm, 120, rfl⟩
abbrev main_call3_cst_5 : Ref sig .tc := ⟨.hbm, 121, rfl⟩
abbrev main_call3_v21 : Ref sig .tc := ⟨.hbm, 122, rfl⟩
abbrev main_call3_v22 : Ref sig .tc := ⟨.hbm, 123, rfl⟩
abbrev main_call3_cst_6 : Ref sig .tc := ⟨.hbm, 124, rfl⟩
abbrev main_call3_v23 : Ref sig .tc := ⟨.hbm, 125, rfl⟩
abbrev main_call3_v24 : Ref sig .tc := ⟨.hbm, 126, rfl⟩
abbrev main_call3_v25 : Ref sig .tc := ⟨.hbm, 127, rfl⟩
abbrev main_call3_cst_7 : Ref sig .tc := ⟨.hbm, 128, rfl⟩
abbrev main_call3_v26 : Ref sig .tc := ⟨.hbm, 129, rfl⟩
abbrev main_call3_v27 : Ref sig .tc := ⟨.hbm, 130, rfl⟩
abbrev main_call3_cst_8 : Ref sig .tc := ⟨.hbm, 131, rfl⟩
abbrev main_call3_v28 : Ref sig .tc := ⟨.hbm, 132, rfl⟩
abbrev main_call3_v29 : Ref sig .tc := ⟨.hbm, 133, rfl⟩
abbrev main_call3_c : Ref sig .tc := ⟨.hbm, 134, rfl⟩
abbrev main_call3_call0_v0 : Ref sig .tc := ⟨.hbm, 135, rfl⟩
abbrev main_call3_call0_v1 : Ref sig .tc := ⟨.hbm, 136, rfl⟩
abbrev main_call3_v30 : Ref sig .tc := ⟨.hbm, 137, rfl⟩
abbrev main_call3_v31 : Ref sig .tc := ⟨.hbm, 138, rfl⟩
abbrev main_call3_v32 : Ref sig .tc := ⟨.hbm, 139, rfl⟩
abbrev main_call3_c_9 : Ref sig .tc := ⟨.hbm, 140, rfl⟩
abbrev main_call3_call1_v0 : Ref sig .tc := ⟨.hbm, 141, rfl⟩
abbrev main_call3_call1_v1 : Ref sig .tc := ⟨.hbm, 142, rfl⟩
abbrev main_call3_call1_v2 : Ref sig .tc := ⟨.hbm, 143, rfl⟩
abbrev main_call3_v33 : Ref sig .tc := ⟨.hbm, 144, rfl⟩
abbrev main_call3_cst_10 : Ref sig .tc := ⟨.hbm, 145, rfl⟩
abbrev main_call3_v34 : Ref sig .tc := ⟨.hbm, 146, rfl⟩
abbrev main_call3_v35 : Ref sig .tc := ⟨.hbm, 147, rfl⟩
abbrev main_call3_cst_11 : Ref sig .tc := ⟨.hbm, 148, rfl⟩
abbrev main_call3_v36 : Ref sig .tc := ⟨.hbm, 149, rfl⟩
abbrev main_call3_v37 : Ref sig .tc := ⟨.hbm, 150, rfl⟩
abbrev main_call3_v38 : Ref sig .tc := ⟨.hbm, 151, rfl⟩
abbrev main_call3_v39 : Ref sig .tc := ⟨.hbm, 152, rfl⟩
abbrev main_call3_c_12 : Ref sig .tc := ⟨.hbm, 153, rfl⟩
abbrev main_call3_call2_v0 : Ref sig .tc := ⟨.hbm, 154, rfl⟩
abbrev main_call3_call2_v1 : Ref sig .tc := ⟨.hbm, 155, rfl⟩
abbrev main_call3_call2_v2 : Ref sig .tc := ⟨.hbm, 156, rfl⟩
abbrev main_call3_v40 : Ref sig .tc := ⟨.hbm, 157, rfl⟩
abbrev main_call3_v41 : Ref sig .tc := ⟨.hbm, 158, rfl⟩
abbrev main_v57 : Ref sig .tc := ⟨.hbm, 159, rfl⟩
abbrev main_call4_v0 : Ref sig .tc := ⟨.hbm, 160, rfl⟩
abbrev main_call4_cst : Ref sig .tc := ⟨.hbm, 161, rfl⟩
abbrev main_call4_v1 : Ref sig .tc := ⟨.hbm, 162, rfl⟩
abbrev main_call4_v2 : Ref sig .tc := ⟨.hbm, 163, rfl⟩
abbrev main_call4_cst_0 : Ref sig .tc := ⟨.hbm, 164, rfl⟩
abbrev main_call4_v3 : Ref sig .tc := ⟨.hbm, 165, rfl⟩
abbrev main_call4_v4 : Ref sig .tc := ⟨.hbm, 166, rfl⟩
abbrev main_call4_cst_1 : Ref sig .tc := ⟨.hbm, 167, rfl⟩
abbrev main_call4_v5 : Ref sig .tc := ⟨.hbm, 168, rfl⟩
abbrev main_call4_v6 : Ref sig .tc := ⟨.hbm, 169, rfl⟩
abbrev main_call4_cst_2 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_v12 : Ref sig .tc := ⟨.hbm, 176, rfl⟩
abbrev main_call4_v13 : Ref sig .tc := ⟨.hbm, 177, rfl⟩
abbrev main_call4_v14 : Ref sig .tc := ⟨.hbm, 178, rfl⟩
abbrev main_call4_v15 : Ref sig .tc := ⟨.hbm, 179, rfl⟩
abbrev main_call4_cst_3 : Ref sig .tc := ⟨.hbm, 180, rfl⟩
abbrev main_call4_v16 : Ref sig .tc := ⟨.hbm, 181, rfl⟩
abbrev main_call4_v17 : Ref sig .tc := ⟨.hbm, 182, rfl⟩
abbrev main_call4_v18 : Ref sig .tc := ⟨.hbm, 183, rfl⟩
abbrev main_call4_cst_4 : Ref sig .tc := ⟨.hbm, 184, rfl⟩
abbrev main_call4_v19 : Ref sig .tc := ⟨.hbm, 185, rfl⟩
abbrev main_call4_v20 : Ref sig .tc := ⟨.hbm, 186, rfl⟩
abbrev main_call4_cst_5 : Ref sig .tc := ⟨.hbm, 187, rfl⟩
abbrev main_call4_v21 : Ref sig .tc := ⟨.hbm, 188, rfl⟩
abbrev main_call4_v22 : Ref sig .tc := ⟨.hbm, 189, rfl⟩
abbrev main_call4_cst_6 : Ref sig .tc := ⟨.hbm, 190, rfl⟩
abbrev main_call4_v23 : Ref sig .tc := ⟨.hbm, 191, rfl⟩
abbrev main_call4_v24 : Ref sig .tc := ⟨.hbm, 192, rfl⟩
abbrev main_call4_v25 : Ref sig .tc := ⟨.hbm, 193, rfl⟩
abbrev main_call4_cst_7 : Ref sig .tc := ⟨.hbm, 194, rfl⟩
abbrev main_call4_v26 : Ref sig .tc := ⟨.hbm, 195, rfl⟩
abbrev main_call4_v27 : Ref sig .tc := ⟨.hbm, 196, rfl⟩
abbrev main_call4_cst_8 : Ref sig .tc := ⟨.hbm, 197, rfl⟩
abbrev main_call4_v28 : Ref sig .tc := ⟨.hbm, 198, rfl⟩
abbrev main_call4_v29 : Ref sig .tc := ⟨.hbm, 199, rfl⟩
abbrev main_call4_c : Ref sig .tc := ⟨.hbm, 200, rfl⟩
abbrev main_call4_call0_v0 : Ref sig .tc := ⟨.hbm, 201, rfl⟩
abbrev main_call4_call0_v1 : Ref sig .tc := ⟨.hbm, 202, rfl⟩
abbrev main_call4_v30 : Ref sig .tc := ⟨.hbm, 203, rfl⟩
abbrev main_call4_v31 : Ref sig .tc := ⟨.hbm, 204, rfl⟩
abbrev main_call4_v32 : Ref sig .tc := ⟨.hbm, 205, rfl⟩
abbrev main_call4_c_9 : Ref sig .tc := ⟨.hbm, 206, rfl⟩
abbrev main_call4_call1_v0 : Ref sig .tc := ⟨.hbm, 207, rfl⟩
abbrev main_call4_call1_v1 : Ref sig .tc := ⟨.hbm, 208, rfl⟩
abbrev main_call4_call1_v2 : Ref sig .tc := ⟨.hbm, 209, rfl⟩
abbrev main_call4_v33 : Ref sig .tc := ⟨.hbm, 210, rfl⟩
abbrev main_call4_cst_10 : Ref sig .tc := ⟨.hbm, 211, rfl⟩
abbrev main_call4_v34 : Ref sig .tc := ⟨.hbm, 212, rfl⟩
abbrev main_call4_v35 : Ref sig .tc := ⟨.hbm, 213, rfl⟩
abbrev main_call4_cst_11 : Ref sig .tc := ⟨.hbm, 214, rfl⟩
abbrev main_call4_v36 : Ref sig .tc := ⟨.hbm, 215, rfl⟩
abbrev main_call4_v37 : Ref sig .tc := ⟨.hbm, 216, rfl⟩
abbrev main_call4_v38 : Ref sig .tc := ⟨.hbm, 217, rfl⟩
abbrev main_call4_v39 : Ref sig .tc := ⟨.hbm, 218, rfl⟩
abbrev main_call4_c_12 : Ref sig .tc := ⟨.hbm, 219, rfl⟩
abbrev main_call4_call2_v0 : Ref sig .tc := ⟨.hbm, 220, rfl⟩
abbrev main_call4_call2_v1 : Ref sig .tc := ⟨.hbm, 221, rfl⟩
abbrev main_call4_call2_v2 : Ref sig .tc := ⟨.hbm, 222, rfl⟩
abbrev main_call4_v40 : Ref sig .tc := ⟨.hbm, 223, rfl⟩
abbrev main_v58 : Ref sig .tc := ⟨.hbm, 224, rfl⟩
abbrev main_cst_7 : Ref sig .tc := ⟨.hbm, 225, rfl⟩
abbrev main_v59 : Ref sig .tc := ⟨.hbm, 226, rfl⟩
abbrev main_v60 : Ref sig .tc := ⟨.hbm, 227, rfl⟩
abbrev main_v61 : Ref sig .tc := ⟨.hbm, 228, rfl⟩
abbrev main_v62 : Ref sig .tc := ⟨.hbm, 229, rfl⟩
abbrev main_v63 : Ref sig .tc := ⟨.hbm, 230, rfl⟩

abbrev nD : Nat := 1
abbrev τ : Topo := Topo.v7x

variable {F : FTy → Type} [FloatOps F]
-- ==== Decode.lean ====
abbrev S4x5000x80 : Shape := ⟨3, ![4, 5000, 80]⟩
abbrev S4x5000x4 : Shape := ⟨3, ![4, 5000, 4]⟩
abbrev S4x5000x1 : Shape := ⟨3, ![4, 5000, 1]⟩
abbrev S4x5000x2 : Shape := ⟨3, ![4, 5000, 2]⟩
abbrev S1x5000x80 : Shape := ⟨3, ![1, 5000, 80]⟩
abbrev S1x5000x1 : Shape := ⟨3, ![1, 5000, 1]⟩
abbrev S1x5000x4 : Shape := ⟨3, ![1, 5000, 4]⟩
abbrev S1x5000x2 : Shape := ⟨3, ![1, 5000, 2]⟩
abbrev S5000x80 : Shape := ⟨2, ![5000, 80]⟩
abbrev S5000 : Shape := ⟨1, ![5000]⟩
abbrev S5000x1 : Shape := ⟨2, ![5000, 1]⟩
abbrev S5000x4 : Shape := ⟨2, ![5000, 4]⟩
abbrev S5000x2 : Shape := ⟨2, ![5000, 2]⟩

abbrev nBuf : Space → Nat
  | .hbm => 7
  | .vmem => 14
  | .smem => 0
  | _ => 0

abbrev bufTy : (tb : Table) → Fin (tcTables nBuf tb) → BufTy
  | .hbm, ⟨0, _⟩ => ⟨S4x5000x80, .f32⟩
  | .hbm, ⟨1, _⟩ => ⟨S4x5000x4, .f32⟩
  | .hbm, ⟨2, _⟩ => ⟨S4x5000x1, .f32⟩
  | .hbm, ⟨3, _⟩ => ⟨S4x5000x2, .f32⟩
  | .hbm, ⟨4, _⟩ => ⟨S4x5000x1, .f32⟩
  | .hbm, ⟨5, _⟩ => ⟨S4x5000x1, .f32⟩
  | .hbm, ⟨6, _⟩ => ⟨S4x5000x4, .f32⟩
  | .local _ .vmem, ⟨0, _⟩ => ⟨S1x5000x80, .f32⟩
  | .local _ .vmem, ⟨1, _⟩ => ⟨S1x5000x80, .f32⟩
  | .local _ .vmem, ⟨2, _⟩ => ⟨S1x5000x1, .f32⟩
  | .local _ .vmem, ⟨3, _⟩ => ⟨S1x5000x1, .f32⟩
  | .local _ .vmem, ⟨4, _⟩ => ⟨S1x5000x4, .f32⟩
  | .local _ .vmem, ⟨5, _⟩ => ⟨S1x5000x4, .f32⟩
  | .local _ .vmem, ⟨6, _⟩ => ⟨S1x5000x2, .f32⟩
  | .local _ .vmem, ⟨7, _⟩ => ⟨S1x5000x2, .f32⟩
  | .local _ .vmem, ⟨8, _⟩ => ⟨S1x5000x1, .f32⟩
  | .local _ .vmem, ⟨9, _⟩ => ⟨S1x5000x1, .f32⟩
  | .local _ .vmem, ⟨10, _⟩ => ⟨S1x5000x1, .f32⟩
  | .local _ .vmem, ⟨11, _⟩ => ⟨S1x5000x1, .f32⟩
  | .local _ .vmem, ⟨12, _⟩ => ⟨S1x5000x4, .f32⟩
  | .local _ .vmem, ⟨13, _⟩ => ⟨S1x5000x4, .f32⟩
  | _, _ => ⟨S4x5000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DecodeRef.lean ====
abbrev S4x5000x80 : Shape := ⟨3, ![4, 5000, 80]⟩
abbrev S4x5000x4 : Shape := ⟨3, ![4, 5000, 4]⟩
abbrev S4x5000x1 : Shape := ⟨3, ![4, 5000, 1]⟩
abbrev S4x5000x2 : Shape := ⟨3, ![4, 5000, 2]⟩
abbrev S_ : Shape := ⟨0, ![]⟩
abbrev S4x5000 : Shape := ⟨2, ![4, 5000]⟩

abbrev nBuf : Space → Nat
  | .hbm => 29
  | .vmem => 0
  | .smem => 0
  | _ => 0

abbrev bufTy : (tb : Table) → Fin (tcTables nBuf tb) → BufTy
  | .hbm, ⟨0, _⟩ => ⟨S4x5000x80, .f32⟩
  | .hbm, ⟨1, _⟩ => ⟨S4x5000x4, .f32⟩
  | .hbm, ⟨2, _⟩ => ⟨S4x5000x1, .f32⟩
  | .hbm, ⟨3, _⟩ => ⟨S4x5000x2, .f32⟩
  | .hbm, ⟨4, _⟩ => ⟨S_, .f32⟩
  | .hbm, ⟨5, _⟩ => ⟨S4x5000, .f32⟩
  | .hbm, ⟨6, _⟩ => ⟨S4x5000, .f32⟩
  | .hbm, ⟨7, _⟩ => ⟨S4x5000, .f32⟩
  | .hbm, ⟨8, _⟩ => ⟨S4x5000, .f32⟩
  | .hbm, ⟨9, _⟩ => ⟨S4x5000x80, .i32⟩
  | .hbm, ⟨10, _⟩ => ⟨S_, .f32⟩
  | .hbm, ⟨11, _⟩ => ⟨S_, .i32⟩
  | .hbm, ⟨12, _⟩ => ⟨S4x5000, .f32⟩
  | .hbm, ⟨13, _⟩ => ⟨S4x5000, .i32⟩
  | .hbm, ⟨14, _⟩ => ⟨S4x5000x2, .f32⟩
  | .hbm, ⟨15, _⟩ => ⟨S4x5000x2, .f32⟩
  | .hbm, ⟨16, _⟩ => ⟨S4x5000x2, .f32⟩
  | .hbm, ⟨17, _⟩ => ⟨S4x5000x2, .f32⟩
  | .hbm, ⟨18, _⟩ => ⟨S4x5000x4, .f32⟩
  | .hbm, ⟨19, _⟩ => ⟨S_, .f32⟩
  | .hbm, ⟨20, _⟩ => ⟨S4x5000, .f32⟩
  | .hbm, ⟨21, _⟩ => ⟨S4x5000, .i1⟩
  | .hbm, ⟨22, _⟩ => ⟨S_, .f32⟩
  | .hbm, ⟨23, _⟩ => ⟨S_, .f32⟩
  | .hbm, ⟨24, _⟩ => ⟨S4x5000, .f32⟩
  | .hbm, ⟨25, _⟩ => ⟨S4x5000, .f32⟩
  | .hbm, ⟨26, _⟩ => ⟨S4x5000x1, .f32⟩
  | .hbm, ⟨27, _⟩ => ⟨S4x5000, .f32⟩
  | .hbm, ⟨28, _⟩ => ⟨S4x5000x1, .f32⟩
  | _, _ => ⟨S4x5000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Nms.lean ====
abbrev S4x5000x1 : Shape := ⟨3, ![4, 5000, 1]⟩
abbrev S4x5000x4 : Shape := ⟨3, ![4, 5000, 4]⟩
abbrev S4x5000 : Shape := ⟨2, ![4, 5000]⟩
abbrev S4x1000 : Shape := ⟨2, ![4, 1000]⟩
abbrev S_ : Shape := ⟨0, ![]⟩
abbrev S4x1024 : Shape := ⟨2, ![4, 1024]⟩
abbrev S4x1x1024 : Shape := ⟨3, ![4, 1, 1024]⟩
abbrev S4x1024x1 : Shape := ⟨3, ![4, 1024, 1]⟩
abbrev S4x1x1000 : Shape := ⟨3, ![4, 1, 1000]⟩
abbrev S1024x1024 : Shape := ⟨2, ![1024, 1024]⟩
abbrev S4x100x1 : Shape := ⟨3, ![4, 100, 1]⟩
abbrev S4x100x4 : Shape := ⟨3, ![4, 100, 4]⟩
abbrev S4x1 : Shape := ⟨2, ![4, 1]⟩
abbrev S1x1x1024 : Shape := ⟨3, ![1, 1, 1024]⟩
abbrev S1x1024x1 : Shape := ⟨3, ![1, 1024, 1]⟩
abbrev S1x1x1000 : Shape := ⟨3, ![1, 1, 1000]⟩
abbrev S1x5000x4 : Shape := ⟨3, ![1, 5000, 4]⟩
abbrev S1x5000x1 : Shape := ⟨3, ![1, 5000, 1]⟩
abbrev S1x100x1 : Shape := ⟨3, ![1, 100, 1]⟩
abbrev S1x100x4 : Shape := ⟨3, ![1, 100, 4]⟩
abbrev S1024x4 : Shape := ⟨2, ![1024, 4]⟩
abbrev S1024x1 : Shape := ⟨2, ![1024, 1]⟩
abbrev S1x1x1 : Shape := ⟨3, ![1, 1, 1]⟩
abbrev S1x1x4 : Shape := ⟨3, ![1, 1, 4]⟩
abbrev S1x4 : Shape := ⟨2, ![1, 4]⟩
abbrev S1x1 : Shape := ⟨2, ![1, 1]⟩
abbrev S1x1024 : Shape := ⟨2, ![1, 1024]⟩
abbrev S64x1 : Shape := ⟨2, ![64, 1]⟩
abbrev S64x1024 : Shape := ⟨2, ![64, 1024]⟩
abbrev S1 : Shape := ⟨1, ![1]⟩
abbrev S100x1 : Shape := ⟨2, ![100, 1]⟩
abbrev S100x4 : Shape := ⟨2, ![100, 4]⟩

abbrev nBuf : Space → Nat
  | .hbm => 23
  | .vmem => 18
  | .smem => 3
  | _ => 0

abbrev bufTy : (tb : Table) → Fin (tcTables nBuf tb) → BufTy
  | .hbm, ⟨0, _⟩ => ⟨S4x5000x1, .f32⟩
  | .hbm, ⟨1, _⟩ => ⟨S4x5000x4, .f32⟩
  | .hbm, ⟨2, _⟩ => ⟨S4x5000x1, .f32⟩
  | .hbm, ⟨3, _⟩ => ⟨S4x5000, .f32⟩
  | .hbm, ⟨4, _⟩ => ⟨S4x1000, .f32⟩
  | .hbm, ⟨5, _⟩ => ⟨S4x1000, .i32⟩
  | .hbm, ⟨6, _⟩ => ⟨S_, .f32⟩
  | .hbm, ⟨7, _⟩ => ⟨S_, .f32⟩
  | .hbm, ⟨8, _⟩ => ⟨S4x1024, .f32⟩
  | .hbm, ⟨9, _⟩ => ⟨S4x1x1024, .f32⟩
  | .hbm, ⟨10, _⟩ => ⟨S4x1024x1, .f32⟩
  | .hbm, ⟨11, _⟩ => ⟨S4x1x1000, .i32⟩
  | .hbm, ⟨12, _⟩ => ⟨S1024x1024, .i32⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S1024x1024, .f32⟩
  | .hbm, ⟨19, _⟩ => ⟨S4x100x1, .f32⟩
  | .hbm, ⟨20, _⟩ => ⟨S4x100x1, .f32⟩
  | .hbm, ⟨21, _⟩ => ⟨S4x100x4, .f32⟩
  | .hbm, ⟨22, _⟩ => ⟨S4x1, .i32⟩
  | .local _ .vmem, ⟨0, _⟩ => ⟨S1x1x1024, .f32⟩
  | .local _ .vmem, ⟨1, _⟩ => ⟨S1x1x1024, .f32⟩
  | .local _ .vmem, ⟨2, _⟩ => ⟨S1x1024x1, .f32⟩
  | .local _ .vmem, ⟨3, _⟩ => ⟨S1x1024x1, .f32⟩
  | .local _ .vmem, ⟨4, _⟩ => ⟨S1x5000x4, .f32⟩
  | .local _ .vmem, ⟨5, _⟩ => ⟨S1x5000x4, .f32⟩
  | .local _ .vmem, ⟨6, _⟩ => ⟨S1x5000x1, .f32⟩
  | .local _ .vmem, ⟨7, _⟩ => ⟨S1x5000x1, .f32⟩
  | .local _ .vmem, ⟨8, _⟩ => ⟨S1024x1024, .f32⟩
  | .local _ .vmem, ⟨9, _⟩ => ⟨S1x100x1, .f32⟩
  | .local _ .vmem, ⟨10, _⟩ => ⟨S1x100x1, .f32⟩
  | .local _ .vmem, ⟨11, _⟩ => ⟨S1x100x1, .f32⟩
  | .local _ .vmem, ⟨12, _⟩ => ⟨S1x100x1, .f32⟩
  | .local _ .vmem, ⟨13, _⟩ => ⟨S1x100x4, .f32⟩
  | .local _ .vmem, ⟨14, _⟩ => ⟨S1x100x4, .f32⟩
  | .local _ .vmem, ⟨15, _⟩ => ⟨S1024x4, .f32⟩
  | .local _ .vmem, ⟨16, _⟩ => ⟨S1024x1024, .f32⟩
  | .local _ .vmem, ⟨17, _⟩ => ⟨S1024x1, .f32⟩
  | .local _ .smem, ⟨0, _⟩ => ⟨S1x1x1000, .i32⟩
  | .local _ .smem, ⟨1, _⟩ => ⟨S1x1x1000, .i32⟩
  | .local _ .smem, ⟨2, _⟩ => ⟨S4x1, .i32⟩
  | _, _ => ⟨S4x5000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg2_0 : Ref sig .tc := ⟨.smem, 0, rfl⟩
abbrev cc0_stg2_1 : Ref sig .tc := ⟨.smem, 1, rfl⟩
abbrev cc0_stg9_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c1000_i32 : BitVec 32 := 1000#32
  let v8 : BitVec 32 := Scalar.addi c0_i32 c1000_i32
  let c1_i32 : BitVec 32 := 1#32
  ⟨c0_i32, v8, c1_i32⟩
def k0_off1 (k0_t1 : Fin k0_t1_loop.trips) : Fin 3 → Nat :=
  let c0_161 : Index := 0#32
  let c0_162 : Index := 0#32
  let c0_i32 : BitVec 32 := 0#32
  let c1_i32 : BitVec 32 := 1#32
  let arg14 : BitVec 32 := Scf.iv c0_i32 c1_i32 k0_t1
  let v799 : Index := Scalar.indexCast arg14
  ![0, 0, v799.toNat]
def k0_off2 (v800 : BitVec 32) : Fin 3 → Nat :=
  let c0_163 : Index := 0#32
  let v801 : Index := Scalar.indexCast v800
  let c0_164 : Index := 0#32
  ![0, v801.toNat, 0]

def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let v804 : Index := Scalar.indexCast arg14
  let c0_165 : Index := 0#32
  ![v804.toNat, 0]
def k0_cond1 (k0_t1 : Fin k0_t1_loop.trips) : BitVec 1 :=
  let c0_i32 : BitVec 32 := 0#32
  let c1_i32 : BitVec 32 := 1#32
  let arg14 : BitVec 32 := Scf.iv c0_i32 c1_i32 k0_t1
  let c100_i32 : BitVec 32 := 100#32
  let v808 : BitVec 1 := Scalar.cmpi .slt arg14 c100_i32
  let v809 : BitVec 32 := Scalar.extui v808
  let c0_i32_166 : BitVec 32 := 0#32
  let v810 : BitVec 1 := Scalar.cmpi .ne v809 c0_i32_166
  v810

def k0_off4 (v800 : BitVec 32) : Fin 3 → Nat :=
  let c0_167 : Index := 0#32
  let v811 : Index := Scalar.indexCast v800
  let c0_168 : Index := 0#32
  ![0, v811.toNat, 0]

def k0_chk1 (k0_t1 : Fin k0_t1_loop.trips) (v800 : BitVec 32) : Prop :=
  (∀ a, (k0_off2 v800) a + S1x1x4.size a ≤ S1x5000x4.size a) ∧
  (∀ (k0_h1 : k0_cond1 k0_t1 = 1#1), ∀ a, (k0_off4 v800) a + S1x1x1.size a ≤ S1x5000x1.size a)
theorem k0_off2_inb : ∀ (k0_t1 : Fin k0_t1_loop.trips) (v800 : BitVec 32) (k0_hw1 : k0_chk1 k0_t1 v800), ∀ a, (k0_off2 v800) a + S1x1x4.size a ≤ S1x5000x4.size a := fun k0_t1 v800 k0_hw1 => k0_hw1.1
theorem k0_off4_inb : ∀ (k0_t1 : Fin k0_t1_loop.trips) (v800 : BitVec 32) (k0_hw1 : k0_chk1 k0_t1 v800), ∀ (k0_h1 : k0_cond1 k0_t1 = 1#1), ∀ a, (k0_off4 v800) a + S1x1x1.size a ≤ S1x5000x1.size a := fun k0_t1 v800 k0_hw1 k0_h1 => k0_hw1.2 k0_h1

def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let v814 : Index := Scalar.indexCast arg14
  let c0_169 : Index := 0#32
  ![v814.toNat, 0]
@[reducible] def k0_t2_loop : Scf.Loop 32 :=
  let c0_i32_134 : BitVec 32 := 0#32
  let c1000_i32_135 : BitVec 32 := 1000#32
  let v763 : BitVec 32 := Scalar.addi c0_i32_134 c1000_i32_135
  let c1_i32_136 : BitVec 32 := 1#32
  ⟨c0_i32_134, v763, c1_i32_136⟩
def k0_off6 (k0_t2 : Fin k0_t2_loop.trips) : Fin 2 → Nat :=
  let c0_i32_134 : BitVec 32 := 0#32
  let c1_i32_136 : BitVec 32 := 1#32
  let arg14 : BitVec 32 := Scf.iv c0_i32_134 c1_i32_136 k0_t2
  let v799 : Index := Scalar.indexCast arg14
  let c0_161 : Index := 0#32
  ![v799.toNat, 0]
def k0_off7 (i : grid0.Coords) : Fin 2 → Nat :=
  let arg0 : BitVec 32 := BitVec.ofNat 32 (i 0).val
  let v771 : Index := Scalar.indexCast arg0
  let c0_140 : Index := 0#32
  ![v771.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x100x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x100x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x100x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S4x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NmsRef.lean ====
abbrev S4x5000x1 : Shape := ⟨3, ![4, 5000, 1]⟩
abbrev S4x5000x4 : Shape := ⟨3, ![4, 5000, 4]⟩
abbrev S4x5000 : Shape := ⟨2, ![4, 5000]⟩
abbrev S4x1000 : Shape := ⟨2, ![4, 1000]⟩
abbrev S4x1000x1 : Shape := ⟨3, ![4, 1000, 1]⟩
abbrev S_ : Shape := ⟨0, ![]⟩
abbrev S1 : Shape := ⟨1, ![1]⟩
abbrev S1x1x1 : Shape := ⟨3, ![1, 1, 1]⟩
abbrev S4x1000x4 : Shape := ⟨3, ![4, 1000, 4]⟩
abbrev S4x1x1000 : Shape := ⟨3, ![4, 1, 1000]⟩
abbrev S4x1000x1000 : Shape := ⟨3, ![4, 1000, 1000]⟩
abbrev S1000 : Shape := ⟨1, ![1000]⟩
abbrev S1x1000 : Shape := ⟨2, ![1, 1000]⟩
abbrev S4x1 : Shape := ⟨2, ![4, 1]⟩
abbrev S4 : Shape := ⟨1, ![4]⟩
abbrev S100 : Shape := ⟨1, ![100]⟩
abbrev S1x100 : Shape := ⟨2, ![1, 100]⟩
abbrev S4x100 : Shape := ⟨2, ![4, 100]⟩
abbrev S4x100x1 : Shape := ⟨3, ![4, 100, 1]⟩
abbrev S4x100x4 : Shape := ⟨3, ![4, 100, 4]⟩

abbrev nBuf : Space → Nat
  | .hbm => 213
  | .vmem => 0
  | .smem => 0
  | _ => 0

abbrev hbmTy0_0 (i : Nat) : BufTy := match i % 128 with
  | 0 => ⟨S4x5000x1, .f32⟩
  | 1 => ⟨S4x5000x4, .f32⟩
  | 2 => ⟨S4x5000x1, .f32⟩
  | 3 => ⟨S4x5000, .f32⟩
  | 4 => ⟨S4x1000, .f32⟩
  | 5 => ⟨S4x1000, .i32⟩
  | 6 => ⟨S4x1000x1, .i32⟩
  | 7 => ⟨S_, .i32⟩
  | 8 => ⟨S4x1000x1, .i32⟩
  | 9 => ⟨S4x1000x1, .i1⟩
  | 10 => ⟨S_, .i32⟩
  | 11 => ⟨S4x1000x1, .i32⟩
  | 12 => ⟨S4x1000x1, .i32⟩
  | 13 => ⟨S4x1000x1, .i32⟩
  | 14 => ⟨S1, .i32⟩
  | 15 => ⟨S_, .i32⟩
  | 16 => ⟨S4x1000x1, .i32⟩
  | 17 => ⟨S4x1000x1, .i1⟩
  | 18 => ⟨S1x1x1, .i32⟩
  | 19 => ⟨S4x1000x1, .i32⟩
  | 20 => ⟨S4x1000x1, .i1⟩
  | 21 => ⟨S4x1000x1, .i1⟩
  | 22 => ⟨S_, .i1⟩
  | 23 => ⟨S4x1000, .i1⟩
  | 24 => ⟨S4x1000x4, .f32⟩
  | 25 => ⟨S4x1000x4, .i1⟩
  | 26 => ⟨S_, .f32⟩
  | 27 => ⟨S4x1000x4, .f32⟩
  | 28 => ⟨S4x1000x4, .f32⟩
  | 29 => ⟨S4x1000x1, .i32⟩
  | 30 => ⟨S_, .i32⟩
  | 31 => ⟨S4x1000x1, .i32⟩
  | 32 => ⟨S4x1000x1, .i1⟩
  | 33 => ⟨S_, .i32⟩
  | 34 => ⟨S4x1000x1, .i32⟩
  | 35 => ⟨S4x1000x1, .i32⟩
  | 36 => ⟨S4x1000x1, .i32⟩
  | 37 => ⟨S1, .i32⟩
  | 38 => ⟨S_, .i32⟩
  | 39 => ⟨S4x1000x1, .i32⟩
  | 40 => ⟨S4x1000x1, .i1⟩
  | 41 => ⟨S1x1x1, .i32⟩
  | 42 => ⟨S4x1000x1, .i32⟩
  | 43 => ⟨S4x1000x1, .i1⟩
  | 44 => ⟨S4x1000x1, .i1⟩
  | 45 => ⟨S_, .i1⟩
  | 46 => ⟨S4x1000, .i1⟩
  | 47 => ⟨S4x1000x1, .f32⟩
  | 48 => ⟨S4x1000x1, .i1⟩
  | 49 => ⟨S_, .f32⟩
  | 50 => ⟨S4x1000x1, .f32⟩
  | 51 => ⟨S4x1000x1, .f32⟩
  | 52 => ⟨S4x1000x1, .f32⟩
  | 53 => ⟨S4x1000, .f32⟩
  | 54 => ⟨S4x1000x1, .f32⟩
  | 55 => ⟨S4x1000, .f32⟩
  | 56 => ⟨S4x1000x1, .f32⟩
  | 57 => ⟨S4x1000, .f32⟩
  | 58 => ⟨S4x1000x1, .f32⟩
  | 59 => ⟨S4x1000, .f32⟩
  | 60 => ⟨S4x1000, .f32⟩
  | 61 => ⟨S_, .f32⟩
  | 62 => ⟨S_, .f32⟩
  | 63 => ⟨S4x1000, .f32⟩
  | 64 => ⟨S4x1000, .f32⟩
  | 65 => ⟨S4x1000, .f32⟩
  | 66 => ⟨S_, .f32⟩
  | 67 => ⟨S_, .f32⟩
  | 68 => ⟨S4x1000, .f32⟩
  | 69 => ⟨S4x1000, .f32⟩
  | 70 => ⟨S4x1000, .f32⟩
  | 71 => ⟨S4x1000x1, .f32⟩
  | 72 => ⟨S4x1x1000, .f32⟩
  | 73 => ⟨S4x1000x1000, .f32⟩
  | 74 => ⟨S4x1000x1000, .f32⟩
  | 75 => ⟨S4x1000x1000, .f32⟩
  | 76 => ⟨S4x1000x1, .f32⟩
  | 77 => ⟨S4x1x1000, .f32⟩
  | 78 => ⟨S4x1000x1000, .f32⟩
  | 79 => ⟨S4x1000x1000, .f32⟩
  | 80 => ⟨S4x1000x1000, .f32⟩
  | 81 => ⟨S4x1000x1, .f32⟩
  | 82 => ⟨S4x1x1000, .f32⟩
  | 83 => ⟨S4x1000x1000, .f32⟩
  | 84 => ⟨S4x1000x1000, .f32⟩
  | 85 => ⟨S4x1000x1000, .f32⟩
  | 86 => ⟨S4x1000x1, .f32⟩
  | 87 => ⟨S4x1x1000, .f32⟩
  | 88 => ⟨S4x1000x1000, .f32⟩
  | 89 => ⟨S4x1000x1000, .f32⟩
  | 90 => ⟨S4x1000x1000, .f32⟩
  | 91 => ⟨S4x1000x1000, .f32⟩
  | 92 => ⟨S_, .f32⟩
  | 93 => ⟨S_, .f32⟩
  | 94 => ⟨S4x1000x1000, .f32⟩
  | 95 => ⟨S4x1000x1000, .f32⟩
  | 96 => ⟨S4x1000x1000, .f32⟩
  | 97 => ⟨S_, .f32⟩
  | 98 => ⟨S_, .f32⟩
  | 99 => ⟨S4x1000x1000, .f32⟩
  | 100 => ⟨S4x1000x1000, .f32⟩
  | 101 => ⟨S4x1000x1000, .f32⟩
  | 102 => ⟨S4x1000x1, .f32⟩
  | 103 => ⟨S4x1x1000, .f32⟩
  | 104 => ⟨S4x1000x1000, .f32⟩
  | 105 => ⟨S4x1000x1000, .f32⟩
  | 106 => ⟨S4x1000x1000, .f32⟩
  | 107 => ⟨S4x1000x1000, .f32⟩
  | 108 => ⟨S_, .f32⟩
  | 109 => ⟨S4x1000x1000, .f32⟩
  | 110 => ⟨S4x1000x1000, .f32⟩
  | 111 => ⟨S4x1000x1000, .f32⟩
  | 112 => ⟨S_, .f32⟩
  | 113 => ⟨S4x1000x1000, .f32⟩
  | 114 => ⟨S4x1000x1000, .i1⟩
  | 115 => ⟨S1000, .i32⟩
  | 116 => ⟨S_, .f32⟩
  | 117 => ⟨S4x1000, .f32⟩
  | 118 => ⟨S4x1000, .i1⟩
  | 119 => ⟨S_, .i32⟩
  | 120 => ⟨S_, .i32⟩
  | 121 => ⟨S4x1000x1000, .i1⟩
  | 122 => ⟨S1000, .i32⟩
  | 123 => ⟨S_, .i32⟩
  | 124 => ⟨S_, .i32⟩
  | 125 => ⟨S4x1000, .i1⟩
  | 126 => ⟨S_, .i32⟩
  | 127 => ⟨S_, .i1⟩
  | _ => ⟨S4x5000x1, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S4x1x1000, .i1⟩
  | 25 => ⟨S4x1000, .i1⟩
  | 26 => ⟨S_, .i32⟩
  | 27 => ⟨S1000, .i32⟩
  | 28 => ⟨S1000, .i1⟩
  | 29 => ⟨S1x1000, .i1⟩
  | 30 => ⟨S4x1000, .i1⟩
  | 31 => ⟨S4x1000, .i1⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S4x1, .i1⟩
  | 47 => ⟨S4, .i1⟩
  | 48 => ⟨S4x1, .i1⟩
  | 49 => ⟨S4x1000, .i1⟩
  | 50 => ⟨S4x1000, .i1⟩
  | 51 => ⟨S4x1000, .i1⟩
  | 52 => ⟨S4x1000, .i1⟩
  | 53 => ⟨S_, .i32⟩
  | 54 => ⟨S_, .i32⟩
  | 55 => ⟨S4x1000, .i32⟩
  | 56 => ⟨S_, .i32⟩
  | 57 => ⟨S4, .i32⟩
  | 58 => ⟨S_, .i32⟩
  | 59 => ⟨S4, .i32⟩
  | 60 => ⟨S4, .i32⟩
  | 61 => ⟨S4x1, .i32⟩
  | 62 => ⟨S100, .i32⟩
  | 63 => ⟨S1x100, .i32⟩
  | 64 => ⟨S4x100, .i32⟩
  | 65 => ⟨S4x100, .i32⟩
  | 66 => ⟨S4x100, .i1⟩
  | 67 => ⟨S4x100x1, .i1⟩
  | 68 => ⟨S4x100, .f32⟩
  | 69 => ⟨S4x100x1, .f32⟩
  | 70 => ⟨S_, .f32⟩
  | 71 => ⟨S_, .f32⟩
  | 72 => ⟨S4x100x1, .f32⟩
  | 73 => ⟨S4x100x1, .f32⟩
  | 74 => ⟨S4x100x1, .f32⟩
  | 75 => ⟨S_, .f32⟩
  | 76 => ⟨S_, .f32⟩
  | 77 => ⟨S4x100x1, .f32⟩
  | 78 => ⟨S4x100x1, .f32⟩
  | 79 => ⟨S4x100x4, .f32⟩
  | 80 => ⟨S_, .f32⟩
  | 81 => ⟨S_, .f32⟩
  | 82 => ⟨S4x100x4, .i1⟩
  | 83 => ⟨S4x100x4, .f32⟩
  | 84 => ⟨S4x100x4, .f32⟩
  | _ => ⟨S4x5000x1, .f32⟩

abbrev hbmTy (i : Nat) : BufTy := match i / 128 with
  | 0 => hbmTy0_0 i
  | 1 => hbmTy0_1 i
  | _ => ⟨S4x5000x1, .f32⟩

abbrev bufTy : (tb : Table) → Fin (tcTables nBuf tb) → BufTy
  | .hbm, ⟨i, _⟩ => hbmTy i
  | _, _ => ⟨S4x5000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst : Ref sig .tc := ⟨.hbm, 61, rfl⟩
abbrev main_call2_v0 : Ref sig .tc := ⟨.hbm, 62, rfl⟩
abbrev main_call2_v1 : Ref sig .tc := ⟨.hbm, 63, rfl⟩
abbrev main_v14 : Ref sig .tc := ⟨.hbm, 64, rfl⟩
abbrev main_v15 : Ref sig .tc := ⟨.hbm, 65, rfl⟩
abbrev main_cst_0 : Ref sig .tc := ⟨.hbm, 66, rfl⟩
abbrev main_call3_v0 : Ref sig .tc := ⟨.hbm, 67, rfl⟩
abbrev main_call3_v1 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_1 : Ref sig .tc := ⟨.hbm, 92, rfl⟩
abbrev main_call4_v0 : Ref sig .tc := ⟨.hbm, 93, rfl⟩
abbrev main_call4_v1 : Ref sig .tc := ⟨.hbm, 94, rfl⟩
abbrev main_v39 : Ref sig .tc := ⟨.hbm, 95, rfl⟩
abbrev main_v40 : Ref sig .tc := ⟨.hbm, 96, rfl⟩
abbrev main_cst_2 : Ref sig .tc := ⟨.hbm, 97, rfl⟩
abbrev main_call5_v0 : Ref sig .tc := ⟨.hbm, 98, rfl⟩
abbrev main_call5_v1 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_3 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_4 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_5 : Ref sig .tc := ⟨.hbm, 116, rfl⟩
abbrev main_v55 : Ref sig .tc := ⟨.hbm, 117, rfl⟩
abbrev main_v56 : Ref sig .tc := ⟨.hbm, 118, rfl⟩
abbrev main_c : Ref sig .tc := ⟨.hbm, 119, rfl⟩
abbrev main_c_6 : Ref sig .tc := ⟨.hbm, 120, rfl⟩
abbrev main_v57_0 : Ref sig .tc := ⟨.hbm, 121, rfl⟩
abbrev main_v57_1 : Ref sig .tc := ⟨.hbm, 122, rfl⟩
abbrev main_v57_2 : Ref sig .tc := ⟨.hbm, 123, rfl⟩
abbrev main_v57_3 : Ref sig .tc := ⟨.hbm, 124, rfl⟩
abbrev main_v57_4 : Ref sig .tc := ⟨.hbm, 125, rfl⟩
abbrev main_while0c_c_16 : Ref sig .tc := ⟨.hbm, 126, rfl⟩
abbrev main_while0c_v76 : Ref sig .tc := ⟨.hbm, 127, rfl⟩
abbrev main_while0b_c_16 : Ref sig .tc := ⟨.hbm, 128, rfl⟩
abbrev main_while0b_v76 : Ref sig .tc := ⟨.hbm, 129, rfl⟩
abbrev main_while0b_v77 : Ref sig .tc := ⟨.hbm, 130, rfl⟩
abbrev main_while0b_c_17 : Ref sig .tc := ⟨.hbm, 131, rfl⟩
abbrev main_while0b_c_18 : Ref sig .tc := ⟨.hbm, 132, rfl⟩
abbrev main_while0b_v78 : Ref sig .tc := ⟨.hbm, 133, rfl⟩
abbrev main_while0b_c_19 : Ref sig .tc := ⟨.hbm, 134, rfl⟩
abbrev main_while0b_c_20 : Ref sig .tc := ⟨.hbm, 135, rfl⟩
abbrev main_while0b_v79 : Ref sig .tc := ⟨.hbm, 136, rfl⟩
abbrev main_while0b_c_21 : Ref sig .tc := ⟨.hbm, 137, rfl⟩
abbrev main_while0b_v80 : Ref sig .tc := ⟨.hbm, 138, rfl⟩
abbrev main_while0b_c_22 : Ref sig .tc := ⟨.hbm, 139, rfl⟩
abbrev main_while0b_v81 : Ref sig .tc := ⟨.hbm, 140, rfl⟩
abbrev main_while0b_c_23 : Ref sig .tc := ⟨.hbm, 141, rfl⟩
abbrev main_while0b_v82 : Ref sig .tc := ⟨.hbm, 142, rfl⟩
abbrev main_while0b_v83 : Ref sig .tc := ⟨.hbm, 143, rfl⟩
abbrev main_while0b_c_24 : Ref sig .tc := ⟨.hbm, 144, rfl⟩
abbrev main_while0b_c_25 : Ref sig .tc := ⟨.hbm, 145, rfl⟩
abbrev main_while0b_v84 : Ref sig .tc := ⟨.hbm, 146, rfl⟩
abbrev main_while0b_c_26 : Ref sig .tc := ⟨.hbm, 147, rfl⟩
abbrev main_while0b_c_27 : Ref sig .tc := ⟨.hbm, 148, rfl⟩
abbrev main_while0b_v85 : Ref sig .tc := ⟨.hbm, 149, rfl⟩
abbrev main_while0b_c_28 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_c_29 : Ref sig .tc := ⟨.hbm, 161, rfl⟩
abbrev main_while0b_c_30 : Ref sig .tc := ⟨.hbm, 162, rfl⟩
abbrev main_while0b_v96 : Ref sig .tc := ⟨.hbm, 163, rfl⟩
abbrev main_while0b_c_31 : Ref sig .tc := ⟨.hbm, 164, rfl⟩
abbrev main_while0b_c_32 : Ref sig .tc := ⟨.hbm, 165, rfl⟩
abbrev main_while0b_v97 : Ref sig .tc := ⟨.hbm, 166, rfl⟩
abbrev main_while0b_c_33 : Ref sig .tc := ⟨.hbm, 167, rfl⟩
abbrev main_while0b_v98 : Ref sig .tc := ⟨.hbm, 168, rfl⟩
abbrev main_while0b_c_34 : Ref sig .tc := ⟨.hbm, 169, rfl⟩
abbrev main_while0b_v99 : Ref sig .tc := ⟨.hbm, 170, rfl⟩
abbrev main_while0b_c_35 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_c_36 : Ref sig .tc := ⟨.hbm, 181, rfl⟩
abbrev main_while0b_v109 : Ref sig .tc := ⟨.hbm, 182, rfl⟩
abbrev main_v58 : Ref sig .tc := ⟨.hbm, 183, rfl⟩
abbrev main_c_7 : Ref sig .tc := ⟨.hbm, 184, rfl⟩
abbrev main_v59 : Ref sig .tc := ⟨.hbm, 185, rfl⟩
abbrev main_c_8 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_cst_9 : Ref sig .tc := ⟨.hbm, 198, rfl⟩
abbrev main_call6_v0 : Ref sig .tc := ⟨.hbm, 199, rfl⟩
abbrev main_call6_v1 : Ref sig .tc := ⟨.hbm, 200, rfl⟩
abbrev main_v71 : Ref sig .tc := ⟨.hbm, 201, rfl⟩
abbrev main_v72 : Ref sig .tc := ⟨.hbm, 202, rfl⟩
abbrev main_cst_10 : Ref sig .tc := ⟨.hbm, 203, rfl⟩
abbrev main_call7_v0 : Ref sig .tc := ⟨.hbm, 204, rfl⟩
abbrev main_call7_v1 : Ref sig .tc := ⟨.hbm, 205, rfl⟩
abbrev main_v73 : Ref sig .tc := ⟨.hbm, 206, rfl⟩
abbrev main_v74 : Ref sig .tc := ⟨.hbm, 207, rfl⟩
abbrev main_cst_11 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_v75 : Ref sig .tc := ⟨.hbm, 212, rfl⟩

abbrev nD : Nat := 1
abbrev τ : Topo := Topo.v7x

variable {F : FTy → Type} [FloatOps F]

abbrev main_while0_count : Scf.Loop 32 := ⟨0#32, 1000#32, 1#32⟩
-- ==== Proof.Struct.lean ====
/-
  The masks kernel's body written by its repeated pieces.

  The printed body is straight-line text: ten objects, each with its 64 row stores and its 8 block stores.
  Here the same program is written once for an object, once for a row and once for a block, and the printed
  body is shown to be that program (`body_eq`).
-/
module

public import proofs.«01_k».proof.Proof.Gen.MasksIdeal
public import Idealize.ShloMosaic.Lib.Tactic

@[expose] public section

set_option maxRecDepth 16384

noncomputable section

namespace Cert.Proof.Ideal

open Cert.MasksIdeal
open Idealize.ShloMosaic Idealize.SL.Sem Idealize.ShloMosaic.Tactic
open Facts₀ Facts

variable {F : FTy → Type} [FloatOps F]

/-! ## The values -/

/-- The zero of the kernel's text. -/
abbrev zf : F .f32 := Scalar.ofBits .f32 0x00000000#32

/-- Row `m` of an object's first layer: ten weights, the bias, zeros. -/
def l1row (c : FVec F S1x169 .f32) (m : Fin 8) : FVec F S1x32 .f32 :=
  concatenate S1x32 1 [⟨S1x10, extractStridedSlice S1x10 ![0, 10 * m.val] c ⟨rfl, fun a => by fin_cases a <;> simp [Shape.size] <;> omega⟩⟩,
    ⟨S1x1, extractStridedSlice S1x1 ![0, 80 + m.val] c ⟨rfl, fun a => by fin_cases a <;> simp [Shape.size] <;> omega⟩⟩,
    ⟨S1x21, broadcast S1x21 (zf (F := F))⟩] concatenates_S1x10_S1x1_S1x21_S1x32_d1

theorem cat80 {α : Type} (f : Fin 80 → S1x32.Idx → α) :
    Shape.Concatenates ((List.ofFn fun n => (⟨S1x32, f n⟩ : (s : Shape) × (s.Idx → α))).map (·.1)) S80x32 0 := by
  rw [List.map_ofFn]
  exact (by decide : Shape.Concatenates (List.ofFn fun _ : Fin 80 => S1x32) S80x32 0)

theorem cat8 {α : Type} (f : Fin 8 → S1x16.Idx → α) :
    Shape.Concatenates ((List.ofFn fun n => (⟨S1x16, f n⟩ : (s : Shape) × (s.Idx → α))).map (·.1)) S8x16 0 := by
  rw [List.map_ofFn]
  exact (by decide : Shape.Concatenates (List.ofFn fun _ : Fin 8 => S1x16) S8x16 0)

/-- The ten objects' first layers, one under the other. -/
def w1 (c : Fin 10 → FVec F S1x169 .f32) : FVec F S80x32 .f32 :=
  concatenate S80x32 0 (List.ofFn fun n : Fin 80 =>
    (⟨S1x32, l1row (c ⟨n.val / 8, by omega⟩) ⟨n.val % 8, by omega⟩⟩ : (s : Shape) × (s.Idx → F .f32))) (cat80 _)

/-- The column that is one at row `k` and zero elsewhere. -/
def e32 : FVec F S32x1 .f32 :=
  select (cmpi .eq (iota .tc S32x1 32 [0] iota_S32x1_d0_w32) (broadcast S32x1 10#32))
    (broadcast S32x1 (Scalar.ofBits .f32 0x3F800000#32 : F .f32)) (broadcast S32x1 (zf (F := F)))
def e16 : FVec F S16x1 .f32 :=
  select (cmpi .eq (iota .tc S16x1 32 [0] iota_S16x1_d0_w32) (broadcast S16x1 8#32))
    (broadcast S16x1 (Scalar.ofBits .f32 0x3F800000#32 : F .f32)) (broadcast S16x1 (zf (F := F)))

/-- The first layer's values of the ten objects at every place. -/
def x1 (c : Fin 10 → FVec F S1x169 .f32) (fa : FVec F S32x4096 .f32) : FVec F S80x4096 .f32 :=
  maximumf (addf (matmul dot_S80x32_S32x4096_S80x4096_1_0_0_1_n_n none (w1 c) fa (constant S80x4096 .f32 0x00000000#32))
      (broadcastTo S80x4096 (matmul dot_S80x32_S32x1_S80x1_1_0_0_1_n_n (some .fp32) (w1 c) e32 (constant S80x1 .f32 0x00000000#32)) broadcasts_S80x1_S80x4096))
    (broadcast S80x4096 (zf (F := F)))

/-- Row `m` of an object's second layer: eight weights, the bias, zeros. -/
def l2row (c : FVec F S1x169 .f32) (m : Fin 8) : FVec F S1x16 .f32 :=
  concatenate S1x16 1 [⟨S1x8, extractStridedSlice S1x8 ![0, 88 + 8 * m.val] c ⟨rfl, fun a => by fin_cases a <;> simp [Shape.size] <;> omega⟩⟩,
    ⟨S1x1, extractStridedSlice S1x1 ![0, 152 + m.val] c ⟨rfl, fun a => by fin_cases a <;> simp [Shape.size] <;> omega⟩⟩,
    ⟨S1x7, broadcast S1x7 (zf (F := F))⟩] concatenates_S1x8_S1x1_S1x7_S1x16_d1

/-- An object's second layer. -/
def w2 (c : FVec F S1x169 .f32) : FVec F S8x16 .f32 :=
  concatenate S8x16 0 (List.ofFn fun n : Fin 8 => (⟨S1x16, l2row c n⟩ : (s : Shape) × (s.Idx → F .f32))) (cat8 _)

/-- The second layer's values of an object, from its eight rows of the first's. -/
def x2 (c : FVec F S1x169 .f32) (y : FVec F S8x4096 .f32) : FVec F S8x4096 .f32 :=
  maximumf (addf (matmul dot_S8x16_S16x4096_S8x4096_1_0_0_1_n_n none (w2 c)
        (concatenate S16x4096 0 [⟨S8x4096, y⟩, ⟨S8x4096, broadcast S8x4096 (zf (F := F))⟩] concatenates_S8x4096_S8x4096_S16x4096_d0)
        (constant S8x4096 .f32 0x00000000#32))
      (broadcastTo S8x4096 (matmul dot_S8x16_S16x1_S8x1_1_0_0_1_n_n (some .fp32) (w2 c) e16 (constant S8x1 .f32 0x00000000#32)) broadcasts_S8x1_S8x4096))
    (broadcast S8x4096 (zf (F := F)))

/-- An object's probabilities at every place. -/
def probs (c : FVec F S1x169 .f32) (y : FVec F S8x4096 .f32) : FVec F S1x4096 .f32 :=
  logistic (addf (matmul dot_S1x9_S9x4096_S1x4096_1_0_0_1_n_n none
        (concatenate S1x9 1 [⟨S1x8, extractStridedSlice S1x8 ![0, 160] c slices_S1x169_o0_160_S1x8⟩,
          ⟨S1x1, extractStridedSlice S1x1 ![0, 168] c slices_S1x169_o0_168_S1x1⟩] concatenates_S1x8_S1x1_S1x9_d1)
        (concatenate S9x4096 0 [⟨S8x4096, x2 c y⟩, ⟨S1x4096, broadcast S1x4096 (zf (F := F))⟩] concatenates_S8x4096_S1x4096_S9x4096_d0)
        (constant S1x4096 .f32 0x00000000#32))
      (broadcastTo S1x4096 (extractStridedSlice S1x1 ![0, 168] c slices_S1x169_o0_168_S1x1) broadcasts_S1x1_S1x4096))

/-- Object `g`'s rows of the first layer. -/
def x1g (x : FVec F S80x4096 .f32) (g : Fin 10) : FVec F S8x4096 .f32 :=
  extractStridedSlice S8x4096 ![8 * g.val, 0] x ⟨rfl, fun a => by fin_cases a <;> simp [Shape.size] <;> omega⟩

/-- Row `r` of the picture of probabilities. -/
def prow (p : FVec F S1x4096 .f32) (r : Nat) (hr : r < 64) : FVec F S1x64 .f32 :=
  shapeCast S1x64 (extractStridedSlice S1x64 ![0, 64 * r] p ⟨rfl, fun a => by fin_cases a <;> simp [Shape.size] <;> omega⟩) shapeCasts_S1x64_S1x64

/-- The picture's rows upsampled. -/
def t1 (u : FVec F S512x64 .f32) (P : FVec F S64x64 .f32) : FVec F S512x64 .f32 :=
  matmul dot_S512x64_S64x64_S512x64_1_0_0_1_n_n (some .fp32) u P (constant S512x64 .f32 0x00000000#32)

/-- Whether object `g` of grid row `n` is a found one: `10 n + g < fn`. -/
def valid (i : grid0.Coords) (v3 : BitVec 32) (g : BitVec 32) : BitVec 1 :=
  Scalar.cmpi .slt (Scalar.addi (Scalar.muli (BitVec.ofNat 32 (i 1).val) 10#32) g) v3

/-- Block `k` of an object's mask, as words. -/
def oblk (t : FVec F S512x64 .f32) (ut : FVec F S64x512 .f32) (b : BitVec 1) (k : Nat) (hk : k < 8) : IVec S1x1x64x512 32 :=
  shapeCast S1x1x64x512 (extui 32 (andi (cmpf .ogt
      (matmul dot_S64x64_S64x512_S64x512_1_0_0_1_n_n (some .fp32)
        (extractStridedSlice S64x64 ![64 * k, 0] t ⟨rfl, fun a => by fin_cases a <;> simp [Shape.size] <;> omega⟩) ut (constant S64x512 .f32 0x00000000#32))
      (broadcast S64x512 (Scalar.ofBits .f32 0x3F000000#32 : F .f32))) (broadcast S64x512 b)) natLt_1_32) shapeCasts_S64x512_S1x1x64x512

/-! ## The program -/

/-- The place in the list of objects that object `g` of the grid point reads. -/
def offI (i : grid0.Coords) (g : BitVec 32) : Fin 3 → Nat :=
  ![0, 0, (Scalar.indexCast (Scalar.addi (Scalar.muli (BitVec.ofNat 32 (i 1).val) 10#32) g) : Index).toNat]

theorem offI_inb (i : grid0.Coords) (g : Fin 10) : ∀ a, offI i (BitVec.ofNat 32 g.val) a + S1x1x1.size a ≤ S1x1x1000.size a := by
  revert i g; decide +kernel

abbrev PE (F : FTy → Type) [FloatOps F] (α : Type) := Prog (TpuEff nD τ sig (Elt F) Λ₀ .tc) α

section
variable (i : grid0.Coords) (arg2 : Memref sig .tc .vmem S1x5000x169 .f32) (arg3 : Memref sig .tc .vmem S1x32x4096 .f32)
  (arg4 : Memref sig .tc .vmem S512x64 .f32) (arg5 : Memref sig .tc .vmem S64x512 .f32) (arg6 : Memref sig .tc .smem S1x1x1000 .i32)
  (arg7 : Memref sig .tc .smem S4x1 .i32) (arg8 : Memref sig .tc .vmem S1x10x512x512 .i32) (arg9 : Memref sig .tc .vmem S64x64 .f32)

/-- Object `g`'s controller: its index read, its row loaded. -/
def ldctl (g : Fin 10) : PE F (FVec F S1x169 .f32) := do
  let v : Elt F .i32 ← smemLoad arg6 (Rect.unit (s := S1x1x1000) (offI i (BitVec.ofNat 32 g.val)) S1x1x1.size (offI_inb i g)) numel1_S1x1x1 rfl
  have hw : k0_chk1 v := (← Prog.lift (TpuEff.assume (k0_chk1 v) (k0_chk1.dec v))).down
  let x : Vec F S1x1x169 .f32 ← Prog.lift (.load arg2 (Rect.unit (s := S1x5000x169) (k0_off3 v) S1x1x169.size (k0_off3_inb v hw)).toLoadRect (View.loadsAt_vmem h_S1x1x169))
  pure (shapeCast S1x169 x shapeCasts_S1x1x169_S1x169)

/-- Row `r` of the picture stored. -/
def strow (p : FVec F S1x4096 .f32) (r : Nat) (hr : r < 64) : PE F PUnit := do
  let v : Vec F S1x64 .f32 ← Prog.lift (.load arg9 (Rect.unit (s := S64x64) ![r, 0] S1x64.size (fun a => by fin_cases a <;> simp [Shape.size] <;> omega)).toLoadRect (View.loadsAt_vmem h_S1x64))
  Prog.lift (.store arg9 (Rect.unit (s := S64x64) ![r, 0] S1x64.size (fun a => by fin_cases a <;> simp [Shape.size] <;> omega)) (prow p r hr) Finset.univ (View.stores_vmem_bits_univ h_S1x64 rfl) (.inl rfl))

/-- `n` rows stored from row `s` on. -/
def strows (p : FVec F S1x4096 .f32) : (n s : Nat) → n + s ≤ 64 → PE F PUnit
  | 0, _, _ => pure ⟨⟩
  | n + 1, s, h => do
    strow arg9 p s (by omega)
    strows p n (s + 1) (by omega)

/-- Block `k` of object `g`'s mask stored. -/
def stblk (g : Fin 10) (t : FVec F S512x64 .f32) (ut : FVec F S64x512 .f32) (b : BitVec 1) (k : Nat) (hk : k < 8) : PE F PUnit := do
  let v : Vec F S1x1x64x512 .i32 ← Prog.lift (.load arg8 (Rect.unit (s := S1x10x512x512) ![0, g.val, 64 * k, 0] S1x1x64x512.size (fun a => by fin_cases a <;> simp [Shape.size] <;> omega)).toLoadRect (View.loadsAt_vmem h_S1x1x64x512))
  Prog.lift (.store arg8 (Rect.unit (s := S1x10x512x512) ![0, g.val, 64 * k, 0] S1x1x64x512.size (fun a => by fin_cases a <;> simp [Shape.size] <;> omega)) (oblk t ut b k hk) Finset.univ (View.stores_vmem_bits_univ h_S1x1x64x512 rfl) (.inl rfl))

/-- `n` blocks stored from block `s` on. -/
def stblks (g : Fin 10) (t : FVec F S512x64 .f32) (ut : FVec F S64x512 .f32) (b : BitVec 1) : (n s : Nat) → n + s ≤ 8 → PE F PUnit
  | 0, _, _ => pure ⟨⟩
  | n + 1, s, h => do
    stblk arg8 g t ut b s (by omega)
    stblks g t ut b n (s + 1) (by omega)

/-- One object: its picture stored, loaded back whole, upsampled and stored. -/
def obj (v3 : BitVec 32) (c : Fin 10 → FVec F S1x169 .f32) (x : FVec F S80x4096 .f32) (u : FVec F S512x64 .f32) (ut : FVec F S64x512 .f32) (g : Fin 10) : PE F PUnit := do
  strows arg9 (probs (c g) (x1g x g)) 64 0 (by omega)
  let P : Vec F S64x64 .f32 ← Prog.lift (.load arg9 (Rect.unit (s := S64x64) ![0, 0] S64x64.size inb_S64x64_S64x64_0_0).toLoadRect (View.loadsAt_vmem h_S64x64))
  stblks arg8 g (t1 u P) ut (valid i v3 (BitVec.ofNat 32 g.val)) 8 0 (by omega)

/-- `n` objects from object `s` on. -/
def objs (v3 : BitVec 32) (c : Fin 10 → FVec F S1x169 .f32) (x : FVec F S80x4096 .f32) (u : FVec F S512x64 .f32) (ut : FVec F S64x512 .f32) : (n s : Nat) → n + s ≤ 10 → PE F PUnit
  | 0, _, _ => pure ⟨⟩
  | n + 1, s, h => do
    obj i arg8 arg9 v3 c x u ut ⟨s, by omega⟩
    objs v3 c x u ut n (s + 1) (by omega)

/-- The body. -/
def body : PE F PUnit := do
  let v0 : Vec F S1x32x4096 .f32 ← Prog.lift (.load arg3 (Rect.unit (s := S1x32x4096) ![0, 0, 0] S1x32x4096.size inb_S1x32x4096_S1x32x4096_0_0_0).toLoadRect (View.loadsAt_vmem h_S1x32x4096))
  let v3 : Elt F .i32 ← smemLoad arg7 (Rect.unit (s := S4x1) (k0_off1 i) S1x1.size (k0_off1_inb i)) numel1_S1x1 rfl
  let c0 ← ldctl i arg2 arg6 0
  let c1 ← ldctl i arg2 arg6 1
  let c2 ← ldctl i arg2 arg6 2
  let c3 ← ldctl i arg2 arg6 3
  let c4 ← ldctl i arg2 arg6 4
  let c5 ← ldctl i arg2 arg6 5
  let c6 ← ldctl i arg2 arg6 6
  let c7 ← ldctl i arg2 arg6 7
  let c8 ← ldctl i arg2 arg6 8
  let c9 ← ldctl i arg2 arg6 9
  let u : Vec F S512x64 .f32 ← Prog.lift (.load arg4 (Rect.unit (s := S512x64) ![0, 0] S512x64.size inb_S512x64_S512x64_0_0).toLoadRect (View.loadsAt_vmem h_S512x64))
  let ut : Vec F S64x512 .f32 ← Prog.lift (.load arg5 (Rect.unit (s := S64x512) ![0, 0] S64x512.size inb_S64x512_S64x512_0_0).toLoadRect (View.loadsAt_vmem h_S64x512))
  objs i arg8 arg9 v3 ![c0, c1, c2, c3, c4, c5, c6, c7, c8, c9]
    (x1 ![c0, c1, c2, c3, c4, c5, c6, c7, c8, c9] (shapeCast S32x4096 v0 shapeCasts_S1x32x4096_S32x4096))
    (shapeCast S512x64 u shapeCasts_S512x64_S512x64) (shapeCast S64x512 ut shapeCasts_S64x512_S64x512) 10 0 (by omega)

end

/-- The printed body is the program above. -/
theorem body_eq (i : grid0.Coords) (arg2 : Memref sig .tc .vmem S1x5000x169 .f32) (h2 : arg2.IsWhole) (arg3 : Memref sig .tc .vmem S1x32x4096 .f32) (h3 : arg3.IsWhole)
    (arg4 : Memref sig .tc .vmem S512x64 .f32) (h4 : arg4.IsWhole) (arg5 : Memref sig .tc .vmem S64x512 .f32) (h5 : arg5.IsWhole) (arg6 : Memref sig .tc .smem S1x1x1000 .i32) (h6 : arg6.IsWhole)
    (arg7 : Memref sig .tc .smem S4x1 .i32) (h7 : arg7.IsWhole) (arg8 : Memref sig .tc .vmem S1x10x512x512 .i32) (h8 : arg8.IsWhole) (arg9 : Memref sig .tc .vmem S64x64 .f32) (h9 : arg9.IsWhole) :
    cc0__masks_body (F := F) i arg2 h2 arg3 h3 arg4 h4 arg5 h5 arg6 h6 arg7 h7 arg8 h8 arg9 h9 = body i arg2 arg3 arg4 arg5 arg6 arg7 arg8 arg9 := by
  sl_kernel_rfl

end Cert.Proof.Ideal

end
-- ==== Proof.Triple.lean ====
/-
  What one run of the masks kernel's body leaves.

  Over the staging buffers' contents: the output block is `outv` of the inputs' blocks, whatever it and the
  scratch held before (`sound_body`), provided the ten list entries the point reads name rows of the controllers.
-/
module

public import proofs.«01_k».proof.Proof.Struct
public import Idealize.ShloMosaic.Lib.Pipeline.FrameBody
public import Idealize.ShloMosaic.Lib.Tactic
public import Idealize.ShloMosaic.Lib.Pointwise
public import proofs.«01_k».proof.Proof.Gen.MasksIdeal.Launch

@[expose] public section

set_option maxRecDepth 16384

noncomputable section

namespace Cert.Proof.Ideal

open Cert.MasksIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The values the body leaves -/

/-- The list entry object `g` of the grid point reads. -/
def word (ti : Vec F S1x1x1000 .i32) (i : grid0.Coords) (g : Fin 10) : BitVec 32 :=
  ti (ix3 (0 : Fin 1) (0 : Fin 1) (⟨10 * (i 1).val + g.val, by have h : (i 1).val < 10 := (i 1).isLt; omega⟩ : Fin 1000))

/-- The controller of the row a list entry names. -/
def ctlv (X : Vec F S1x5000x169 .f32) (v : BitVec 32) : FVec F S1x169 .f32 :=
  fun y => X (ix3 (0 : Fin 1) (⟨v.toNat % 5000, Nat.mod_lt _ (by decide)⟩ : Fin 5000) (y 1 : Fin 169))

/-- The ten controllers of a grid point. -/
def ctls (X : Vec F S1x5000x169 .f32) (ti : Vec F S1x1x1000 .i32) (i : grid0.Coords) : Fin 10 → FVec F S1x169 .f32 :=
  fun g => ctlv X (word ti i g)

/-- The number of found objects of the grid point's image. -/
def fnv (fn : Vec F S4x1 .i32) (i : grid0.Coords) : BitVec 32 :=
  fn (ix2 (⟨(i 0).val, (i 0).isLt⟩ : Fin 4) (0 : Fin 1))

/-- The probabilities as a picture. -/
def pict (p : FVec F S1x4096 .f32) : FVec F S64x64 .f32 :=
  fun y => prow p (y 0).val (y 0).isLt (ix2 (0 : Fin 1) (y 1 : Fin 64))

/-- Object `g`'s mask at row `a` and column `b`, as a word. -/
def omask (i : grid0.Coords) (v3 : BitVec 32) (c : Fin 10 → FVec F S1x169 .f32) (x : FVec F S80x4096 .f32) (u : FVec F S512x64 .f32)
    (ut : FVec F S64x512 .f32) (g : Fin 10) (a b : Fin 512) : BitVec 32 :=
  oblk (t1 u (pict (probs (c g) (x1g x g)))) ut (valid i v3 (BitVec.ofNat 32 g.val)) (a.val / 64) (by omega)
    (ix4 (0 : Fin 1) (0 : Fin 1) (⟨a.val % 64, by omega⟩ : Fin 64) b)

/-- The output block of a grid point. -/
def outv (i : grid0.Coords) (X : Vec F S1x5000x169 .f32) (fa : Vec F S1x32x4096 .f32) (u : Vec F S512x64 .f32) (ut : Vec F S64x512 .f32)
    (ti : Vec F S1x1x1000 .i32) (fn : Vec F S4x1 .i32) : Vec F S1x10x512x512 .i32 :=
  fun y => omask i (fnv fn i) (ctls X ti i) (x1 (ctls X ti i) (shapeCast S32x4096 fa shapeCasts_S1x32x4096_S32x4096)) u ut (y 1) (y 2) (y 3)

/-! ## The steps -/

/-- A row written over a picture, read in that row. -/
theorem row_hit {Val : EltTy → Type} {sg : RefSig} {κ : Kind} {sp : Space} (v : View sg κ sp S64x64 .f32) (f : v.ty.Contents Val) (r : Nat)
    (inb : ∀ a, (![r, 0] : Fin 2 → Nat) a + S1x64.size a ≤ S64x64.size a) (w : S1x64.Idx → Val .f32) (y : S64x64.Idx) (h : (y 0).val = r) :
    v.read Val (v.writes Val f [⟨Rect.unit (s := S64x64) ![r, 0] S1x64.size inb, w⟩]) y = w (ix2 (0 : Fin 1) (y 1 : Fin 64)) := by
  refine View.read_writes_cons_hit_of_coords v f (Rect.unit (s := S64x64) ![r, 0] S1x64.size inb) w [] (ix2 (0 : Fin 1) (y 1 : Fin 64)) y ?_
  intro a
  match a with
  | ⟨0, _⟩ => show (y 0).val = r + 1 * 0; omega
  | ⟨1, _⟩ => show (y 1).val = 0 + 1 * (y 1).val; omega

section
variable (c : Dev nD) (E : Set ℕ) (i : grid0.Coords)

/-- The scratch's first `s` rows hold the picture's. -/
def Rows (p : FVec F S1x4096 .f32) (s : Nat) (Y : Vec F S64x64 .f32) : Prop := ∀ y : S64x64.Idx, (y 0).val < s → Y y = pict p y

/-- One row stored. -/
theorem strow_wp (arg9 : Memref sig .tc .vmem S64x64 .f32) (p : FVec F S1x4096 .f32) (r : Nat) (hr : r < 64) (Y : Vec F S64x64 .f32)
    (hY : Rows p r Y) (K : PUnit → sProp 𝕄) :
    iprop(owns (c : Thread nD τ) arg9 fullShare Y ∗ (∀ Y', ⌜Rows p (r + 1) Y'⌝ -∗ owns (c : Thread nD τ) arg9 fullShare Y' -∗ K ⟨⟩))
      ⊢ wp frame (wpE (defs₀ (F := F)) Variants.none c none) E (strow arg9 p r hr) K := by
  unfold owns strow
  iintro ⟨⟨%f, %hf, H⟩, Hk⟩
  subst hf
  sl_exec
  sl_step
  iapply Hk $$ [] [H]
  rotate_left
  · iexists _; isplitr; swap; · iexact H
    ipureintro; rfl
  ipureintro
  intro y hy
  by_cases h : (y 0).val < r
  · refine (View.read_writes_cons_miss_of_axis _ _ _ [] y 0 r 1 rfl rfl rfl (Or.inl h)).trans (hY y h)
  · obtain rfl : r = (y 0).val := by omega
    exact row_hit _ _ _ _ _ y rfl

/-- Rows stored one after another. -/
theorem strows_wp (arg9 : Memref sig .tc .vmem S64x64 .f32) (p : FVec F S1x4096 .f32) (n s : Nat) (h : n + s ≤ 64) (Y : Vec F S64x64 .f32)
    (hY : Rows p s Y) (K : PUnit → sProp 𝕄) :
    iprop(owns (c : Thread nD τ) arg9 fullShare Y ∗ (∀ Y', ⌜Rows p (n + s) Y'⌝ -∗ owns (c : Thread nD τ) arg9 fullShare Y' -∗ K ⟨⟩))
      ⊢ wp frame (wpE (defs₀ (F := F)) Variants.none c none) E (strows arg9 p n s h) K := by
  induction n generalizing s Y with
  | zero =>
    unfold strows
    iintro ⟨H, Hk⟩
    sl_step
    iapply Hk $$ [] H
    ipureintro
    rwa [Nat.zero_add]
  | succ n ih =>
    unfold strows
    rw [wp_bind]
    iintro ⟨H, Hk⟩
    iapply (strow_wp c E arg9 p s _ Y hY)
    isplitl [H]; · iexact H
    iintro %Y' %hY' H
    iapply (ih (s + 1) _ Y' hY')
    isplitl [H]; · iexact H
    rw [show n + 1 + s = n + (s + 1) by omega]
    iexact Hk

/-- A block written over the masks, read in that block. -/
theorem blk_hit {Val : EltTy → Type} {sg : RefSig} {κ : Kind} {sp : Space} (v : View sg κ sp S1x10x512x512 .i32) (f : v.ty.Contents Val) (g k : Nat)
    (inb : ∀ a, (![0, g, 64 * k, 0] : Fin 4 → Nat) a + S1x1x64x512.size a ≤ S1x10x512x512.size a) (w : S1x1x64x512.Idx → Val .i32)
    (y : S1x10x512x512.Idx) (h1 : (y 1).val = g) (h2 : (y 2).val / 64 = k) :
    v.read Val (v.writes Val f [⟨Rect.unit (s := S1x10x512x512) ![0, g, 64 * k, 0] S1x1x64x512.size inb, w⟩]) y
      = w (ix4 (0 : Fin 1) (0 : Fin 1) (⟨(y 2).val % 64, by omega⟩ : Fin 64) (y 3 : Fin 512)) := by
  refine View.read_writes_cons_hit_of_coords v f (Rect.unit (s := S1x10x512x512) ![0, g, 64 * k, 0] S1x1x64x512.size inb) w []
    (ix4 (0 : Fin 1) (0 : Fin 1) (⟨(y 2).val % 64, by omega⟩ : Fin 64) (y 3 : Fin 512)) y ?_
  intro a
  match a with
  | ⟨0, _⟩ => show (y 0).val = 0 + 1 * 0; have h : (y 0).val < 1 := (y 0).isLt; omega
  | ⟨1, _⟩ => show (y 1).val = g + 1 * 0; omega
  | ⟨2, _⟩ => show (y 2).val = 64 * k + 1 * ((y 2).val % 64); omega
  | ⟨3, _⟩ => show (y 3).val = 0 + 1 * (y 3).val; omega

/-- A block written over the masks, read outside it. -/
theorem blk_miss {Val : EltTy → Type} {sg : RefSig} {κ : Kind} {sp : Space} (v : View sg κ sp S1x10x512x512 .i32) (f : v.ty.Contents Val) (g k : Nat)
    (inb : ∀ a, (![0, g, 64 * k, 0] : Fin 4 → Nat) a + S1x1x64x512.size a ≤ S1x10x512x512.size a) (w : S1x1x64x512.Idx → Val .i32)
    (y : S1x10x512x512.Idx) (h : (y 1).val < g ∨ (y 2).val < 64 * k) :
    v.read Val (v.writes Val f [⟨Rect.unit (s := S1x10x512x512) ![0, g, 64 * k, 0] S1x1x64x512.size inb, w⟩]) y = v.read Val f y := by
  rcases h with h | h
  · exact View.read_writes_cons_miss_of_axis v f _ [] y 1 g 1 rfl rfl rfl (Or.inl h)
  · exact View.read_writes_cons_miss_of_axis v f _ [] y 2 (64 * k) 64 rfl rfl rfl (Or.inl h)

/-- The first `k` blocks of object `g`, and every object before it, hold `G`'s. -/
def Blks (G : Vec F S1x10x512x512 .i32) (g k : Nat) (Y : Vec F S1x10x512x512 .i32) : Prop :=
  ∀ y : S1x10x512x512.Idx, ((y 1).val < g ∨ ((y 1).val = g ∧ (y 2).val < 64 * k)) → Y y = G y

/-- `G` at object `g` is what the blocks of `t`, `ut` and `b` say. -/
def IsObj (G : Vec F S1x10x512x512 .i32) (g : Fin 10) (t : FVec F S512x64 .f32) (ut : FVec F S64x512 .f32) (b : BitVec 1) : Prop :=
  ∀ (a b' : Fin 512), G (ix4 (0 : Fin 1) g a b')
    = oblk t ut b (a.val / 64) (by omega) (ix4 (0 : Fin 1) (0 : Fin 1) (⟨a.val % 64, by omega⟩ : Fin 64) b')

/-- One block stored. -/
theorem stblk_wp (arg8 : Memref sig .tc .vmem S1x10x512x512 .i32) (G : Vec F S1x10x512x512 .i32) (g : Fin 10) (t : FVec F S512x64 .f32)
    (ut : FVec F S64x512 .f32) (b : BitVec 1) (hG : IsObj G g t ut b) (k : Nat) (hk : k < 8) (Y : Vec F S1x10x512x512 .i32)
    (hY : Blks G g.val k Y) (K : PUnit → sProp 𝕄) :
    iprop(owns (c : Thread nD τ) arg8 fullShare Y ∗ (∀ Y', ⌜Blks G g.val (k + 1) Y'⌝ -∗ owns (c : Thread nD τ) arg8 fullShare Y' -∗ K ⟨⟩))
      ⊢ wp frame (wpE (defs₀ (F := F)) Variants.none c none) E (stblk arg8 g t ut b k hk) K := by
  unfold owns stblk
  iintro ⟨⟨%f, %hf, H⟩, Hk⟩
  subst hf
  sl_exec
  sl_step
  iapply Hk $$ [] [H]
  rotate_left
  · iexists _; isplitr; swap; · iexact H
    ipureintro; rfl
  ipureintro
  intro y hy
  by_cases h : (y 1).val < g.val ∨ (y 2).val < 64 * k
  · exact (blk_miss _ _ _ _ _ _ y h).trans (hY y (by omega))
  · have hg : (y 1).val = g.val := by omega
    obtain rfl : (y 2).val / 64 = k := by omega
    have he : y = ix4 (0 : Fin 1) g (y 2 : Fin 512) (y 3 : Fin 512) := by
      idx_vars y
      obtain rfl := Fin.ext hg
      congr 1
      exact Subsingleton.elim _ _
    refine (blk_hit _ _ _ _ _ _ y hg rfl).trans ?_
    exact (hG (y 2) (y 3)).symm.trans (congrArg G he.symm)

/-- Blocks stored one after another. -/
theorem stblks_wp (arg8 : Memref sig .tc .vmem S1x10x512x512 .i32) (G : Vec F S1x10x512x512 .i32) (g : Fin 10) (t : FVec F S512x64 .f32)
    (ut : FVec F S64x512 .f32) (b : BitVec 1) (hG : IsObj G g t ut b) (n s : Nat) (h : n + s ≤ 8) (Y : Vec F S1x10x512x512 .i32)
    (hY : Blks G g.val s Y) (K : PUnit → sProp 𝕄) :
    iprop(owns (c : Thread nD τ) arg8 fullShare Y ∗ (∀ Y', ⌜Blks G g.val (n + s) Y'⌝ -∗ owns (c : Thread nD τ) arg8 fullShare Y' -∗ K ⟨⟩))
      ⊢ wp frame (wpE (defs₀ (F := F)) Variants.none c none) E (stblks arg8 g t ut b n s h) K := by
  induction n generalizing s Y with
  | zero =>
    unfold stblks
    iintro ⟨H, Hk⟩
    sl_step
    iapply Hk $$ [] H
    ipureintro
    rwa [Nat.zero_add]
  | succ n ih =>
    unfold stblks
    rw [wp_bind]
    iintro ⟨H, Hk⟩
    iapply (stblk_wp c E arg8 G g t ut b hG s _ Y hY)
    isplitl [H]; · iexact H
    iintro %Y' %hY' H
    iapply (ih (s + 1) _ Y' hY')
    isplitl [H]; · iexact H
    rw [show n + 1 + s = n + (s + 1) by omega]
    iexact Hk

/-- A whole picture read back. -/
theorem whole_read {Val : EltTy → Type} {sg : RefSig} {κ : Kind} {sp : Space} {e : EltTy} (m : Memref sg κ sp S64x64 e) (f : m.view.ty.Contents Val)
    (inb : ∀ a, (![0, 0] : Fin 2 → Nat) a + S64x64.size a ≤ S64x64.size a) :
    (m.view.readAt Val (Rect.unit (s := S64x64) ![0, 0] S64x64.size inb).toLoadRect f : S64x64.Idx → Val e) = m.view.read Val f := by
  have h : ∀ y : S64x64.Idx, (Rect.unit (s := S64x64) ![0, 0] S64x64.size inb).emb y = y := fun y => Rect.emb_eq_of_coords _ _ _ (fun a => by
    match a with
    | ⟨0, _⟩ => show (y 0).val = 0 + 1 * (y 0).val; omega
    | ⟨1, _⟩ => show (y 1).val = 0 + 1 * (y 1).val; omega)
  funext y
  exact congrArg (m.view.read Val f) (h y)

theorem whole_load (arg9 : Memref sig .tc .vmem S64x64 .f32) (Y : Vec F S64x64 .f32) (h9 : ∀ a, (![0, 0] : Fin 2 → Nat) a + S64x64.size a ≤ S64x64.size a)
    (hl : arg9.view.LoadsAt (Rect.unit (s := S64x64) ![0, 0] S64x64.size h9).toLoadRect) (K : Vec F S64x64 .f32 → sProp 𝕄) :
    iprop(owns (c : Thread nD τ) arg9 fullShare Y ∗ (owns (c : Thread nD τ) arg9 fullShare Y -∗ K Y))
      ⊢ wp frame (wpE (defs₀ (F := F)) Variants.none c none) E (Prog.lift (.load arg9 (Rect.unit (s := S64x64) ![0, 0] S64x64.size h9).toLoadRect hl)) K := by
  unfold owns
  iintro ⟨⟨%f, %hf, H⟩, Hk⟩
  subst hf
  sl_exec
  sl_step
  iapply (Entails.of_eq (congrArg K (whole_read arg9 f h9).symm))
  iapply Hk
  iexists f; isplitr; swap; · iexact H
  ipureintro; rfl

/-- One object. -/
theorem obj_wp (arg8 : Memref sig .tc .vmem S1x10x512x512 .i32) (arg9 : Memref sig .tc .vmem S64x64 .f32) (v3 : BitVec 32)
    (cs : Fin 10 → FVec F S1x169 .f32) (x : FVec F S80x4096 .f32) (u : FVec F S512x64 .f32) (ut : FVec F S64x512 .f32)
    (G : Vec F S1x10x512x512 .i32) (g : Fin 10)
    (hG : IsObj G g (t1 u (pict (probs (cs g) (x1g x g)))) ut (valid i v3 (BitVec.ofNat 32 g.val)))
    (Y8 : Vec F S1x10x512x512 .i32) (hY : Blks G g.val 0 Y8) (K : PUnit → sProp 𝕄) :
    iprop((∃ Y9, owns (c : Thread nD τ) arg9 fullShare Y9) ∗ owns (c : Thread nD τ) arg8 fullShare Y8
        ∗ (∀ Y', ⌜Blks G (g.val + 1) 0 Y'⌝ -∗ (∃ Y9, owns (c : Thread nD τ) arg9 fullShare Y9) -∗ owns (c : Thread nD τ) arg8 fullShare Y' -∗ K ⟨⟩))
      ⊢ wp frame (wpE (defs₀ (F := F)) Variants.none c none) E (obj i arg8 arg9 v3 cs x u ut g) K := by
  unfold obj
  rw [wp_bind]
  iintro ⟨⟨%Y9, H9⟩, H8, Hk⟩
  iapply (strows_wp c E arg9 (probs (cs g) (x1g x g)) 64 0 _ Y9 (fun y hy => absurd hy (Nat.not_lt_zero _)))
  isplitl [H9]; · iexact H9
  iintro %Y9' %h9 H9
  have e9 : Y9' = pict (probs (cs g) (x1g x g)) := funext fun y => h9 y (y 0).isLt
  subst e9
  rw [wp_bind]
  iapply (whole_load c E arg9 (pict (probs (cs g) (x1g x g))) _ _ _)
  isplitl [H9]; · iexact H9
  iintro H9
  iapply (stblks_wp c E arg8 G g _ ut _ hG 8 0 _ Y8 hY)
  isplitl [H8]; · iexact H8
  iintro %Y' %h8 H8
  iapply Hk $$ [] [H9] H8
  · ipureintro
    intro y hy
    have h512 : (y 2).val < 512 := (y 2).isLt
    exact h8 y (by omega)
  · iexists _; iexact H9

/-- The objects one after another. -/
theorem objs_wp (arg8 : Memref sig .tc .vmem S1x10x512x512 .i32) (arg9 : Memref sig .tc .vmem S64x64 .f32) (v3 : BitVec 32)
    (cs : Fin 10 → FVec F S1x169 .f32) (x : FVec F S80x4096 .f32) (u : FVec F S512x64 .f32) (ut : FVec F S64x512 .f32)
    (G : Vec F S1x10x512x512 .i32)
    (hG : ∀ g, IsObj G g (t1 u (pict (probs (cs g) (x1g x g)))) ut (valid i v3 (BitVec.ofNat 32 g.val)))
    (n s : Nat) (h : n + s ≤ 10) (Y8 : Vec F S1x10x512x512 .i32) (hY : Blks G s 0 Y8) (K : PUnit → sProp 𝕄) :
    iprop((∃ Y9, owns (c : Thread nD τ) arg9 fullShare Y9) ∗ owns (c : Thread nD τ) arg8 fullShare Y8
        ∗ (∀ Y', ⌜Blks G (n + s) 0 Y'⌝ -∗ (∃ Y9, owns (c : Thread nD τ) arg9 fullShare Y9) -∗ owns (c : Thread nD τ) arg8 fullShare Y' -∗ K ⟨⟩))
      ⊢ wp frame (wpE (defs₀ (F := F)) Variants.none c none) E (objs i arg8 arg9 v3 cs x u ut n s h) K := by
  induction n generalizing s Y8 with
  | zero =>
    unfold objs
    iintro ⟨H9, H8, Hk⟩
    sl_step
    iapply Hk $$ [] H9 H8
    ipureintro
    rwa [Nat.zero_add]
  | succ n ih =>
    unfold objs
    rw [wp_bind]
    iintro ⟨H9, H8, Hk⟩
    iapply (obj_wp c E i arg8 arg9 v3 cs x u ut G ⟨s, _⟩ (hG _) Y8 hY)
    isplitl [H9]; · iexact H9
    isplitl [H8]; · iexact H8
    iintro %Y' %hY' H9 H8
    iapply (ih (s + 1) _ Y' hY')
    isplitl [H9]; · iexact H9
    isplitl [H8]; · iexact H8
    rw [show n + 1 + s = n + (s + 1) by omega]
    iexact Hk

/-- A row of the controllers, read where a checked list entry names it, is that entry's controller. -/
theorem ctl_read (X : Vec F S1x5000x169 .f32) (v : BitVec 32) (h : k0_chk1 v) :
    shapeCast S1x169 (fun z : S1x1x169.Idx => X ((Rect.unit (s := S1x5000x169) (k0_off3 v) S1x1x169.size (k0_off3_inb v h)).emb z)) shapeCasts_S1x1x169_S1x169
      = ctlv X v := by
  funext y
  idx_vars y
  pointwise
  unfold ctlv
  congr 1
  have h1 : (v.toNat : ℕ) + 1 ≤ 5000 := h 1
  refine Rect.emb_eq_of_coords _ _ _ (fun a => ?_)
  match a with
  | ⟨0, _⟩ => rfl
  | ⟨1, _⟩ => show v.toNat % 5000 = v.toNat + 1 * 0; omega
  | ⟨2, _⟩ => show y1.val = 0 + 1 * y1.val; omega

/-- Where object `g`'s list entry lies. -/
theorem offI_eq : ∀ (i : grid0.Coords) (g : Fin 10), offI i (BitVec.ofNat 32 g.val) = ![0, 0, 10 * (i 1).val + g.val] := by decide +kernel

theorem word_read (ti : Vec F S1x1x1000 .i32) (g : Fin 10) (z : S1x1x1.Idx) :
    ti ((Rect.unit (s := S1x1x1000) (offI i (BitVec.ofNat 32 g.val)) S1x1x1.size (offI_inb i g)).emb z) = word ti i g := by
  idx_vars z
  unfold word
  congr 1
  have e := offI_eq i g
  refine Rect.emb_eq_of_coords _ _ _ (fun a => ?_)
  have ea := congrFun e a
  match a with
  | ⟨0, _⟩ => show 0 = offI i (BitVec.ofNat 32 g.val) 0 + 1 * z0.val; rw [e]; show 0 = 0 + 1 * z0.val; omega
  | ⟨1, _⟩ => show 0 = offI i (BitVec.ofNat 32 g.val) 1 + 1 * z1.val; rw [e]; show 0 = 0 + 1 * z1.val; omega
  | ⟨2, _⟩ => show 10 * (i 1).val + g.val = offI i (BitVec.ofNat 32 g.val) 2 + 1 * z2.val; rw [e]; show _ = (10 * (i 1).val + g.val) + 1 * z2.val; omega

/-- Where the grid point's number of found objects lies. -/
theorem off1_eq : ∀ i : grid0.Coords, k0_off1 i = ![(i 0).val, 0] := by decide +kernel

theorem fn_read (fn : Vec F S4x1 .i32) (z : S1x1.Idx) :
    fn ((Rect.unit (s := S4x1) (k0_off1 i) S1x1.size (k0_off1_inb i)).emb z) = fnv fn i := by
  idx_vars z
  unfold fnv
  congr 1
  have e := off1_eq i
  refine Rect.emb_eq_of_coords _ _ _ (fun a => ?_)
  match a with
  | ⟨0, _⟩ => show (i 0).val = k0_off1 i 0 + 1 * z0.val; rw [e]; show _ = (i 0).val + 1 * z0.val; omega
  | ⟨1, _⟩ => show 0 = k0_off1 i 1 + 1 * z1.val; rw [e]; show 0 = 0 + 1 * z1.val; omega

/-- One controller: its entry read, its row loaded. -/
theorem ldctl_wp (arg2 : Memref sig .tc .vmem S1x5000x169 .f32) (arg6 : Memref sig .tc .smem S1x1x1000 .i32)
    (X : Vec F S1x5000x169 .f32) (ti : Vec F S1x1x1000 .i32) (g : Fin 10) (hw : k0_chk1 (word ti i g)) (K : FVec F S1x169 .f32 → sProp 𝕄) :
    iprop(owns (c : Thread nD τ) arg2 fullShare X ∗ owns (c : Thread nD τ) arg6 fullShare ti
        ∗ (owns (c : Thread nD τ) arg2 fullShare X -∗ owns (c : Thread nD τ) arg6 fullShare ti -∗ K (ctls X ti i g)))
      ⊢ wp frame (wpE (defs₀ (F := F)) Variants.none c none) E (ldctl i arg2 arg6 g) K := by
  unfold ldctl owns
  iintro ⟨⟨%f, %hf, H⟩, ⟨%f6, %hf6, H6⟩, Hk⟩
  subst hf hf6
  have hw' : k0_chk1 ((arg6.access (Rect.unit (s := S1x1x1000) (offI i (BitVec.ofNat 32 g.val)) S1x1x1.size (offI_inb i g))).read (Elt F) f6
      (Shape.Idx.first (numel1_S1x1x1.symm ▸ Nat.one_pos))) := by
    rw [show (arg6.access (Rect.unit (s := S1x1x1000) (offI i (BitVec.ofNat 32 g.val)) S1x1x1.size (offI_inb i g))).read (Elt F) f6
      (Shape.Idx.first (numel1_S1x1x1.symm ▸ Nat.one_pos)) = word (arg6.view.read (Elt F) f6) i g from word_read i (arg6.view.read (Elt F) f6) g _]
    exact hw
  have e : _ = ctls (arg2.view.read (Elt F) f) (arg6.view.read (Elt F) f6) i g := (ctl_read (arg2.view.read (Elt F) f) _ hw').trans (congrArg (ctlv (arg2.view.read (Elt F) f)) (word_read i (arg6.view.read (Elt F) f6) g _))
  have hK := Entails.of_eq (congrArg K e.symm)
  sl_exec
  sl_step
  refine BIBase.Entails.trans ?_ hK
  iintro ⟨⟨H, H6⟩, Hk⟩
  iapply Hk $$ [H] [H6]
  · iexists f; isplitr; swap; · iexact H
    ipureintro; rfl
  · iexists f6; isplitr; swap; · iexact H6
    ipureintro; rfl

/-- A block loaded whole. -/
theorem fa_read {Val : EltTy → Type} {sg : RefSig} {κ : Kind} {sp : Space} {e : EltTy} (m : Memref sg κ sp S1x32x4096 e) (f : m.view.ty.Contents Val)
    (inb : ∀ a, (![0, 0, 0] : Fin 3 → Nat) a + S1x32x4096.size a ≤ S1x32x4096.size a) :
    (m.view.readAt Val (Rect.unit (s := S1x32x4096) ![0, 0, 0] S1x32x4096.size inb).toLoadRect f : S1x32x4096.Idx → Val e) = m.view.read Val f := by
  have h : ∀ y : S1x32x4096.Idx, (Rect.unit (s := S1x32x4096) ![0, 0, 0] S1x32x4096.size inb).emb y = y := fun y => Rect.emb_eq_of_coords _ _ _ (fun a => by
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega)
  funext y
  exact congrArg (m.view.read Val f) (h y)

theorem mat_read {Val : EltTy → Type} {sg : RefSig} {κ : Kind} {sp : Space} {e : EltTy} {p q : Nat} (m : Memref sg κ sp ⟨2, ![p, q]⟩ e) (f : m.view.ty.Contents Val)
    (inb : ∀ a, (![0, 0] : Fin 2 → Nat) a + (⟨2, ![p, q]⟩ : Shape).size a ≤ (⟨2, ![p, q]⟩ : Shape).size a) :
    (m.view.readAt Val (Rect.unit (s := ⟨2, ![p, q]⟩) ![0, 0] (⟨2, ![p, q]⟩ : Shape).size inb).toLoadRect f : (⟨2, ![p, q]⟩ : Shape).Idx → Val e) = m.view.read Val f := by
  have h : ∀ y : (⟨2, ![p, q]⟩ : Shape).Idx, (Rect.unit (s := ⟨2, ![p, q]⟩) ![0, 0] (⟨2, ![p, q]⟩ : Shape).size inb).emb y = y := fun y => Rect.emb_eq_of_coords _ _ _ (fun a => by
    match a with
    | ⟨0, _⟩ => show (y 0).val = 0 + 1 * (y 0).val; omega
    | ⟨1, _⟩ => show (y 1).val = 0 + 1 * (y 1).val; omega)
  funext y
  exact congrArg (m.view.read Val f) (h y)

theorem fa_wp (arg3 : Memref sig .tc .vmem S1x32x4096 .f32) (Y : Vec F S1x32x4096 .f32)
    (inb : ∀ a, (![0, 0, 0] : Fin 3 → Nat) a + S1x32x4096.size a ≤ S1x32x4096.size a)
    (hl : arg3.view.LoadsAt (Rect.unit (s := S1x32x4096) ![0, 0, 0] S1x32x4096.size inb).toLoadRect) (K : Vec F S1x32x4096 .f32 → sProp 𝕄) :
    iprop(owns (c : Thread nD τ) arg3 fullShare Y ∗ (owns (c : Thread nD τ) arg3 fullShare Y -∗ K Y))
      ⊢ wp frame (wpE (defs₀ (F := F)) Variants.none c none) E (Prog.lift (.load arg3 (Rect.unit (s := S1x32x4096) ![0, 0, 0] S1x32x4096.size inb).toLoadRect hl)) K := by
  unfold owns
  iintro ⟨⟨%f, %hf, H⟩, Hk⟩
  subst hf
  sl_exec
  sl_step
  iapply (Entails.of_eq (congrArg K (fa_read arg3 f inb).symm))
  iapply Hk
  iexists f; isplitr; swap; · iexact H
  ipureintro; rfl

theorem mat_wp {p q : Nat} (arg : Memref sig .tc .vmem ⟨2, ![p, q]⟩ .f32) (Y : Vec F ⟨2, ![p, q]⟩ .f32)
    (inb : ∀ a, (![0, 0] : Fin 2 → Nat) a + (⟨2, ![p, q]⟩ : Shape).size a ≤ (⟨2, ![p, q]⟩ : Shape).size a)
    (hl : arg.view.LoadsAt (Rect.unit (s := ⟨2, ![p, q]⟩) ![0, 0] (⟨2, ![p, q]⟩ : Shape).size inb).toLoadRect) (K : Vec F ⟨2, ![p, q]⟩ .f32 → sProp 𝕄) :
    iprop(owns (c : Thread nD τ) arg fullShare Y ∗ (owns (c : Thread nD τ) arg fullShare Y -∗ K Y))
      ⊢ wp frame (wpE (defs₀ (F := F)) Variants.none c none) E (Prog.lift (.load arg (Rect.unit (s := ⟨2, ![p, q]⟩) ![0, 0] (⟨2, ![p, q]⟩ : Shape).size inb).toLoadRect hl)) K := by
  unfold owns
  iintro ⟨⟨%f, %hf, H⟩, Hk⟩
  subst hf
  sl_exec
  sl_step
  refine BIBase.Entails.trans ?_ (Entails.of_eq (congrArg K (mat_read arg f inb).symm))
  iintro ⟨H, Hk⟩
  iapply Hk
  iexists f; isplitr; swap; · iexact H
  ipureintro; rfl

/-- The number of found objects loaded. -/
theorem fn_wp (arg7 : Memref sig .tc .smem S4x1 .i32) (Y : Vec F S4x1 .i32) (K : Elt F .i32 → sProp 𝕄) :
    iprop(owns (c : Thread nD τ) arg7 fullShare Y ∗ (owns (c : Thread nD τ) arg7 fullShare Y -∗ K (fnv Y i)))
      ⊢ wp frame (wpE (defs₀ (F := F)) Variants.none c none) E (smemLoad arg7 (Rect.unit (s := S4x1) (k0_off1 i) S1x1.size (k0_off1_inb i)) numel1_S1x1 rfl) K := by
  unfold owns
  iintro ⟨⟨%f, %hf, H⟩, Hk⟩
  subst hf
  have e := fn_read i (arg7.view.read (Elt F) f) (Shape.Idx.first (numel1_S1x1.symm ▸ Nat.one_pos))
  have hK := Entails.of_eq (congrArg K e.symm)
  sl_exec
  sl_step
  refine BIBase.Entails.trans ?_ hK
  iintro ⟨H, Hk⟩
  iapply Hk
  iexists f; isplitr; swap; · iexact H
  ipureintro; rfl

/-- The body's run: the inputs' blocks as they were, the output's at `outv` of them. -/
theorem sound_body (arg2 : Memref sig .tc .vmem S1x5000x169 .f32) (arg3 : Memref sig .tc .vmem S1x32x4096 .f32)
    (arg4 : Memref sig .tc .vmem S512x64 .f32) (arg5 : Memref sig .tc .vmem S64x512 .f32) (arg6 : Memref sig .tc .smem S1x1x1000 .i32)
    (arg7 : Memref sig .tc .smem S4x1 .i32) (arg8 : Memref sig .tc .vmem S1x10x512x512 .i32) (arg9 : Memref sig .tc .vmem S64x64 .f32)
    (X : Vec F S1x5000x169 .f32) (fa : Vec F S1x32x4096 .f32) (u : Vec F S512x64 .f32) (ut : Vec F S64x512 .f32)
    (ti : Vec F S1x1x1000 .i32) (fn : Vec F S4x1 .i32) (hw : ∀ g, k0_chk1 (word ti i g)) (K : PUnit → sProp 𝕄) :
    iprop(owns (c : Thread nD τ) arg2 fullShare X ∗ owns (c : Thread nD τ) arg3 fullShare fa ∗ owns (c : Thread nD τ) arg4 fullShare u
        ∗ owns (c : Thread nD τ) arg5 fullShare ut ∗ owns (c : Thread nD τ) arg6 fullShare ti ∗ owns (c : Thread nD τ) arg7 fullShare fn
        ∗ (∃ d, owns (c : Thread nD τ) arg8 fullShare d) ∗ (∃ d, owns (c : Thread nD τ) arg9 fullShare d)
        ∗ (owns (c : Thread nD τ) arg2 fullShare X -∗ owns (c : Thread nD τ) arg3 fullShare fa -∗ owns (c : Thread nD τ) arg4 fullShare u
        -∗ owns (c : Thread nD τ) arg5 fullShare ut -∗ owns (c : Thread nD τ) arg6 fullShare ti -∗ owns (c : Thread nD τ) arg7 fullShare fn
        -∗ owns (c : Thread nD τ) arg8 fullShare (outv i X fa u ut ti fn) -∗ (∃ d, owns (c : Thread nD τ) arg9 fullShare d) -∗ K ⟨⟩))
      ⊢ wp frame (wpE (defs₀ (F := F)) Variants.none c none) E (body i arg2 arg3 arg4 arg5 arg6 arg7 arg8 arg9) K := by
  unfold body
  simp only [wp_bind]
  iintro ⟨H2, H3, H4, H5, H6, H7, ⟨%d8, H8⟩, H9, Hk⟩
  iapply (fa_wp c E arg3 fa _ _ _)
  isplitl [H3]; · iexact H3
  iintro H3
  iapply (fn_wp c E i arg7 fn _)
  isplitl [H7]; · iexact H7
  iintro H7
  iapply (ldctl_wp c E i arg2 arg6 X ti 0 (hw 0) _)
  isplitl [H2]; · iexact H2
  isplitl [H6]; · iexact H6
  iintro H2 H6
  iapply (ldctl_wp c E i arg2 arg6 X ti 1 (hw 1) _)
  isplitl [H2]; · iexact H2
  isplitl [H6]; · iexact H6
  iintro H2 H6
  iapply (ldctl_wp c E i arg2 arg6 X ti 2 (hw 2) _)
  isplitl [H2]; · iexact H2
  isplitl [H6]; · iexact H6
  iintro H2 H6
  iapply (ldctl_wp c E i arg2 arg6 X ti 3 (hw 3) _)
  isplitl [H2]; · iexact H2
  isplitl [H6]; · iexact H6
  iintro H2 H6
  iapply (ldctl_wp c E i arg2 arg6 X ti 4 (hw 4) _)
  isplitl [H2]; · iexact H2
  isplitl [H6]; · iexact H6
  iintro H2 H6
  iapply (ldctl_wp c E i arg2 arg6 X ti 5 (hw 5) _)
  isplitl [H2]; · iexact H2
  isplitl [H6]; · iexact H6
  iintro H2 H6
  iapply (ldctl_wp c E i arg2 arg6 X ti 6 (hw 6) _)
  isplitl [H2]; · iexact H2
  isplitl [H6]; · iexact H6
  iintro H2 H6
  iapply (ldctl_wp c E i arg2 arg6 X ti 7 (hw 7) _)
  isplitl [H2]; · iexact H2
  isplitl [H6]; · iexact H6
  iintro H2 H6
  iapply (ldctl_wp c E i arg2 arg6 X ti 8 (hw 8) _)
  isplitl [H2]; · iexact H2
  isplitl [H6]; · iexact H6
  iintro H2 H6
  iapply (ldctl_wp c E i arg2 arg6 X ti 9 (hw 9) _)
  isplitl [H2]; · iexact H2
  isplitl [H6]; · iexact H6
  iintro H2 H6
  iapply (mat_wp c E arg4 u _ _ _)
  isplitl [H4]; · iexact H4
  iintro H4
  iapply (mat_wp c E arg5 ut _ _ _)
  isplitl [H5]; · iexact H5
  iintro H5
  rw [shapeCast_self, shapeCast_self, show ![ctls X ti i 0, ctls X ti i 1, ctls X ti i 2, ctls X ti i 3, ctls X ti i 4, ctls X ti i 5, ctls X ti i 6, ctls X ti i 7, ctls X ti i 8, ctls X ti i 9] = ctls X ti i from funext fun g => by fin_cases g <;> rfl]
  iapply (objs_wp c E i arg8 arg9 (fnv fn i) (ctls X ti i) (x1 (ctls X ti i) (shapeCast S32x4096 fa shapeCasts_S1x32x4096_S32x4096)) u ut
    (outv i X fa u ut ti fn) (fun g a b => rfl) 10 0 _ d8 (fun y hy => absurd hy (by omega)))
  isplitl [H9]; · iexact H9
  isplitl [H8]; · iexact H8
  iintro %Y' %hY' H9 H8
  have e : Y' = outv i X fa u ut ti fn := funext fun y => hY' y (Or.inl (y 1).isLt)
  subst e
  iapply Hk $$ H2 H3 H4 H5 H6 H7 H8 H9

end

end Cert.Proof.Ideal

end
-- ==== Proof.Run.lean ====
/-
  The masks program's run: the body's result at every grid point, the launch, and the frame.

  The run is stated under the one thing the body relies on, that the list entries it reads name rows of the
  controllers (`Named`); `named_of_range` gives it from the range of the list.
-/
module

public import proofs.«01_k».proof.Proof.Triple
public import proofs.«01_k».proof.Proof.Gen.MasksIdeal.Frame
public import proofs.«01_k».proof.Proof.Gen.Pre_in_range
public import Idealize.ShloMosaic.Lib.Pipeline.ValueKit
public import Idealize.ShloMosaic.Lib.ReduceAll
public import Idealize.ShloMosaic.Lib.WordArith
public import Idealize.ShloMosaic.Lib.WordCmp
public import Idealize.ShloMosaic.Lib.Claim

@[expose] public section

set_option maxRecDepth 16384

noncomputable section

namespace Cert.Proof.Ideal

open Cert.MasksIdeal Cert.MasksIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the pipeline -/

/-- What each window's staging buffer holds after a point: an input its block, the output the point's masks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv (grid0.coords t) (iblk m c 0 t) (iblk m c 1 t) (iblk m c 2 t) (iblk m c 3 t) (iblk m c 4 t) (iblk m c 5 t)
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outv (grid0.coords t) (iblk m c 0 t) (iblk m c 1 t) (iblk m c 2 t) (iblk m c 3 t) (iblk m c 4 t) (iblk m c 5 t) := by
  dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- The list entries that the body reads at any point name rows of the controllers. -/
def Named : Prop := ∀ (c : Dev nD) (t : Fin cfg0.N) (g : Fin 10), k0_chk1 (word (iblk m c 4 t) (grid0.coords t) g)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The invariant between points: the scratch at some contents, and the generator's register. -/
theorem inv_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  exact congrArg (fun p : sProp 𝕄 => iprop(p ∗ ∃ r, prngReg c r))
    (congrArg _ (funext fun f => (owns_whole (c : Thread nD τ) cc0_scratch0 fullShare f).symm))

theorem sound_point (hn : Named m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1, before_2, before_3, before_4, before_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, inv_eq]
  iintro ⟨⟨HS, HP⟩, Ho, ⟨%d0, H0⟩, ⟨%d1, H1⟩, ⟨%d2, H2⟩, ⟨%d3, H3⟩, ⟨%d4, H4⟩, ⟨%d5, H5⟩, ⟨%d6, H6⟩⟩
  iapply (sound_body c Set.univ (grid0.coords t) _ _ _ _ _ _ _ _ (iblk m c 0 t) (iblk m c 1 t) (iblk m c 2 t) (iblk m c 3 t)
    (iblk m c 4 t) (iblk m c 5 t) (hn c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro H0 H1 H2 H3 H4 H5 H6 HS
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (hn : Named m) (c : Dev nD) :
    BodyObligation (dats (F := F) m 0 c) (defs₀ (F := F)) Variants.none () Set.univ := fun t => by
  rw [bigSep_W0, bigSep_W0, defs₀_row]
  exact triple_restated (sound_point m hn c t) rfl .rfl fun _ => .rfl

/-! ## The run -/

set_option backward.isDefEq.respectTransparency.types false in
set_option maxHeartbeats 800000 in
theorem run_all (hn : Named m) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hn c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem run_main (hn : Named m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ hn)

/-- The frame: the arguments end as launched and every counter at zero. -/
theorem framed (hn : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (dats_A m) (run_main m ρ hn)) ((θ_run defs _ _).mono (fun _ h => h.2) (run_all m ρ hn))

/-! ## The list entries from the precondition -/

/-- An entry of the list in range, read off the precondition. -/
theorem entry_lt (a0 a1) (a2 : IVec S4x1000 32) (a3)
    (h : Cert.Pre_in_range.fn (F := F) a0 a1 a2 a3 = fun _ => 1#1) (j : S4x1000.Idx) : (a2 j).toNat < 5000 := by
  have hj := congrFun h (fun d => d.elim0)
  haveI : Subsingleton Cert.Pre_in_range.S_.Idx := ⟨fun a b => funext fun d => d.elim0⟩
  have h1 := Host.reduce_andi_all _ _ _ _ _ hj j
  change IntOp.andi (IntOp.cmpi .sge (a2 j) 0#32) (IntOp.cmpi .slt (a2 j) 5000#32) = 1#1 at h1
  obtain ⟨hs, hl⟩ := IntOp.andi_eq_one.1 h1
  refine WordArith.toNat_lt_of_zero_sle_of_slt_ofNat (a2 j) 5000 (by decide) ?_ ?_
  · exact BitVec.sle_iff_toInt_le.2 (IntOp.cmpi_sge.1 hs)
  · exact BitVec.slt_iff_toInt_lt.2 (IntOp.cmpi_slt.1 hl)

theorem V_list (c : Dev nD) : V m c main_v0 = shapeCast S4x1x1000 (m ((c : Thread nD τ).loc main_arg2) : Vec F S4x1000 .i32) shapeCasts_S4x1000_S4x1x1000 := by
  unfold V V0
  entry_read
  rfl

/-- The point's list entries are entries of the list's row of the point's image. -/
theorem word_entry (c : Dev nD) (t : Fin cfg0.N) (g : Fin 10) : word (iblk m c 4 t) (grid0.coords t) g
    = m ((c : Thread nD τ).loc main_arg2) (ix2 (⟨(grid0.coords t 0).val, (grid0.coords t 0).isLt⟩ : Fin 4)
      (⟨10 * (grid0.coords t 1).val + g.val, by have h : (grid0.coords t 1).val < 10 := (grid0.coords t 1).isLt; omega⟩ : Fin 1000)) := by
  have e : ∀ t, win0_4.index t = ![(grid0.coords t 0).val, 0, 0] := by decide +kernel
  unfold word
  blk_simp [iblk, e]
  rw [show ((View.whole main_v0).slice (win0_4.rect t)).emb (ix3 0 0 ⟨10 * (grid0.coords t 1).val + g.val, by have h : (grid0.coords t 1).val < 10 := (grid0.coords t 1).isLt; omega⟩)
      = ix3 (⟨(grid0.coords t 0).val, (grid0.coords t 0).isLt⟩ : Fin 4) (0 : Fin 1) (⟨10 * (grid0.coords t 1).val + g.val, by have h : (grid0.coords t 1).val < 10 := (grid0.coords t 1).isLt; omega⟩ : Fin 1000) from ?_]
  · refine (congrFun (V_list m c) _).trans ?_
    pointwise
  · funext a
    fin_cases a
    all_goals (apply Fin.ext; blk_simp [e]; try simp)

theorem chk_of_lt (v : BitVec 32) (h : v.toNat < 5000) : k0_chk1 v := by
  intro a
  match a with
  | ⟨0, _⟩ => show 0 + 1 ≤ 1; omega
  | ⟨1, _⟩ => show v.toNat + 1 ≤ 5000; omega
  | ⟨2, _⟩ => show 0 + 169 ≤ 169; omega

/-- The precondition gives every point's list entries their range. -/
theorem named_of_range (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Named m := fun c t g => by
  rw [word_entry]
  exact chk_of_lt _ (entry_lt _ _ _ _ (h c) _)

end Cert.Proof.Ideal

end
-- ==== Proof.Spec.lean ====
module
public import Idealize.ShloMosaic.PureOps.Ideal
@[expose] public section
noncomputable section
/-! The mathematics of the masks: an object's controller is 169 numbers, the weights and biases of three small
layers that its features at a place of the picture go through; the picture of probabilities is then enlarged. -/
namespace Cert.Proof.Spec
open Idealize.ShloMosaic

/-- Column or row `i` as a coordinate from -1 to 1. -/
def coord (i : Fin 64) : EReal :=
  Ideal.div (FloatOps.sitofp (F := Ideal) .f32 (BitVec.ofNat 32 i.val)) (Ideal.ofBits .f32 0x427C0000#32) * Ideal.ofBits .f32 0x40000000#32 - 1

/-- The features at a place of the picture: the map's eight, the place's column, the place's row. -/
def feat (A : Fin 64 → Fin 64 → Fin 8 → EReal) (r s : Fin 64) (d : Fin 10) : EReal :=
  if h : d.val < 8 then A r s ⟨d.val, h⟩ else if d.val - 8 < 1 then coord s else coord r

/-- The first layer: eight values from the ten features. -/
def hid1 (c : Fin 169 → EReal) (f : Fin 10 → EReal) (m : Fin 8) : EReal :=
  max (∑ d : Fin 10, c ⟨10 * m.val + d.val, by omega⟩ * f d + c ⟨80 + m.val, by omega⟩) 0

/-- The second layer: eight values from the first layer's eight. -/
def hid2 (c : Fin 169 → EReal) (h : Fin 8 → EReal) (m : Fin 8) : EReal :=
  max (∑ d : Fin 8, c ⟨88 + 8 * m.val + d.val, by omega⟩ * h d + c ⟨152 + m.val, by omega⟩) 0

/-- The third layer and the sigmoid. -/
def prob (c : Fin 169 → EReal) (f : Fin 10 → EReal) : EReal :=
  Ideal.logistic (∑ d : Fin 8, c ⟨160 + d.val, by omega⟩ * hid2 c (hid1 c f) d + c 168)

/-- The picture `P` enlarged: its rows by the weights `W`, then its columns. -/
def enlarged (W : Fin 512 → Fin 64 → EReal) (P : Fin 64 → Fin 64 → EReal) (a b : Fin 512) : EReal :=
  ∑ s : Fin 64, (∑ r : Fin 64, W a r * P r s) * W b s

end Cert.Proof.Spec
-- ==== Proof.Value.lean ====
module
public import proofs.«01_k».proof.Proof.Triple
public import proofs.«01_k».proof.Proof.Spec
public import Idealize.ShloMosaic.Lib.Pointwise
@[expose] public section
set_option maxRecDepth 16384
noncomputable section
/-! The kernel's values read at an index, over the extended reals. -/
namespace Cert.Proof.Ideal
open Cert.MasksIdeal
open Idealize.ShloMosaic Idealize.ShloMosaic.Tactic
open Facts₀ Facts

/-- Row zero of a one-row array. -/
abbrev row0 {n : Nat} (c : (⟨2, ![1, n]⟩ : Shape).Idx → EReal) : Fin n → EReal := fun d => c (ix2 0 d)

theorem l1row_weight (c : FVec Ideal S1x169 .f32) (m : Fin 8) (d : Fin 10) :
    l1row c m (ix2 (0 : Fin 1) ⟨d.val, by omega⟩) = c (ix2 (0 : Fin 1) ⟨10 * m.val + d.val, by omega⟩) := by
  unfold l1row zf
  pointwise

theorem l1row_bias (c : FVec Ideal S1x169 .f32) (m : Fin 8) :
    l1row c m (ix2 (0 : Fin 1) (10 : Fin 32)) = c (ix2 (0 : Fin 1) ⟨80 + m.val, by omega⟩) := by
  unfold l1row zf
  pointwise

theorem l2row_weight (c : FVec Ideal S1x169 .f32) (m : Fin 8) (d : Fin 8) :
    l2row c m (ix2 (0 : Fin 1) ⟨d.val, by omega⟩) = c (ix2 (0 : Fin 1) ⟨88 + 8 * m.val + d.val, by omega⟩) := by
  unfold l2row zf
  pointwise

theorem l2row_bias (c : FVec Ideal S1x169 .f32) (m : Fin 8) :
    l2row c m (ix2 (0 : Fin 1) (8 : Fin 16)) = c (ix2 (0 : Fin 1) ⟨152 + m.val, by omega⟩) := by
  unfold l2row zf
  pointwise

theorem w1_apply (c : Fin 10 → FVec Ideal S1x169 .f32) (g : Fin 10) (m : Fin 8) (k : Fin 32) :
    w1 c (ix2 (⟨8 * g.val + m.val, by omega⟩ : Fin 80) k) = l1row (c g) m (ix2 (0 : Fin 1) k) := by
  unfold w1
  have h1 : (8 * g.val + m.val) / 8 = g.val := by omega
  have h2 : (8 * g.val + m.val) % 8 = m.val := by omega
  pointwise
  simp [h1, h2]

theorem w2_apply (c : FVec Ideal S1x169 .f32) (m : Fin 8) (k : Fin 16) :
    w2 c (ix2 m k) = l2row c m (ix2 (0 : Fin 1) k) := by
  unfold w2
  pointwise

/-- A sum against a column that is one at one place only. -/
theorem sum_onehot {n : Nat} (hn : n ≤ 2 ^ 32) (f : Fin n → EReal) (k : Fin n) (b : BitVec 32) (hb : b.toNat = k.val) :
    ∑ x : Fin n, Scalar.select (IntOp.cmpi .eq (BitVec.ofNat 32 x.val) b) (f x) 0 = f k := by
  rw [Finset.sum_eq_single k]
  · have : BitVec.ofNat 32 k.val = b := by apply BitVec.eq_of_toNat_eq; rw [hb]; simp; omega
    simp [this, Scalar.select, IntOp.cmpi]
  · intro x _ hx
    have : BitVec.ofNat 32 x.val ≠ b := by
      intro h; apply hx; ext; rw [← hb, ← h]; simp; omega
    have h2 : (BitVec.ofNat 32 x.val == b) = false := by simpa using this
    simp [h2, Scalar.select, IntOp.cmpi]
  · simp

theorem sum_low {n k : Nat} (hk : k ≤ n) (f : Fin n → EReal) (h : ∀ x : Fin n, k ≤ x.val → f x = 0) :
    ∑ x : Fin n, f x = ∑ x : Fin k, f ⟨x.val, by omega⟩ := by
  obtain ⟨j, rfl⟩ := Nat.exists_eq_add_of_le hk
  rw [Fin.sum_univ_add, Finset.sum_eq_zero (s := Finset.univ) (f := fun i : Fin j => f (Fin.natAdd k i)) (fun i _ => h _ (by simp)), add_zero]
  rfl

theorem x1_apply (c : Fin 10 → FVec Ideal S1x169 .f32) (fa : FVec Ideal S32x4096 .f32) (hfa : ∀ (k : Fin 32) (p : Fin 4096), 10 ≤ k.val → fa (ix2 k p) = 0)
    (g : Fin 10) (m : Fin 8) (p : Fin 4096) :
    x1 c fa (ix2 (⟨8 * g.val + m.val, by omega⟩ : Fin 80) p)
      = Spec.hid1 (row0 (c g)) (fun d => fa (ix2 ⟨d.val, by omega⟩ p)) m := by
  unfold x1 e32 zf Spec.hid1
  pointwise
  rw [sum_onehot (by decide) _ (10 : Fin 32) _ (by decide), sum_low (k := 10) (by decide) _ (fun x hx => by rw [hfa x p hx, mul_zero]), w1_apply, l1row_bias]
  simp only [w1_apply, l1row_weight]

theorem x2_apply (c : FVec Ideal S1x169 .f32) (y : FVec Ideal S8x4096 .f32) (m : Fin 8) (p : Fin 4096) :
    x2 c y (ix2 m p) = Spec.hid2 (row0 c) (fun d => y (ix2 d p)) m := by
  unfold x2 e16 zf Spec.hid2
  pointwise
  rw [sum_onehot (by decide) _ (8 : Fin 16) _ (by decide)]
  simp only [w2_apply, l2row_weight, l2row_bias, mul_zero, Finset.sum_const_zero, add_zero]

theorem probs_apply (c : Fin 10 → FVec Ideal S1x169 .f32) (fa : FVec Ideal S32x4096 .f32) (hfa : ∀ (k : Fin 32) (p : Fin 4096), 10 ≤ k.val → fa (ix2 k p) = 0)
    (g : Fin 10) (p : Fin 4096) :
    probs (c g) (x1g (x1 c fa) g) (ix2 (0 : Fin 1) p)
      = Spec.prob (row0 (c g)) (fun d => fa (ix2 ⟨d.val, by omega⟩ p)) := by
  have hx (d : Fin 8) : x1g (x1 c fa) g (ix2 d p) = Spec.hid1 (row0 (c g)) (fun d => fa (ix2 ⟨d.val, by omega⟩ p)) d := by
    rw [← x1_apply c fa hfa]; unfold x1g; pointwise
  unfold probs zf Spec.prob
  pointwise
  simp only [x2_apply, hx, mul_zero, Finset.sum_const_zero, add_zero]

/-- An object's mask at a place. -/
theorem omask_apply (i : grid0.Coords) (v3 : BitVec 32) (c : Fin 10 → FVec Ideal S1x169 .f32) (fa : FVec Ideal S32x4096 .f32)
    (hfa : ∀ (k : Fin 32) (p : Fin 4096), 10 ≤ k.val → fa (ix2 k p) = 0)
    (u : FVec Ideal S512x64 .f32) (ut : FVec Ideal S64x512 .f32) (hut : ∀ (r : Fin 64) (a : Fin 512), ut (ix2 r a) = u (ix2 a r))
    (g : Fin 10) (a b : Fin 512) :
    omask i v3 c (x1 c fa) u ut g a b = (IntOp.andi (BitVec.ofBool (decide (Ideal.ofBits .f32 0x3F000000#32
      < Spec.enlarged (fun a s => u (ix2 a s)) (fun r s => Spec.prob (row0 (c g)) (fun d => fa (ix2 ⟨d.val, by omega⟩ ⟨64 * r.val + s.val, by omega⟩))) a b)))
      (valid i v3 (BitVec.ofNat 32 g.val))).setWidth 32 := by
  have ha : 64 * (a.val / 64) + a.val % 64 = a.val := by omega
  unfold omask oblk t1 pict prow Spec.enlarged
  pointwise
  simp only [ha, probs_apply c fa hfa, hut]
end Cert.Proof.Ideal
-- ==== Proof.Resize.lean ====
module
public import Idealize.ShloMosaic.Lib.Pointwise
@[expose] public section
set_option maxRecDepth 16384
noncomputable section
/-! The weights that enlarge 64 rows to 512, computed two ways: as the triangle around each sample's place, divided
by its sum and dropped outside the picture; and as the two neighbours' shares of the place kept inside the picture. -/
namespace Cert.Proof.Resize
open Idealize.ShloMosaic

/-! ## Whole numbers: everything in sixteenths -/

/-- The triangle of sample `a` at row `s`. -/
def tri (a : Fin 512) (s : Fin 64) : ℤ := max 0 (16 - |2 * (a.val : ℤ) - 7 - 16 * (s.val : ℤ)|)
/-- The triangle's sum. -/
def tot (a : Fin 512) : ℤ := ∑ s : Fin 64, tri a s
/-- The sample's place, kept inside the picture. -/
def place (a : Fin 512) : ℤ := min 1008 (max 0 (2 * (a.val : ℤ) - 7))
/-- The row before it. -/
def low (a : Fin 512) : ℤ := min (place a / 16) 62
/-- What is left. -/
def rest (a : Fin 512) : ℤ := place a - 16 * low a
/-- The two neighbours' shares. -/
def share (a : Fin 512) (s : Fin 64) : ℤ := (if (s.val : ℤ) = low a then 16 - rest a else 0) + (if (s.val : ℤ) = low a + 1 then rest a else 0)

/-- The triangle's sum, in closed form. -/
theorem tot_eq : ∀ a : Fin 512, tot a = min 16 (min (9 + 2 * (a.val : ℤ)) (1031 - 2 * (a.val : ℤ))) := by decide +kernel
theorem tri_share : ∀ (a : Fin 512) (s : Fin 64), 16 * tri a s = tot a * share a s := by
  simp only [tot_eq]; decide +kernel
theorem tot_pos (a : Fin 512) : 9 ≤ tot a := by rw [tot_eq]; omega

/-! ## The extended reals -/

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min
theorem abs_coe (x : ℝ) : FloatOps.absf (F := Ideal) (φ := .f32) ((x : ℝ) : EReal) = ((|x| : ℝ) : EReal) := by
  show max (x : EReal) (-(x : EReal)) = _
  rw [← EReal.coe_neg, ← coe_max]; rfl
theorem div_coe_coe (x y : ℝ) (h : y ≠ 0) : Ideal.div (x : EReal) (y : EReal) = ((x / y : ℝ) : EReal) := by
  rw [Ideal.div_coe h, ← EReal.coe_mul]; congr 1; ring
theorem sum_coe {n : Nat} (f : Fin n → ℝ) : ((∑ x : Fin n, f x : ℝ) : EReal) = ∑ x : Fin n, ((f x : ℝ) : EReal) := by
  induction n with
  | zero => simp
  | succ n ih => rw [Fin.sum_univ_castSucc, Fin.sum_univ_castSucc, EReal.coe_add, ih]

theorem nat_coe (n : Nat) (h : n < 2 ^ 31) : FloatOps.sitofp (F := Ideal) .f32 (BitVec.ofNat 32 n) = ((n : ℝ) : EReal) := by
  show (((BitVec.ofNat 32 n).toInt : ℝ) : EReal) = _
  rw [BitVec.toInt_ofNat', Int.bmod_eq_of_le (by omega) (by omega)]; simp
theorem half_coe : Ideal.ofBits .f32 0x3F000000#32 = ((1 / 2 : ℝ) : EReal) := by
  simp [Ideal.ofBits, Ideal.ieee, -EReal.coe_mul]; norm_num
theorem eighth_coe : Ideal.ofBits .f32 0x3E000000#32 = ((1 / 8 : ℝ) : EReal) := by
  simp [Ideal.ofBits, Ideal.ieee, -EReal.coe_mul]; norm_num
theorem eight_coe : Ideal.ofBits .f32 0x41000000#32 = ((8 : ℝ) : EReal) := by
  simp [Ideal.ofBits, Ideal.ieee, -EReal.coe_mul]; norm_num
theorem c63_coe : Ideal.ofBits .f32 0x427C0000#32 = ((63 : ℝ) : EReal) := by
  simp [Ideal.ofBits, Ideal.ieee, -EReal.coe_mul]; norm_num
theorem c62_coe : Ideal.ofBits .f32 0x42780000#32 = ((62 : ℝ) : EReal) := by
  simp [Ideal.ofBits, Ideal.ieee, -EReal.coe_mul]; norm_num
theorem c635_coe : Ideal.ofBits .f32 0x427E0000#32 = ((127 / 2 : ℝ) : EReal) := by
  simp [Ideal.ofBits, Ideal.ieee, -EReal.coe_mul]; norm_num
theorem mhalf_coe : Ideal.ofBits .f32 0xBF000000#32 = ((-1 / 2 : ℝ) : EReal) := by
  simp [Ideal.ofBits, Ideal.ieee, -EReal.coe_mul]; norm_num
theorem small_coe : ∃ e : ℝ, Ideal.ofBits .f32 0x38FA0000#32 = (e : EReal) ∧ e < 9 / 16 := by
  refine ⟨_, by simp [Ideal.ofBits, Ideal.ieee, -EReal.coe_mul]; rfl, by norm_num⟩

/-- A sample's place. -/
theorem sample_coe (a : Fin 512) : (FloatOps.sitofp (F := Ideal) .f32 (BitVec.ofNat 32 a.val) + Ideal.ofBits .f32 0x3F000000#32) * Ideal.ofBits .f32 0x3E000000#32
    - Ideal.ofBits .f32 0x3F000000#32 = (((2 * a.val - 7) / 16 : ℝ) : EReal) := by
  rw [nat_coe _ (by omega), half_coe, eighth_coe, ← EReal.coe_add, ← EReal.coe_mul, ← EReal.coe_sub]; congr 1; ring

/-- The triangle. -/
theorem tri_coe (a : Fin 512) (s : Fin 64) : max (0 : EReal) (1 - FloatOps.absf (F := Ideal) (φ := .f32) (Ideal.div (FloatOps.absf (F := Ideal) (φ := .f32)
      ((FloatOps.sitofp (F := Ideal) .f32 (BitVec.ofNat 32 a.val) + Ideal.ofBits .f32 0x3F000000#32) * Ideal.ofBits .f32 0x3E000000#32
        - Ideal.ofBits .f32 0x3F000000#32 - FloatOps.sitofp (F := Ideal) .f32 (BitVec.ofNat 32 s.val))) 1)) = ((tri a s / 16 : ℝ) : EReal) := by
  rw [sample_coe, nat_coe s.val (by omega), ← EReal.coe_sub, abs_coe, show (1 : EReal) = ((1 : ℝ) : EReal) from rfl, div_coe_coe _ _ one_ne_zero, abs_coe,
    ← EReal.coe_sub, show (0 : EReal) = ((0 : ℝ) : EReal) from rfl, ← coe_max]
  congr 1
  unfold tri
  push_cast
  rw [div_one, abs_abs, show ((2 * (a.val : ℝ) - 7) / 16 - s.val) = (2 * (a.val : ℝ) - 7 - 16 * s.val) / 16 by ring, abs_div, abs_of_pos (show (0 : ℝ) < 16 by norm_num),
    show (1 : ℝ) - |2 * (a.val : ℝ) - 7 - 16 * s.val| / 16 = (16 - |2 * (a.val : ℝ) - 7 - 16 * s.val|) / 16 by ring, ← max_div_div_right (by norm_num : (0:ℝ) ≤ 16), zero_div]

/-- The triangle's sum. -/
theorem tot_coe (a : Fin 512) : ∑ s : Fin 64, ((tri a s / 16 : ℝ) : EReal) = ((tot a / 16 : ℝ) : EReal) := by
  rw [← sum_coe]; congr 1
  unfold tot; push_cast; rw [Finset.sum_div]

/-- The shares, as the program computes them. -/
def place' (a : Fin 512) : EReal := min (Ideal.ofBits .f32 0x427C0000#32) (max (Ideal.ofBits .f32 0x00000000#32)
  (Ideal.div (FloatOps.sitofp (F := Ideal) .f32 (BitVec.ofNat 32 a.val) + Ideal.ofBits .f32 0x3F000000#32) (Ideal.ofBits .f32 0x41000000#32) - Ideal.ofBits .f32 0x3F000000#32))

theorem place_coe (a : Fin 512) : place' a = ((place a / 16 : ℝ) : EReal) := by
  unfold place'
  rw [Ideal.ofBits_zero_f32, nat_coe _ (by omega), half_coe, eight_coe, c63_coe, ← EReal.coe_add, div_coe_coe _ _ (by norm_num), ← EReal.coe_sub, show (0 : EReal) = ((0 : ℝ) : EReal) from rfl,
    ← coe_max, ← coe_min]
  congr 1
  unfold place
  push_cast
  rw [min_div_div_right (by norm_num : (0:ℝ) ≤ 16) _ _ |>.symm, max_div_div_right (by norm_num : (0:ℝ) ≤ 16) _ _ |>.symm]
  congr 1
  · norm_num
  · congr 1
    · norm_num
    · ring

theorem low_coe (a : Fin 512) : min (Ideal.liftRound Int.floor (place' a)) (Ideal.ofBits .f32 0x42780000#32) = ((low a : ℝ) : EReal) := by
  rw [place_coe, Ideal.liftRound_coe, c62_coe, ← coe_min]
  congr 1
  have : ⌊((place a : ℝ) / 16)⌋ = place a / 16 := by
    rw [Int.floor_eq_iff]
    have h1 := Int.mul_ediv_add_emod (place a) 16
    have h2 := Int.emod_nonneg (place a) (show (16 : ℤ) ≠ 0 by decide)
    have h3 := Int.emod_lt_of_pos (place a) (show (0 : ℤ) < 16 by decide)
    generalize place a / 16 = q at *
    generalize place a % 16 = r at *
    have h1' : (16 * q + r : ℝ) = place a := by exact_mod_cast h1
    have h2' : (0 : ℝ) ≤ r := by exact_mod_cast h2
    have h3' : (r : ℝ) < 16 := by exact_mod_cast h3
    rw [← h1']
    constructor <;> linarith
  rw [this]
  unfold low
  push_cast
  rfl

theorem share_coe (a : Fin 512) (s : Fin 64) :
    (if FloatOps.sitofp (F := Ideal) .f32 (BitVec.ofNat 32 s.val) = ((low a : ℝ) : EReal) then 1 - (place' a - ((low a : ℝ) : EReal)) else 0)
      + (if FloatOps.sitofp (F := Ideal) .f32 (BitVec.ofNat 32 s.val) = ((low a : ℝ) : EReal) + 1 then place' a - ((low a : ℝ) : EReal) else 0)
    = ((share a s / 16 : ℝ) : EReal) := by
  rw [nat_coe _ (by omega), place_coe, show (1 : EReal) = ((1 : ℝ) : EReal) from rfl, show (0 : EReal) = ((0 : ℝ) : EReal) from rfl, ← EReal.coe_add, ← EReal.coe_sub, ← EReal.coe_sub]
  simp only [EReal.coe_eq_coe_iff]
  have e1 : ((s.val : ℝ) = (low a : ℝ)) ↔ ((s.val : ℤ) = low a) := by norm_cast
  have e2 : ((s.val : ℝ) = (low a : ℝ) + 1) ↔ ((s.val : ℤ) = low a + 1) := by norm_cast
  simp only [e1, e2]
  rw [← apply_ite ((↑) : ℝ → EReal), ← apply_ite ((↑) : ℝ → EReal), ← EReal.coe_add]
  congr 1
  unfold share rest
  push_cast
  split <;> split <;> ring

end Cert.Proof.Resize
-- ==== Proof.Host.lean ====
/-
  The masks program's arrays as its region finds them, read at an index over the extended reals.
-/
module
public import proofs.«01_k».proof.Proof.Run
public import proofs.«01_k».proof.Proof.Value
public import proofs.«01_k».proof.Proof.Resize
public import Idealize.ShloMosaic.Lib.StableHlo.ReadAt
@[expose] public section
set_option maxRecDepth 16384
noncomputable section
namespace Cert.Proof.Ideal
open Cert.MasksIdeal Cert.MasksIdeal.Gen
open Idealize.ShloMosaic Idealize.ShloMosaic.TcCoe Idealize.SL.Sem Idealize.ShloMosaic.Tactic
variable (m : (ℓ : Loc nD τ sig) → Buf (Elt Ideal) ℓ)

/-- The map of image `b`. -/
abbrev map (c : Dev nD) (b : Fin 4) : Fin 64 → Fin 64 → Fin 8 → EReal :=
  fun r s d => (m ((c : Thread nD τ).loc main_arg1) : FVec Ideal S4x64x64x8 .f32) (ix4 b r s d)

theorem V_feat0 (c : Dev nD) (b : Fin 4) (d : Fin 8) (p : Fin 4096) : (V m c main_v28 : FVec Ideal S4x32x4096 .f32) (ix3 b ⟨d.val, by omega⟩ p)
     = map m c b ⟨p.val / 64, by omega⟩ ⟨p.val % 64, by omega⟩ d := by
  unfold V V0
  unfold_abbrev_sides
  after_reads_at
  after_reads_at

theorem V_feat8 (c : Dev nD) (b : Fin 4) (p : Fin 4096) : (V m c main_v28 : FVec Ideal S4x32x4096 .f32) (ix3 b (8 : Fin 32) p)
     = Spec.coord ⟨p.val % 64, by omega⟩ := by
  unfold V V0
  unfold_abbrev_sides
  after_reads_at
  after_reads_at
  rfl

theorem V_feat9 (c : Dev nD) (b : Fin 4) (p : Fin 4096) : (V m c main_v28 : FVec Ideal S4x32x4096 .f32) (ix3 b (9 : Fin 32) p)
     = Spec.coord ⟨p.val / 64, by omega⟩ := by
  unfold V V0
  unfold_abbrev_sides
  after_reads_at
  after_reads_at
  rfl

theorem V_feat10 (c : Dev nD) (b : Fin 4) (d : Fin 22) (p : Fin 4096) : (V m c main_v28 : FVec Ideal S4x32x4096 .f32) (ix3 b ⟨10 + d.val, by omega⟩ p)
     = (0:EReal) := by
  unfold V V0
  unfold_abbrev_sides
  after_reads_at
  rw [dif_neg (by omega), dif_neg (by omega), dif_neg (by omega)]
  after_reads_at
  rfl

/-- The first ten rows are the place's features. -/
theorem V_feat (c : Dev nD) (b : Fin 4) (d : Fin 10) (p : Fin 4096) : (V m c main_v28 : FVec Ideal S4x32x4096 .f32) (ix3 b ⟨d.val, by omega⟩ p)
     = Spec.feat (map m c b) ⟨p.val / 64, by omega⟩ ⟨p.val % 64, by omega⟩ d := by
  unfold Spec.feat
  split
  · exact V_feat0 m c b ⟨d.val, by assumption⟩ p
  · split
    · have : d = 8 := by apply Fin.ext; show d.val = 8; omega
      subst this; exact V_feat8 m c b p
    · have : d = 9 := by apply Fin.ext; show d.val = 9; omega
      subst this; exact V_feat9 m c b p

theorem V_pad (c : Dev nD) (b : Fin 4) (d : Fin 32) (p : Fin 4096) (hd : 10 ≤ d.val) : (V m c main_v28 : FVec Ideal S4x32x4096 .f32) (ix3 b d p) = (0 : EReal) := by
  have h := V_feat10 m c b ⟨d.val - 10, by omega⟩ p
  have e : (⟨10 + (d.val - 10), by omega⟩ : Fin 32) = d := by apply Fin.ext; show 10 + (d.val - 10) = d.val; omega
  rwa [e] at h

theorem ofBits_zero : (FloatOps.ofBits .f32 0x00000000#32 : Ideal .f32) = (0 : EReal) := Ideal.ofBits_zero_f32

theorem V_u_of (c : Dev nD) (a : Fin 512) (s : Fin 64) (R : EReal) (hR : ((Resize.share a s / 16 : ℝ) : EReal) = R) :
    (V m c main_v59 : FVec Ideal S512x64 .f32) (ix2 a s) = R := by
  unfold V V0
  unfold_abbrev_sides
  after_reads_at
  rw [← hR, ← Resize.share_coe, ← Resize.low_coe]
  unfold Resize.place'
  simp only [id, constant, ofBits_zero, Ideal.ofBits_zero_f32]
  rfl

/-- The matrix that enlarges holds the neighbours' shares. -/
theorem V_u (c : Dev nD) (a : Fin 512) (s : Fin 64): (V m c main_v59 : FVec Ideal S512x64 .f32) (ix2 a s) = ((Resize.share a s / 16 : ℝ) : EReal) :=
  V_u_of m c a s _ rfl

theorem V_ut (c : Dev nD) (a : Fin 512) (s : Fin 64): (V m c main_v60 : FVec Ideal S64x512 .f32) (ix2 s a) = (V m c main_v59 : FVec Ideal S512x64 .f32) (ix2 a s) := by
  unfold V V0
  unfold_abbrev_sides
  after_reads_at
end Cert.Proof.Ideal
end
-- ==== Proof.Out.lean ====
/-
  The masks program's result: the array its region leaves, and what the line after it makes of that.
-/
module
public import proofs.«01_k».proof.Proof.Host
@[expose] public section
set_option maxRecDepth 16384
noncomputable section
namespace Cert.Proof.Ideal
open Cert.MasksIdeal Cert.MasksIdeal.Gen
open Idealize.ShloMosaic Idealize.ShloMosaic.TcCoe Idealize.SL.Sem Idealize.ShloMosaic.Tactic
variable (m : (ℓ : Loc nD τ sig) → Buf (Elt Ideal) ℓ)

/-- The controllers, the list and the counts. -/
abbrev ctl (c : Dev nD) : FVec Ideal S4x5000x169 .f32 := m ((c : Thread nD τ).loc main_arg0)
abbrev lst (c : Dev nD) : IVec S4x1000 32 := m ((c : Thread nD τ).loc main_arg2)
abbrev cnt (c : Dev nD) : IVec S4x1 32 := m ((c : Thread nD τ).loc main_arg3)

/-- Object `n`'s controller. -/
def ctlOf (c : Dev nD) (b : Fin 4) (n : Fin 100) : Fin 169 → EReal := fun k =>
  ctl m c (ix3 b (⟨(lst m c (ix2 b (⟨n.val, by omega⟩ : Fin 1000))).toNat % 5000, Nat.mod_lt _ (by decide)⟩ : Fin 5000) k)

/-- The masks. -/
def mask (c : Dev nD) (b : Fin 4) (n : Fin 100) (r s : Fin 512) : BitVec 1 :=
  IntOp.andi (BitVec.ofBool (decide (Ideal.ofBits .f32 0x3F000000#32 < Spec.enlarged (fun a s => ((Resize.share a s / 16 : ℝ) : EReal))
      (fun i j => Spec.prob (ctlOf m c b n) (Spec.feat (map m c b) i j)) r s)))
    (IntOp.cmpi .slt (BitVec.ofNat 32 n.val) (cnt m c (ix2 b (0 : Fin 1))))

/-- The array of words the region leaves. -/
def words (c : Dev nD) : S4x100x512x512.Idx → BitVec 32 := fun y => (mask m c (y 0) (y 1) (y 2) (y 3)).setWidth 32

/-! ## The blocks -/

variable (c : Dev nD) (t : Fin cfg0.N)

/-- The point's image and its group of ten objects. -/
abbrev img : Fin 4 := ⟨(grid0.coords t 0).val, (grid0.coords t 0).isLt⟩
abbrev grp : Fin 10 := ⟨(grid0.coords t 1).val, (grid0.coords t 1).isLt⟩

theorem blk_ctl (r : Fin 5000) (k : Fin 169) : (iblk m c 0 t : FVec Ideal S1x5000x169 .f32) (ix3 (0 : Fin 1) r k) = ctl m c (ix3 (img t) r k) := by
  have e : ∀ t, win0_0.index t = ![(grid0.coords t 0).val, 0, 0] := by decide +kernel
  blk_simp [iblk, e]
  rw [V_main_arg0]
  refine congrArg (m ((c : Thread nD τ).loc main_arg0)) ?_
  funext a
  fin_cases a <;> (apply Fin.ext; blk_simp [e]; try simp)

theorem blk_feat (d : Fin 32) (p : Fin 4096) : (iblk m c 1 t : FVec Ideal S1x32x4096 .f32) (ix3 (0 : Fin 1) d p) = (V m c main_v28 : FVec Ideal S4x32x4096 .f32) (ix3 (img t) d p) := by
  have e : ∀ t, win0_1.index t = ![(grid0.coords t 0).val, 0, 0] := by decide +kernel
  blk_simp [iblk, e]
  refine congrArg (V m c main_v28) ?_
  funext a
  fin_cases a <;> (apply Fin.ext; blk_simp [e]; try simp)

theorem blk_u (a : Fin 512) (s : Fin 64) : (iblk m c 2 t : FVec Ideal S512x64 .f32) (ix2 a s) = (V m c main_v59 : FVec Ideal S512x64 .f32) (ix2 a s) := by
  have e : ∀ t, win0_2.index t = ![0, 0] := by decide +kernel
  blk_simp [iblk, e]
  refine congrArg (V m c main_v59) ?_
  funext a
  fin_cases a <;> (apply Fin.ext; blk_simp [e]; try simp)

theorem blk_ut (a : Fin 512) (s : Fin 64) : (iblk m c 3 t : FVec Ideal S64x512 .f32) (ix2 s a) = (V m c main_v60 : FVec Ideal S64x512 .f32) (ix2 s a) := by
  have e : ∀ t, win0_3.index t = ![0, 0] := by decide +kernel
  blk_simp [iblk, e]
  refine congrArg (V m c main_v60) ?_
  funext a
  fin_cases a <;> (apply Fin.ext; blk_simp [e]; try simp)

theorem blk_cnt (b : Fin 4) : (iblk m c 5 t : IVec S4x1 32) (ix2 b (0 : Fin 1)) = cnt m c (ix2 b (0 : Fin 1)) := by
  have e : ∀ t, win0_5.index t = ![0, 0] := by decide +kernel
  blk_simp [iblk, e]
  rw [V_main_arg3]
  refine congrArg (m ((c : Thread nD τ).loc main_arg3)) ?_
  funext a
  fin_cases a <;> (apply Fin.ext; blk_simp [e]; try simp)

/-! ## The array -/

/-- The number of object `g` of group `i`. -/
theorem number (i : Fin 10) (g : Fin 10) : Scalar.addi (Scalar.muli (BitVec.ofNat 32 i.val) 10#32) (BitVec.ofNat 32 g.val) = BitVec.ofNat 32 (10 * i.val + g.val) := by
  show BitVec.ofNat 32 i.val * BitVec.ofNat 32 10 + BitVec.ofNat 32 g.val = _
  rw [← BitVec.ofNat_mul, ← BitVec.ofNat_add, Nat.mul_comm]

/-- Object `g` of the point's group. -/
abbrev objOf (g : Fin 10) : Fin 100 := ⟨10 * (grp t).val + g.val, by have h : (grid0.coords t 1).val < 10 := (grid0.coords t 1).isLt; show 10 * (grid0.coords t 1).val + g.val < 100; omega⟩

theorem weights_eq (g : Fin 10) : row0 (ctls (iblk m c 0 t) (iblk m c 4 t) (grid0.coords t) g) = ctlOf m c (img t) (objOf t g) := by
  funext k
  unfold row0 ctls ctlv ctlOf
  rw [word_entry]
  exact blk_ctl m c t _ k

theorem flat_apply (X : FVec Ideal S1x32x4096 .f32) (d : Fin 32) (p : Fin 4096) :
    shapeCast S32x4096 X shapeCasts_S1x32x4096_S32x4096 (ix2 d p) = X (ix3 (0 : Fin 1) d p) := by
  pointwise

theorem feat_eq (d : Fin 32) (p : Fin 4096) : shapeCast S32x4096 (iblk m c 1 t : FVec Ideal S1x32x4096 .f32) shapeCasts_S1x32x4096_S32x4096 (ix2 d p)
    = (V m c main_v28 : FVec Ideal S4x32x4096 .f32) (ix3 (img t) d p) :=
  (flat_apply _ d p).trans (blk_feat m c t d p)

theorem valid_eq (g : Fin 10) : valid (grid0.coords t) (fnv (iblk m c 5 t) (grid0.coords t)) (BitVec.ofNat 32 g.val)
    = IntOp.cmpi .slt (BitVec.ofNat 32 (objOf t g).val) (cnt m c (ix2 (img t) (0 : Fin 1))) :=
  congrArg₂ (IntOp.cmpi .slt) (number (grp t) g) (blk_cnt m c t (img t))

theorem block_eq (g : Fin 10) (a b : Fin 512) :
    outv (grid0.coords t) (iblk m c 0 t) (iblk m c 1 t) (iblk m c 2 t) (iblk m c 3 t) (iblk m c 4 t) (iblk m c 5 t) (ix4 (0 : Fin 1) g a b)
      = words m c (ix4 (img t) (objOf t g) a b) := by
  have hf : ∀ r s : Fin 64, (fun d : Fin 10 => shapeCast S32x4096 (iblk m c 1 t : FVec Ideal S1x32x4096 .f32) shapeCasts_S1x32x4096_S32x4096
      (ix2 (⟨d.val, by omega⟩ : Fin 32) (⟨64 * r.val + s.val, by omega⟩ : Fin 4096))) = Spec.feat (map m c (img t)) r s := fun r s => by
    funext d
    rw [feat_eq, V_feat]
    congr 1
    · apply Fin.ext; show (64 * r.val + s.val) / 64 = r.val; omega
    · apply Fin.ext; show (64 * r.val + s.val) % 64 = s.val; omega
  show omask (grid0.coords t) (fnv (iblk m c 5 t) (grid0.coords t)) (ctls (iblk m c 0 t) (iblk m c 4 t) (grid0.coords t))
    (x1 (ctls (iblk m c 0 t) (iblk m c 4 t) (grid0.coords t)) (shapeCast S32x4096 (iblk m c 1 t) shapeCasts_S1x32x4096_S32x4096))
    (iblk m c 2 t) (iblk m c 3 t) g a b = (mask m c (img t) (objOf t g) a b).setWidth 32
  refine (omask_apply _ _ _ _ (fun k p hk => ?_) _ _ (fun r a => ?_) _ _ _).trans ?_
  · rw [feat_eq]; exact V_pad m c _ _ _ hk
  · rw [blk_ut, V_ut, blk_u]
  · unfold mask
    rw [valid_eq, weights_eq]
    have hu : (fun (a : Fin 512) (s : Fin 64) => (iblk m c 2 t : FVec Ideal S512x64 .f32) (ix2 a s)) = fun a s => ((Resize.share a s / 16 : ℝ) : EReal) :=
      funext₂ fun a s => (blk_u m c t a s).trans (V_u m c a s)
    rw [hu]
    simp only [hf]

theorem out_arr : (dats m 0 c).arrAt 6 (cfgs 0).N = words m c := by
  have e : ∀ t, win0_6.index t = ![(grid0.coords t 0).val, (grid0.coords t 1).val, 0, 0] := by decide +kernel
  refine (dats m 0 c).arrAt_eq_of_covers 6 _ (by decide +kernel) fun t hf y => ?_
  blk_simp
  rw [after_6]
  have hy : y = ix4 (0 : Fin 1) (y 1 : Fin 10) (y 2 : Fin 512) (y 3 : Fin 512) := by
    funext a
    fin_cases a <;> first | rfl | exact Fin.ext (by have h : (y 0).val < 1 := (y 0).isLt; show (y 0).val = 0; omega)
  refine (congrArg _ hy).trans ((block_eq m c t _ _ _).trans ?_)
  refine congrArg (words m c) ?_
  funext a
  fin_cases a <;> (apply Fin.ext; blk_simp [e]; try simp)
  exact Nat.mul_comm _ _

/-! ## The result -/

/-- A bit widened to a word and compared with zero is the bit. -/
theorem bit_back (x : BitVec 1) : IntOp.cmpi .ne (x.setWidth 32) 0#32 = x := by
  revert x; decide

theorem tail_eq : Pipeline.afterTail₀ cfgs (dats m) 0 (V0 m) [hostOps1] c main_v64 = fun y => mask m c (y 0) (y 1) (y 2) (y 3) := by
  unfold Pipeline.afterTail₀
  funext y
  after_reads_at
  have hw := (Pipeline.withArrays_arr spec0 launch0.win.arr_inj c (V0 m c) (fun w => (dats m 0 c).arrAt w (cfgs 0).N) 6).trans (out_arr m c)
  show IntOp.cmpi .ne (Pipeline.withArrays spec0 c (V0 m c) (fun w => (dats m 0 c).arrAt w (cfgs 0).N) (Proc.devRef .tc (Pipeline.arrRef spec0 6)) y) 0#32 = _
  rw [hw]
  unfold words
  exact bit_back _

theorem result (hn : Named m) (ρ : Dev nD → PrngReg) : θ_run defs (onTc (τ := τ) (main (F := Ideal))) ⟨m, fun _ => 0, ρ⟩ (fun r => ∀ c : Dev nD,
      r.2.mem ((c.tc : Thread nD τ).loc main_v64) = fun y => mask m c (y 0) (y 1) (y 2) (y 3)) :=
  (θ_run defs _ _).mono (fun _ h c => (((h c).2 main_v64 (Pipeline.mem_restRefs_of main_v64 (by decide) (by decide))).trans (tail_eq m c))) (run_main m ρ hn)

end Cert.Proof.Ideal
end
-- ==== Proof.RefValue.lean ====
/-
  The reference program's masks read at an index.
-/
module
public import proofs.«01_k».proof.Proof.Gen.MasksRefIdeal.Read
public import proofs.«01_k».proof.Proof.Spec
public import proofs.«01_k».proof.Proof.Resize
public import Idealize.ShloMosaic.Lib.Pointwise
public import Idealize.ShloMosaic.Lib.ReduceAll
public import Idealize.ShloMosaic.Lib.WordCmp
public import Idealize.ShloMosaic.Lib.Affine
@[expose] public section
set_option maxRecDepth 16384
noncomputable section
namespace Cert.Proof.Ref
open Cert.MasksRefIdeal Cert.MasksRefIdeal.Gen Cert.MasksRefIdeal.Read
open Idealize.ShloMosaic Idealize.ShloMosaic.TcCoe Idealize.SL.Sem Idealize.ShloMosaic.Tactic

/-! ## The weights -/

/-- The weights as the reference computes them. -/
theorem weight_eq (s : Fin 64) (a : Fin 512) :
    Scalar.select
      (IntOp.andi (BitVec.ofBool (decide (Ideal.ofBits .f32 0xBF000000#32 ≤ (((2 * a.val - 7) / 16 : ℝ) : EReal))))
        (BitVec.ofBool (decide ((((2 * a.val - 7) / 16 : ℝ) : EReal) ≤ Ideal.ofBits .f32 0x427E0000#32))))
      (if Ideal.ofBits .f32 0x38FA0000#32 < FloatOps.absf (F := Ideal) (φ := .f32) ((Resize.tot a / 16 : ℝ) : EReal) then
        Ideal.div ((Resize.tri a s / 16 : ℝ) : EReal)
          (if ((Resize.tot a / 16 : ℝ) : EReal) ≠ 0 then ((Resize.tot a / 16 : ℝ) : EReal) else FloatOps.sitofp (F := Ideal) .f32 1#32)
      else FloatOps.sitofp (F := Ideal) .f32 0#32)
      (FloatOps.sitofp (F := Ideal) .f32 0#32) = ((Resize.share a s / 16 : ℝ) : EReal) := by
  have ht : (9 : ℝ) ≤ Resize.tot a := by exact_mod_cast Resize.tot_pos a
  have ha : (a.val : ℝ) ≤ 511 := by exact_mod_cast (show a.val ≤ 511 by omega)
  have ha0 : (0 : ℝ) ≤ a.val := by positivity
  obtain ⟨e, he, hlt⟩ := Resize.small_coe
  have hne : (Resize.tot a / 16 : ℝ) ≠ 0 := by positivity
  have hk : (16 * Resize.tri a s : ℝ) = Resize.tot a * Resize.share a s := by exact_mod_cast Resize.tri_share a s
  have ht0 : (Resize.tot a : ℝ) ≠ 0 := by positivity
  rw [Resize.mhalf_coe, Resize.c635_coe, he, Resize.abs_coe, if_pos (EReal.coe_lt_coe_iff.2 (by rw [abs_of_nonneg (by positivity)]; linarith)),
    if_pos (by rw [← EReal.coe_zero]; exact fun h => hne (EReal.coe_eq_coe_iff.1 h)), Resize.div_coe_coe _ _ hne,
    decide_eq_true (EReal.coe_le_coe_iff.2 (by linarith)), decide_eq_true (EReal.coe_le_coe_iff.2 (by linarith))]
  show ((_ : ℝ) : EReal) = _
  congr 1
  field_simp
  linarith

theorem rows_weight (s : Fin 64) (a : Fin 512) : val_main_call3_v40 (F := Ideal) (ix2 s a) = ((Resize.share a s / 16 : ℝ) : EReal) := by
  pointwise [val_main_call3_v0, val_main_call3_cst, val_main_call3_v1, val_main_call3_v2, val_main_call3_cst_0, val_main_call3_v3, val_main_call3_v4, val_main_call3_cst_1, val_main_call3_v5, val_main_call3_v6, val_main_call3_cst_2, val_main_call3_v7, val_main_call3_v8, val_main_call3_v9, val_main_call3_v10, val_main_call3_v11, val_main_call3_v12, val_main_call3_v13, val_main_call3_v14, val_main_call3_v15, val_main_call3_cst_3, val_main_call3_v16, val_main_call3_v17, val_main_call3_v18, val_main_call3_cst_4, val_main_call3_v19, val_main_call3_v20, val_main_call3_cst_5, val_main_call3_v21, val_main_call3_v22, val_main_call3_cst_6, val_main_call3_v23, val_main_call3_v24, val_main_call3_v25, val_main_call3_cst_7, val_main_call3_v26, val_main_call3_v27, val_main_call3_cst_8, val_main_call3_v28, val_main_call3_v29, val_main_call3_c, val_main_call3_call0_v0, val_main_call3_call0_v1, val_main_call3_v30, val_main_call3_v31, val_main_call3_v32, val_main_call3_c_9, val_main_call3_call1_v0, val_main_call3_call1_v1, val_main_call3_call1_v2, val_main_call3_v33, val_main_call3_cst_10, val_main_call3_v34, val_main_call3_v35, val_main_call3_cst_11, val_main_call3_v36, val_main_call3_v37, val_main_call3_v38, val_main_call3_v39, val_main_call3_c_12, val_main_call3_call2_v0, val_main_call3_call2_v1, val_main_call3_call2_v2, val_main_call3_v40]
  simp only [Resize.tri_coe, Resize.tot_coe]
  simp only [Resize.sample_coe]
  exact weight_eq s a

theorem cols_weight (s : Fin 64) (a : Fin 512) : val_main_call4_v40 (F := Ideal) (ix2 s a) = ((Resize.share a s / 16 : ℝ) : EReal) := by
  pointwise [val_main_call4_v0, val_main_call4_cst, val_main_call4_v1, val_main_call4_v2, val_main_call4_cst_0, val_main_call4_v3, val_main_call4_v4, val_main_call4_cst_1, val_main_call4_v5, val_main_call4_v6, val_main_call4_cst_2, val_main_call4_v7, val_main_call4_v8, val_main_call4_v9, val_main_call4_v10, val_main_call4_v11, val_main_call4_v12, val_main_call4_v13, val_main_call4_v14, val_main_call4_v15, val_main_call4_cst_3, val_main_call4_v16, val_main_call4_v17, val_main_call4_v18, val_main_call4_cst_4, val_main_call4_v19, val_main_call4_v20, val_main_call4_cst_5, val_main_call4_v21, val_main_call4_v22, val_main_call4_cst_6, val_main_call4_v23, val_main_call4_v24, val_main_call4_v25, val_main_call4_cst_7, val_main_call4_v26, val_main_call4_v27, val_main_call4_cst_8, val_main_call4_v28, val_main_call4_v29, val_main_call4_c, val_main_call4_call0_v0, val_main_call4_call0_v1, val_main_call4_v30, val_main_call4_v31, val_main_call4_v32, val_main_call4_c_9, val_main_call4_call1_v0, val_main_call4_call1_v1, val_main_call4_call1_v2, val_main_call4_v33, val_main_call4_cst_10, val_main_call4_v34, val_main_call4_v35, val_main_call4_cst_11, val_main_call4_v36, val_main_call4_v37, val_main_call4_v38, val_main_call4_v39, val_main_call4_c_12, val_main_call4_call2_v0, val_main_call4_call2_v1, val_main_call4_call2_v2, val_main_call4_v40]
  simp only [Resize.tri_coe, Resize.tot_coe]
  simp only [Resize.sample_coe]
  exact weight_eq s a

/-! ## The controllers' rows -/

variable (x0 : FVec Ideal S4x5000x169 .f32) (x1 : FVec Ideal S4x64x64x8 .f32) (x2 : IVec S4x1000 32) (x3 : IVec S4x1 32)

theorem not_negative (w : BitVec 32) (h : w.toNat < 5000) : Scalar.select (IntOp.cmpi .slt w 0#32) (IntOp.addi w 5000#32) w = w := by
  have hs : BitVec.slt w 0#32 = false := by
    rw [← Bool.not_eq_true, BitVec.slt_iff_toInt_lt, BitVec.toInt_eq_toNat_of_lt (by omega)]; simp
  simp [IntOp.cmpi, hs, Scalar.select]

theorem start_apply (h : ∀ j, (x2 j).toNat < 5000) (b : Fin 4) (n : Fin 100) (z : Fin 1) :
    val_main_call0_v4 (F := Ideal) x2 (ix3 b n z) = x2 (ix2 b (⟨n.val, by omega⟩ : Fin 1000)) := by
  pointwise [val_main_v1, val_main_v0, val_main_call0_c, val_main_call0_v0, val_main_call0_v1, val_main_call0_c_0, val_main_call0_v2, val_main_call0_v3, val_main_call0_v4, val_main_call0_c_1, val_main_call0_c_2, val_main_call0_v5, val_main_call0_v6, val_main_call0_v7, val_main_call0_v8, val_main_call0_v9, val_main_call0_v10, val_main_call0_c_3, val_main_call0_v13, val_main_call0_cst, val_main_call0_v14, val_main_call3_call0_v0, val_main_call3_call0_v1, val_main_call4_call0_v0, val_main_call4_call0_v1]
  exact not_negative _ (h _)

theorem inside_apply (h : ∀ j, (x2 j).toNat < 5000) (j : S4x100.Idx) : val_main_call0_v11 (F := Ideal) x2 j = 1#1 := by
  unfold val_main_call0_v11
  refine Host.reduce_andi_one _ _ _ _ _ rfl fun i => ?_
  idx_vars i
  rw [val_main_call0_v10_apply, val_main_call0_v6_apply, val_main_call0_v9_apply, start_apply x2 h]
  have hw := h (ix2 i0 (⟨i1.val, by omega⟩ : Fin 1000))
  generalize x2 (ix2 i0 (⟨i1.val, by omega⟩ : Fin 1000)) = w at *
  have e1 : val_main_call0_v5 (F := Ideal) (ix3 i0 i1 i2) = 0#32 := by pointwise [val_main_call0_c, val_main_call0_v0, val_main_call0_v1, val_main_call0_c_0, val_main_call0_v2, val_main_call0_v3, val_main_call0_v4, val_main_call0_c_1, val_main_call0_c_2, val_main_call0_v5, val_main_call0_v6, val_main_call0_v7, val_main_call0_v8, val_main_call0_v9, val_main_call0_v10, val_main_call0_c_3, val_main_call0_v13, val_main_call0_cst, val_main_call0_v14, val_main_call3_call0_v0, val_main_call3_call0_v1, val_main_call4_call0_v0, val_main_call4_call0_v1]
  have e2 : val_main_call0_v8 (F := Ideal) (ix3 i0 i1 i2) = 4999#32 := by pointwise [val_main_call0_c, val_main_call0_v0, val_main_call0_v1, val_main_call0_c_0, val_main_call0_v2, val_main_call0_v3, val_main_call0_v4, val_main_call0_c_1, val_main_call0_c_2, val_main_call0_v5, val_main_call0_v6, val_main_call0_v7, val_main_call0_v8, val_main_call0_v9, val_main_call0_v10, val_main_call0_c_3, val_main_call0_v13, val_main_call0_cst, val_main_call0_v14, val_main_call3_call0_v0, val_main_call3_call0_v1, val_main_call4_call0_v0, val_main_call4_call0_v1]
  rw [e1, e2, IntOp.andi_eq_one]
  constructor
  · rw [IntOp.cmpi_sge, BitVec.toInt_eq_toNat_of_lt (x := w) (by omega)]; simp
  · rw [IntOp.cmpi_sle, BitVec.toInt_eq_toNat_of_lt (x := w) (by omega)]; simp; omega

/-- The gather of `take_along_axis`: row `idx` of the same image, read signed and clamped. -/
theorem gather_row (idx : IVec S4x100x1 32) (b : Fin 4) (n : Fin 100) (k : Fin 169) :
    Host.gather gather_S4x5000x169_S4x100x1_S4x100x169_2_1_0_0_1_2_11169 x0 idx (ix3 b n k)
      = x0 (ix3 b (⟨min (idx (ix3 b n (0 : Fin 1))).toInt.toNat 4999, by omega⟩ : Fin 5000) k) := by
  unfold Host.gather
  congr 1
  funext a
  refine Fin.ext ?_
  show GatherDims.start _ _ idx a + GatherDims.batchCoord _ _ a + GatherDims.offCoord _ _ a = _
  set d := gather_S4x5000x169_S4x100x1_S4x100x169_2_1_0_0_1_2_11169 with hd
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [hd, gather_S4x5000x169_S4x100x1_S4x100x169_2_1_0_0_1_2_11169] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b n k) ⟨List.idxOf (1 : Fin 3) d.startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  · have h1 : GatherDims.start d (ix3 b n k) idx 2 = 0 := by
      unfold GatherDims.start; exact dif_neg (by simp [hd, gather_S4x5000x169_S4x100x1_S4x100x169_2_1_0_0_1_2_11169])
    have h2 : GatherDims.batchCoord d (ix3 b n k) 2 = 0 :=
      GatherDims.batchCoord_eq_zero _ _ _ (fun h => by simp [hd, gather_S4x5000x169_S4x100x1_S4x100x169_2_1_0_0_1_2_11169] at h)
    have h3 : GatherDims.offCoord d (ix3 b n k) 2 = k.val := by rfl
    show GatherDims.start d (ix3 b n k) idx 2 + GatherDims.batchCoord d (ix3 b n k) 2 + GatherDims.offCoord d (ix3 b n k) 2 = k.val
    rw [h1, h2, h3]; omega

/-- Object `n`'s controller. -/
theorem row_apply (h : ∀ j, (x2 j).toNat < 5000) (b : Fin 4) (n : Fin 100) (k : Fin 169) :
    val_main_v2 (F := Ideal) x0 x2 (ix3 b n k)
      = x0 (ix3 b (⟨(x2 (ix2 b (⟨n.val, by omega⟩ : Fin 1000))).toNat % 5000, Nat.mod_lt _ (by decide)⟩ : Fin 5000) k) := by
  have e : val_main_call0_v13 (F := Ideal) x2 (ix3 b n k) = 1#1 := by rw [val_main_call0_v13_apply, inside_apply x2 h]
  rw [val_main_v2_apply, e]
  show val_main_call0_v12 (F := Ideal) x0 x2 (ix3 b n k) = _
  unfold val_main_call0_v12
  rw [gather_row]
  simp only [start_apply x2 h]
  congr 2
  have hw := h (ix2 b (⟨n.val, by omega⟩ : Fin 1000))
  apply Fin.ext
  show min _ 4999 = _ % 5000
  rw [BitVec.toInt_eq_toNat_of_lt (by omega), Nat.mod_eq_of_lt hw]
  simp; omega

/-! ## The features and the probabilities -/

/-- A place's features: its row of the map, and its column and row as coordinates. -/
theorem feat_apply (b : Fin 4) (k : Fin 10) (p : Fin 4096): val_main_v27 (F := Ideal) x1 (ix3 b p k)
    = Spec.feat (fun r s d => x1 (ix4 b r s d)) ⟨p.val / 64, by omega⟩ ⟨p.val % 64, by omega⟩ k := by
  unfold Spec.feat Spec.coord
  pointwise [val_main_v27, val_main_v26]
  split
  · rfl
  · split
    · pointwise [val_main_v0, val_main_v1, val_main_v3, val_main_v4, val_main_v5, val_main_v6, val_main_v7, val_main_v8, val_main_cst, val_main_v9, val_main_v10, val_main_cst_0, val_main_v11, val_main_v12, val_main_cst_1, val_main_v13, val_main_v14, val_main_v15, val_main_cst_2, val_main_v16, val_main_v17, val_main_cst_3, val_main_v18, val_main_v19, val_main_cst_4, val_main_v20, val_main_v21, val_main_v22, val_main_v23, val_main_v24, val_main_v25, val_main_call1_cst, val_main_call1_v0, val_main_call2_cst, val_main_call2_v0, val_main_cst_5, val_main_cst_6, val_main_cst_7]
    · pointwise [val_main_v0, val_main_v1, val_main_v3, val_main_v4, val_main_v5, val_main_v6, val_main_v7, val_main_v8, val_main_cst, val_main_v9, val_main_v10, val_main_cst_0, val_main_v11, val_main_v12, val_main_cst_1, val_main_v13, val_main_v14, val_main_v15, val_main_cst_2, val_main_v16, val_main_v17, val_main_cst_3, val_main_v18, val_main_v19, val_main_cst_4, val_main_v20, val_main_v21, val_main_v22, val_main_v23, val_main_v24, val_main_v25, val_main_call1_cst, val_main_call1_v0, val_main_call2_cst, val_main_call2_v0, val_main_cst_5, val_main_cst_6, val_main_cst_7]

theorem prob_apply (h : ∀ j, (x2 j).toNat < 5000) (b : Fin 4) (n : Fin 100) (r s : Fin 64) : val_main_v56 (F := Ideal) x0 x1 x2 (ix4 b n r s)
    = Spec.prob (fun k => x0 (ix3 b (⟨(x2 (ix2 b (⟨n.val, by omega⟩ : Fin 1000))).toNat % 5000, Nat.mod_lt _ (by decide)⟩ : Fin 5000) k))
        (Spec.feat (fun r s d => x1 (ix4 b r s d)) r s) := by
  have hf (k : Fin 10) : val_main_v27 (F := Ideal) x1 (ix3 b (⟨r.val * 64 + s.val, by omega⟩ : Fin 4096) k) = Spec.feat (fun r s d => x1 (ix4 b r s d)) r s k := by
    have e1 : (r.val * 64 + s.val) / 64 = r.val := by omega
    have e2 : (r.val * 64 + s.val) % 64 = s.val := by omega
    rw [feat_apply]; simp only [e1, e2]
  unfold Spec.prob Spec.hid2 Spec.hid1 Ideal.logistic
  pointwise [val_main_v0, val_main_v1, val_main_v3, val_main_v4, val_main_v5, val_main_v6, val_main_v7, val_main_v8, val_main_cst, val_main_v9, val_main_v10, val_main_cst_0, val_main_v11, val_main_v12, val_main_cst_1, val_main_v13, val_main_v14, val_main_v15, val_main_cst_2, val_main_v16, val_main_v17, val_main_cst_3, val_main_v18, val_main_v19, val_main_cst_4, val_main_v20, val_main_v21, val_main_v22, val_main_v23, val_main_v24, val_main_v25, val_main_v28, val_main_v29, val_main_v30, val_main_v31, val_main_v32, val_main_v33, val_main_v34, val_main_v35, val_main_v36, val_main_v37, val_main_v38, val_main_v39, val_main_v40, val_main_call1_cst, val_main_call1_v0, val_main_v41, val_main_v42, val_main_v43, val_main_v44, val_main_v45, val_main_call2_cst, val_main_call2_v0, val_main_v46, val_main_v47, val_main_v48, val_main_v49, val_main_v50, val_main_v51, val_main_cst_5, val_main_v52, val_main_v53, val_main_cst_6, val_main_v54, val_main_v55, val_main_v56, val_main_cst_7]
  simp only [hf, row_apply x0 x2 h, Nat.mul_comm _ 10, Nat.mul_comm _ 8, ← Nat.add_assoc]
  simp only [mul_comm (max _ _)]

/-- The masks. -/
theorem out_apply (h : ∀ j, (x2 j).toNat < 5000) (b : Fin 4) (n : Fin 100) (r s : Fin 512) : val_main_v63 (F := Ideal) x0 x1 x2 x3 (ix4 b n r s)
    = IntOp.andi (BitVec.ofBool (decide (Ideal.ofBits .f32 0x3F000000#32 < Spec.enlarged (fun a s => ((Resize.share a s / 16 : ℝ) : EReal))
        (fun i j => Spec.prob (fun k => x0 (ix3 b (⟨(x2 (ix2 b (⟨n.val, by omega⟩ : Fin 1000))).toNat % 5000, Nat.mod_lt _ (by decide)⟩ : Fin 5000) k))
          (Spec.feat (fun r s d => x1 (ix4 b r s d)) i j)) r s)))
      (IntOp.cmpi .slt (BitVec.ofNat 32 n.val) (x3 (ix2 b (0 : Fin 1)))) := by
  unfold Spec.enlarged
  pointwise [val_main_v63, val_main_v62, val_main_v61, val_main_v60, val_main_v59, val_main_v58, val_main_v57, val_main_call3_v41, val_main_v7, val_main_v6, val_main_v5, val_main_v4, val_main_v3, val_main_cst_7]
  simp only [rows_weight, cols_weight, prob_apply x0 x1 x2 h]

end Cert.Proof.Ref
end
-- ==== Proof.Decode.First.lean ====
/-
  The first index at which a row of 80 numbers is greatest.
-/
module
public import proofs.«01_k».proof.Proof.Gen.DecodeIdeal.Value
public import Idealize.ShloMosaic.Lib.Pointwise
@[expose] public section
noncomputable section
namespace Cert.Proof.Decode
open Idealize.ShloMosaic

/-- A left fold of an operation that answers one of its operands, and never one below either: its result is the start
    or a member, and nothing folded is above it. -/
theorem foldl_pick {α ι : Type} (op : α → α → α) (le : α → α → Prop) (hrefl : ∀ a, le a a)
    (htrans : ∀ a b c, le a b → le b c → le a c) (hl : ∀ a b, le a (op a b)) (hr : ∀ a b, le b (op a b))
    (hs : ∀ a b, op a b = a ∨ op a b = b) (x : ι → α) : ∀ (L : List ι) (i : α),
    (L.foldl (fun r k => op r (x k)) i = i ∨ ∃ k ∈ L, L.foldl (fun r k => op r (x k)) i = x k)
      ∧ le i (L.foldl (fun r k => op r (x k)) i) ∧ ∀ k ∈ L, le (x k) (L.foldl (fun r k => op r (x k)) i)
  | [], i => ⟨.inl rfl, hrefl i, fun _ h => nomatch h⟩
  | k :: L, i => by
      obtain ⟨h1, h2, h3⟩ := foldl_pick op le hrefl htrans hl hr hs x L (op i (x k))
      refine ⟨?_, htrans _ _ _ (hl i (x k)) h2, fun j hj => ?_⟩
      · rcases h1 with h1 | ⟨j, hj, h1⟩
        · rcases hs i (x k) with e | e
          · exact .inl (h1.trans e)
          · exact .inr ⟨k, List.mem_cons_self, h1.trans e⟩
        · exact .inr ⟨j, List.mem_cons_of_mem _ hj, h1⟩
      · rcases List.mem_cons.1 hj with rfl | hj
        · exact htrans _ _ _ (hr i (x j)) h2
        · exact h3 j hj

/-- The word `w` names the first index at which `v` is greatest. -/
def IsFirst (v : Fin 80 → EReal) (w : BitVec 32) : Prop :=
  ∃ k : Fin 80, w = BitVec.ofNat 32 k.val ∧ ∀ j, v j < v k ∨ v j = v k ∧ k ≤ j

theorem IsFirst.unique {v : Fin 80 → EReal} {w w' : BitVec 32} (h : IsFirst v w) (h' : IsFirst v w') : w = w' := by
  obtain ⟨k, rfl, hk⟩ := h
  obtain ⟨k', rfl, hk'⟩ := h'
  have e : k = k' := by
    rcases hk k' with h | ⟨e, h⟩
    · rcases hk' k with h' | ⟨e', h'⟩
      · exact absurd (h.trans h') (lt_irrefl _)
      · exact absurd (e' ▸ h) (lt_irrefl _)
    · rcases hk' k with h' | ⟨_, h'⟩
      · exact absurd (e ▸ h') (lt_irrefl _)
      · exact le_antisymm h h'
  rw [e]

open Classical in
/-- That word. -/
def first (v : Fin 80 → EReal) : BitVec 32 := if h : ∃ w, IsFirst v w then h.choose else 0

theorem IsFirst.eq {v : Fin 80 → EReal} {w : BitVec 32} (h : IsFirst v w) : w = first v := by
  have hx : ∃ w, IsFirst v w := ⟨w, h⟩
  unfold first
  rw [dif_pos hx]
  exact h.unique hx.choose_spec

/-- The reducer that keeps the pair of the greater value, of the smaller index among equals. -/
theorem isFirst_of_pairs (op : EReal × BitVec 32 → EReal × BitVec 32 → EReal × BitVec 32)
    (hop : ∀ a b, op a b = if b.1 < a.1 ∨ a.1 = b.1 ∧ a.2.toInt < b.2.toInt then a else b) (v : Fin 80 → EReal)
    {ι : Type} (L : List ι) (x : ι → EReal × BitVec 32)
    (hx : ∀ i ∈ L, ∃ k : Fin 80, x i = (v k, BitVec.ofNat 32 k.val)) (hL : ∀ k : Fin 80, ∃ i ∈ L, x i = (v k, BitVec.ofNat 32 k.val)) :
    IsFirst v (L.foldl (fun r i => op r (x i)) (⊥, 0#32)).2 := by
  have hn : ∀ k : Fin 80, (BitVec.ofNat 32 k.val).toInt = (k.val : Int) := fun k => by
    rw [BitVec.toInt_eq_toNat_of_lt (by rw [BitVec.toNat_ofNat]; omega), BitVec.toNat_ofNat, Nat.mod_eq_of_lt (by omega)]
  obtain ⟨h1, _, h3⟩ := foldl_pick op (fun a b => a.1 < b.1 ∨ a.1 = b.1 ∧ b.2.toInt ≤ a.2.toInt)
    (fun a => .inr ⟨rfl, le_refl _⟩)
    (fun a b c h h' => by
      rcases h with h | ⟨e, h⟩ <;> rcases h' with h' | ⟨e', h'⟩
      · exact .inl (h.trans h')
      · exact .inl (e' ▸ h)
      · exact .inl (e ▸ h')
      · exact .inr ⟨e.trans e', h'.trans h⟩)
    (fun a b => by
      rw [hop]
      split
      · exact .inr ⟨rfl, le_refl _⟩
      · next h =>
        rcases lt_trichotomy a.1 b.1 with l | l | l
        · exact .inl l
        · exact .inr ⟨l, not_lt.1 fun q => h (.inr ⟨l, q⟩)⟩
        · exact absurd (.inl l) h)
    (fun a b => by
      rw [hop]
      split
      · next h =>
        rcases h with h | ⟨e, h⟩
        · exact .inl h
        · exact .inr ⟨e.symm, h.le⟩
      · exact .inr ⟨rfl, le_refl _⟩)
    (fun a b => by rw [hop]; split <;> simp) x L (⊥, 0#32)
  have key : ∃ k : Fin 80, L.foldl (fun r i => op r (x i)) (⊥, 0#32) = (v k, BitVec.ofNat 32 k.val) := by
    rcases h1 with h1 | ⟨i, hi, h1⟩
    · refine ⟨0, h1.trans (Prod.ext ?_ rfl)⟩
      obtain ⟨i, hi, e⟩ := hL 0
      have := h3 i hi
      rw [h1, e] at this
      rcases this with h | ⟨h, _⟩
      · exact absurd h not_lt_bot
      · exact h.symm
    · obtain ⟨k, e⟩ := hx i hi
      exact ⟨k, h1.trans e⟩
  obtain ⟨k, hk⟩ := key
  refine ⟨k, by rw [hk], fun j => ?_⟩
  obtain ⟨i, hi, e⟩ := hL j
  have := h3 i hi
  rw [hk, e] at this
  rcases this with h | ⟨h, h'⟩
  · exact .inl h
  · refine .inr ⟨h, ?_⟩
    simp only [hn] at h'
    exact Fin.le_def.2 (by omega)

/-- A fold over `Fin n` is the left fold in order. -/
theorem fold_eq_foldl {α : Type} {n : Nat} (op : α → α → α) [Std.Commutative op] [Std.Associative op] (b : α) (f : Fin n → α) :
    (Finset.univ : Finset (Fin n)).fold op b f = (List.finRange n).foldl (fun r k => op r (f k)) b := by
  show Multiset.fold op b ((Finset.univ : Finset (Fin n)).val.map f) = _
  rw [Fin.univ_def]
  show Multiset.fold op b ((((List.finRange n).map f : List α)) : Multiset α) = _
  rw [Multiset.coe_fold_l, List.foldl_map]

/-- The least of the indices at which `v` is its maximum. -/
theorem isFirst_of_least (v : Fin 80 → EReal) (w : BitVec 32)
    (h : w = (Finset.univ : Finset (Fin 80)).fold IntOp.minsi 2147483647#32 (fun k =>
      if v k = (Finset.univ : Finset (Fin 80)).fold max ⊥ v then BitVec.ofNat 32 k.val else 80#32)) : IsFirst v w := by
  have hn : ∀ k : Fin 80, (BitVec.ofNat 32 k.val).toInt = (k.val : Int) := fun k => by
    rw [BitVec.toInt_eq_toNat_of_lt (by rw [BitVec.toNat_ofNat]; omega), BitVec.toNat_ofNat, Nat.mod_eq_of_lt (by omega)]
  generalize hM : (Finset.univ : Finset (Fin 80)).fold max ⊥ v = M at h
  have hle : ∀ k, v k ≤ M := fun k => by rw [← hM]; exact (Finset.le_fold_max _).2 (.inr ⟨k, Finset.mem_univ _, le_refl _⟩)
  have hex : ∃ k, v k = M := by
    have : M ≤ (Finset.univ : Finset (Fin 80)).fold max ⊥ v := hM.ge
    rcases (Finset.le_fold_max _).1 this with h | ⟨k, _, h⟩
    · exact ⟨0, le_antisymm (hle 0) (h.trans bot_le)⟩
    · exact ⟨k, le_antisymm (hle k) h⟩
  have hfold : (Finset.univ : Finset (Fin 80)).fold IntOp.minsi 2147483647#32 (fun k => if v k = M then BitVec.ofNat 32 k.val else 80#32)
      = (List.finRange 80).foldl (fun r k => IntOp.minsi r (if v k = M then BitVec.ofNat 32 k.val else 80#32)) 2147483647#32 :=
    fold_eq_foldl _ _ _
  rw [hfold] at h
  obtain ⟨h1, _, h3⟩ := foldl_pick IntOp.minsi (fun a b => b.toInt ≤ a.toInt) (fun _ => le_refl _) (fun _ _ _ h h' => h'.trans h)
    (fun a b => by unfold IntOp.minsi; split <;> simp_all [BitVec.slt]) (fun a b => by unfold IntOp.minsi; split <;> simp_all [BitVec.slt]; omega)
    (fun a b => by unfold IntOp.minsi; split <;> simp) (fun k : Fin 80 => if v k = M then BitVec.ofNat 32 k.val else 80#32) (List.finRange 80) 2147483647#32
  rw [← h] at h1 h3
  obtain ⟨k0, hk0⟩ := hex
  have l0 := h3 k0 (List.mem_finRange _)
  rw [if_pos hk0, hn] at l0
  rcases h1 with h1 | ⟨k, _, h1⟩
  · exfalso; rw [h1] at l0; have : (2147483647#32 : BitVec 32).toInt = 2147483647 := by decide
    omega
  · by_cases hk : v k = M
    · rw [if_pos hk] at h1
      refine ⟨k, h1, fun j => ?_⟩
      rcases lt_or_eq_of_le (hle j) with hj | hj
      · exact .inl (hk ▸ hj)
      · refine .inr ⟨hj.trans hk.symm, ?_⟩
        have := h3 j (List.mem_finRange _)
        rw [if_pos hj, h1, hn, hn] at this
        exact Fin.le_def.2 (by omega)
    · exfalso
      rw [if_neg hk] at h1
      rw [h1] at l0
      have : (80#32 : BitVec 32).toInt = 80 := by decide
      omega

end Cert.Proof.Decode
end
-- ==== Proof.Decode.Pay.lean ====
/-
  What the decode kernel stores, location by location.
-/
module
public import proofs.«01_k».proof.Proof.Decode.First
public import Idealize.ShloMosaic.Lib.Claim
@[expose] public section
set_option maxRecDepth 16384
noncomputable section
namespace Cert.Proof.Decode
open Cert.DecodeIdeal Cert.DecodeIdeal.Gen
open Idealize.ShloMosaic Idealize.ShloMosaic.TcCoe Idealize.SL.Sem Idealize.ShloMosaic.Tactic

/-- The greatest of a location's 80 class scores. -/
def top (v : Fin 80 → EReal) : EReal := (Finset.univ : Finset (Fin 80)).fold max ⊥ v

theorem low_bits : FloatOps.ofBits (F := Ideal) .f32 0xFF800000#32 = (⊥ : EReal) := by
  simp [Ideal.ofBits, Ideal.ieee]

/-- The score of a location, and what stands for it when it is not above the least score that counts. -/
def score (v : Fin 80 → EReal) (x : EReal) : EReal :=
  Scalar.select (FloatOps.cmpf (F := Ideal) (φ := .f32) .ogt (FloatOps.sqrt (F := Ideal) (φ := .f32) (top v * x)) (Ideal.ofBits .f32 0x3DCCCCCD#32))
    (FloatOps.sqrt (F := Ideal) (φ := .f32) (top v * x)) ⊥

theorem pay4 (x : FVec Ideal S1x5000x80 .f32) (y : FVec Ideal S1x5000x1 .f32) (n : Fin 5000) :
    k0_pay4 (F := Ideal) x y (ix3 (0 : Fin 1) n (0 : Fin 1)) = score (fun k => x (ix3 (0 : Fin 1) n k)) (y (ix3 (0 : Fin 1) n (0 : Fin 1))) := by
  unfold k0_pay4 k0_pay3 k0_pay2 score top
  rw [← low_bits]
  pointwise

theorem pay5 (x : FVec Ideal S1x5000x80 .f32) (n : Fin 5000) :
    k0_pay5 (F := Ideal) x (ix3 (0 : Fin 1) n (0 : Fin 1)) = FloatOps.sitofp (F := Ideal) .f32 (first fun k => x (ix3 (0 : Fin 1) n k)) := by
  unfold k0_pay5 k0_pay3 k0_pay2
  pointwise
  have e : Ideal.ofBits .f32 4286578688#32 = (⊥ : EReal) := low_bits
  rw [e]
  exact congrArg _ (isFirst_of_least _ _ rfl).eq

/-- A box's corner coordinate: the position less, or more, the distance. -/
def corner (x : Fin 4 → EReal) (y : Fin 2 → EReal) (k : Fin 4) : EReal :=
  if h : k.val < 2 then y ⟨k.val, h⟩ - x k else y ⟨k.val - 2, by omega⟩ + x k

theorem pay1 (x : FVec Ideal S1x5000x4 .f32) (y : FVec Ideal S1x5000x2 .f32) (n : Fin 5000) (k : Fin 4) :
    k0_pay1 (F := Ideal) (k0_pay8 (F := Ideal) x y) (k0_pay9 (F := Ideal) x y) (ix3 (0 : Fin 1) n k) = corner (fun k => x (ix3 (0 : Fin 1) n k)) (fun k => y (ix3 (0 : Fin 1) n k)) k := by
  unfold k0_pay1 k0_pay8 k0_pay9 k0_pay7 k0_pay6 corner
  pointwise
  split
  · rfl
  · next h => exact congrArg (_ + ·) (congrArg (fun j => x (ix3 (0 : Fin 1) n j)) (Fin.ext (by show 2 + (k.val - 2) = k.val; omega)))

end Cert.Proof.Decode
end
-- ==== Proof.Decode.Out.lean ====
/-
  The decode program's three results, each as one function of the arguments.
-/
module
public import proofs.«01_k».proof.Proof.Decode.Pay
public import Idealize.ShloMosaic.Lib.Pipeline.ValueKit
public import Idealize.ShloMosaic.Lib.Claim
@[expose] public section
set_option maxRecDepth 16384
noncomputable section
namespace Cert.Proof.Decode
open Cert.DecodeIdeal Cert.DecodeIdeal.Gen
open Idealize.ShloMosaic Idealize.ShloMosaic.TcCoe Idealize.SL.Sem Idealize.ShloMosaic.Tactic

/-! ## The blocks -/

variable (m : (ℓ : Loc nD τ sig) → Buf (Elt Ideal) ℓ)

/-- The class scores, the distances, the centre scores and the positions. -/
abbrev cls (c : Dev nD) : FVec Ideal S4x5000x80 .f32 := m ((c : Thread nD τ).loc main_arg0)
abbrev reg (c : Dev nD) : FVec Ideal S4x5000x4 .f32 := m ((c : Thread nD τ).loc main_arg1)
abbrev cen (c : Dev nD) : FVec Ideal S4x5000x1 .f32 := m ((c : Thread nD τ).loc main_arg2)
abbrev pos (c : Dev nD) : FVec Ideal S4x5000x2 .f32 := m ((c : Thread nD τ).loc main_arg3)

variable (c : Dev nD) (t : Fin cfg0.N)

/-- The point's image. -/
abbrev img : Fin 4 := ⟨(grid0.coords t 0).val, (grid0.coords t 0).isLt⟩

theorem blk_cls (n : Fin 5000) (k : Fin 80) : (iblk m c 0 t : FVec Ideal S1x5000x80 .f32) (ix3 (0 : Fin 1) n k) = cls m c (ix3 (img t) n k) := by
  have e : ∀ t, win0_0.index t = ![(grid0.coords t 0).val, 0, 0] := by decide +kernel
  blk_simp [iblk, e]
  rw [V_main_arg0]
  refine congrArg (m ((c : Thread nD τ).loc main_arg0)) ?_
  funext a
  fin_cases a <;> (apply Fin.ext; blk_simp [e]; try simp)

theorem blk_cen (n : Fin 5000) : (iblk m c 1 t : FVec Ideal S1x5000x1 .f32) (ix3 (0 : Fin 1) n (0 : Fin 1)) = cen m c (ix3 (img t) n (0 : Fin 1)) := by
  have e : ∀ t, win0_1.index t = ![(grid0.coords t 0).val, 0, 0] := by decide +kernel
  blk_simp [iblk, e]
  rw [V_main_arg2]
  refine congrArg (m ((c : Thread nD τ).loc main_arg2)) ?_
  funext a
  fin_cases a <;> (apply Fin.ext; blk_simp [e]; try simp)

theorem blk_reg (n : Fin 5000) (k : Fin 4) : (iblk m c 2 t : FVec Ideal S1x5000x4 .f32) (ix3 (0 : Fin 1) n k) = reg m c (ix3 (img t) n k) := by
  have e : ∀ t, win0_2.index t = ![(grid0.coords t 0).val, 0, 0] := by decide +kernel
  blk_simp [iblk, e]
  rw [V_main_arg1]
  refine congrArg (m ((c : Thread nD τ).loc main_arg1)) ?_
  funext a
  fin_cases a <;> (apply Fin.ext; blk_simp [e]; try simp)

theorem blk_pos (n : Fin 5000) (k : Fin 2) : (iblk m c 3 t : FVec Ideal S1x5000x2 .f32) (ix3 (0 : Fin 1) n k) = pos m c (ix3 (img t) n k) := by
  have e : ∀ t, win0_3.index t = ![(grid0.coords t 0).val, 0, 0] := by decide +kernel
  blk_simp [iblk, e]
  rw [V_main_arg3]
  refine congrArg (m ((c : Thread nD τ).loc main_arg3)) ?_
  funext a
  fin_cases a <;> (apply Fin.ext; blk_simp [e]; try simp)

/-! ## The results -/

def scores : S4x5000x1.Idx → EReal := fun y => score (fun k => cls m c (ix3 (y 0) (y 1) k)) (cen m c (ix3 (y 0) (y 1) (0 : Fin 1)))
def classes : S4x5000x1.Idx → EReal := fun y => FloatOps.sitofp (F := Ideal) .f32 (first fun k => cls m c (ix3 (y 0) (y 1) k))
def boxes : S4x5000x4.Idx → EReal := fun y => corner (fun k => reg m c (ix3 (y 0) (y 1) k)) (fun k => pos m c (ix3 (y 0) (y 1) k)) (y 2)

theorem ix3_one (y : S1x5000x1.Idx) : y = ix3 (0 : Fin 1) (y 1 : Fin 5000) (0 : Fin 1) := by
  funext a
  fin_cases a
  · exact Fin.ext (by have h : (y 0).val < 1 := (y 0).isLt; show (y 0).val = 0; omega)
  · rfl
  · exact Fin.ext (by have h : (y 2).val < 1 := (y 2).isLt; show (y 2).val = 0; omega)

theorem ix3_row (y : S1x5000x4.Idx) : y = ix3 (0 : Fin 1) (y 1 : Fin 5000) (y 2 : Fin 4) := by
  funext a
  fin_cases a
  · exact Fin.ext (by have h : (y 0).val < 1 := (y 0).isLt; show (y 0).val = 0; omega)
  · rfl
  · rfl

theorem arr_scores : (dats m 0 c).arrAt 4 (cfgs 0).N = scores m c := by
  have e : ∀ t, win0_4.index t = ![(grid0.coords t 0).val, 0, 0] := by decide +kernel
  refine (dats m 0 c).arrAt_eq_of_covers 4 _ (by decide +kernel) fun t hf y => ?_
  blk_simp
  rw [after0_4]
  frame_out
  refine (congrArg _ (ix3_one y)).trans ((pay4 _ _ _).trans ?_)
  refine (congrArg₂ score (funext fun k => blk_cls m c t (y 1) k) (blk_cen m c t (y 1))).trans ?_
  refine (?_ : scores m c (ix3 (img t) (y 1 : Fin 5000) (0 : Fin 1)) = _)
  refine congrArg (scores m c) ?_
  funext a
  fin_cases a <;> (apply Fin.ext; blk_simp [e]; try simp)

theorem arr_classes : (dats m 0 c).arrAt 5 (cfgs 0).N = classes m c := by
  have e : ∀ t, win0_5.index t = ![(grid0.coords t 0).val, 0, 0] := by decide +kernel
  refine (dats m 0 c).arrAt_eq_of_covers 5 _ (by decide +kernel) fun t hf y => ?_
  blk_simp
  rw [after0_5]
  frame_out
  refine (congrArg _ (ix3_one y)).trans ((pay5 _ _).trans ?_)
  refine (congrArg (fun v => FloatOps.sitofp (F := Ideal) .f32 (first v)) (funext fun k => blk_cls m c t (y 1) k)).trans ?_
  refine (?_ : classes m c (ix3 (img t) (y 1 : Fin 5000) (0 : Fin 1)) = _)
  refine congrArg (classes m c) ?_
  funext a
  fin_cases a <;> (apply Fin.ext; blk_simp [e]; try simp)

theorem arr_boxes : (dats m 0 c).arrAt 6 (cfgs 0).N = boxes m c := by
  have e : ∀ t, win0_6.index t = ![(grid0.coords t 0).val, 0, 0] := by decide +kernel
  refine (dats m 0 c).arrAt_eq_of_covers 6 _ (by decide +kernel) fun t hf y => ?_
  blk_simp
  rw [after0_6]
  frame_out
  refine (congrArg _ (ix3_row y)).trans ((pay1 _ _ _ _).trans ?_)
  refine (congrArg₂ (fun u v => corner u v (y 2)) (funext fun k => blk_reg m c t (y 1) k) (funext fun k => blk_pos m c t (y 1) k)).trans ?_
  refine (?_ : boxes m c (ix3 (img t) (y 1 : Fin 5000) (y 2 : Fin 4)) = _)
  refine congrArg (boxes m c) ?_
  funext a
  fin_cases a <;> (apply Fin.ext; blk_simp [e]; try simp)

end Cert.Proof.Decode
end
-- ==== Proof.Decode.Ref.lean ====
/-
  The decode reference's run.
-/
module
public import proofs.«01_k».proof.Defs
public import proofs.«01_k».proof.Proof.Gen.DecodeRefIdeal
public import proofs.«01_k».proof.Proof.Decode.Out
public import Idealize.ShloMosaic.Lib.Claim
@[expose] public section
set_option maxRecDepth 16384
noncomputable section
namespace Cert.Proof.DecodeRef
open Cert.DecodeRefIdeal Cert.DecodeRefIdeal.Facts₀
open Idealize.ShloMosaic Idealize.ShloMosaic.TcCoe Idealize.SL.Sem Idealize.ShloMosaic.Tactic
variable (m : (ℓ : Loc nD τ sig) → Buf (Elt Ideal) ℓ) (g : Dev nD → PrngReg)

theorem scores_eq (x : FVec Ideal S4x5000x80 .f32) (y : FVec Ideal S4x5000x1 .f32) (h1) (h2 : S4x5000x80.ReducesTo [2] S4x5000) (h3 h4 h5 h6) (b : Fin 4) (n : Fin 5000) :
    broadcastInDim S4x5000x1 ![0, 1] h1 (select (cmpf .ogt (Host.sqrt (mulf (Host.reduce (FloatOps.maximumf (F := Ideal) (φ := .f32)) x (constant S_ FTy.f32 4286578688#32) h2 h3) (shapeCast S4x5000 y h4)))
        (broadcastInDim S4x5000 ![] h5 (constant S_ FTy.f32 1036831949#32)))
      (Host.sqrt (mulf (Host.reduce (FloatOps.maximumf (F := Ideal) (φ := .f32)) x (constant S_ FTy.f32 4286578688#32) h2 h3) (shapeCast S4x5000 y h4)))
      (broadcastInDim S4x5000 ![] h6 (constant S_ FTy.f32 4286578688#32))) (ix3 b n (0 : Fin 1))
      = Decode.score (fun k => x (ix3 b n k)) (y (ix3 b n (0 : Fin 1))) := by
  unfold Decode.score Decode.top
  rw [← Decode.low_bits]
  pointwise

theorem corners_eq (x : FVec Ideal S4x5000x4 .f32) (y : FVec Ideal S4x5000x2 .f32) (h1 h2 h3) (b : Fin 4) (n : Fin 5000) (k : Fin 4) :
    concatenate S4x5000x4 2
      [⟨S4x5000x2, subf y (extractStridedSlice S4x5000x2 ![0, 0, 0] x h1)⟩,
        ⟨S4x5000x2, addf y (extractStridedSlice S4x5000x2 ![0, 0, 2] x h2)⟩] h3 (ix3 b n k) = Decode.corner (fun k => x (ix3 b n k)) (fun k => y (ix3 b n k)) k := by
  unfold Decode.corner
  pointwise
  split
  · rfl
  · next h => exact congrArg (_ + ·) (congrArg (fun j => x (ix3 b n j)) (Fin.ext (by show 2 + (k.val - 2) = k.val; omega)))

/-- The reducer keeps the first of two pairs where its value is greater, or as great with the smaller index. -/
theorem reducer_eq (a b : EReal × BitVec 32) : reducer_argmax_f32_i32 (F := Ideal) a b = if b.1 < a.1 ∨ a.1 = b.1 ∧ a.2.toInt < b.2.toInt then a else b := by
  obtain ⟨a1, a2⟩ := a
  obtain ⟨b1, b2⟩ := b
  unfold reducer_argmax_f32_i32
  simp only [Ideal.cmpf_def, Ideal.cmp, IntOp.cmpi, IntOp.ori, IntOp.andi, Scalar.select, BitVec.slt]
  rcases lt_trichotomy a1 b1 with h | h | h
  · simp [h, not_lt.2 h.le, h.ne]
  · subst h
    by_cases q : a2.toInt < b2.toInt <;> simp [q]
  · have one : ∀ q : Bool, 1#1 ||| BitVec.ofBool q = 1#1 := by decide
    simp [h, one]

theorem mem_fiber (x : FVec Ideal S4x5000x80 .f32) (y : S4x5000x80.Idx → BitVec 32) (b : Fin 4) (n : Fin 5000) (p : EReal × BitVec 32) :
    p ∈ Host.argReduceFiber (α := EReal) x y reducesTo_S4x5000x80_S4x5000_d2 (ix2 b n) ↔ ∃ k : Fin 80, p = (x (ix3 b n k), y (ix3 b n k)) := by
  have hd : ∀ k : Fin 80, reducesTo_S4x5000x80_S4x5000_d2.drop (ix3 b n k) = ix2 b n := fun k => by
    funext a; fin_cases a <;> rfl
  have hi : ∀ i : S4x5000x80.Idx, reducesTo_S4x5000x80_S4x5000_d2.drop i = ix2 b n → i = ix3 b n (i 2) := fun i h => by
    have h0 := congrArg Fin.val (congrFun h 0)
    have h1 := congrArg Fin.val (congrFun h 1)
    funext a
    fin_cases a
    · exact Fin.ext h0
    · exact Fin.ext h1
    · rfl
  unfold Host.argReduceFiber
  generalize hR : S4x5000x80.rowMajor = R
  constructor
  · intro h
    obtain ⟨q, hq, e⟩ := List.mem_map.1 h
    have h' := hi _ (of_decide_eq_true (List.mem_filter.1 hq).2)
    refine ⟨R.symm q 2, ?_⟩
    exact e.symm.trans (congrArg (fun i => (x i, y i)) h')
  · rintro ⟨k, rfl⟩
    refine List.mem_map.2 ⟨R (ix3 b n k), List.mem_filter.2 ⟨List.mem_finRange _, ?_⟩, ?_⟩
    · rw [Equiv.symm_apply_apply]
      exact decide_eq_true (hd k)
    · rw [Equiv.symm_apply_apply]

/-- The host's index of the greatest. -/
theorem pick_eq (x : FVec Ideal S4x5000x80 .f32) (b : Fin 4) (n : Fin 5000) :
    (Host.argReduce (F := Ideal) (φ := .f32) reducer_argmax_f32_i32 x (iotaInDim S4x5000x80 32 2) (constant S_ FTy.f32 4286578688#32) (constantI S_ 32 0#32)
      reducesTo_S4x5000x80_S4x5000_d2 h_S_ (ix2 b n)).2 = Decode.first fun k => x (ix3 b n k) := by
  rw [Ideal.argReduce_eq_reduce2, Host.reduce2_eq_foldl_fiber]
  refine Decode.IsFirst.eq ?_
  have e0 : constant (F := Ideal) S_ FTy.f32 4286578688#32 (Shape.Idx.first h_S_) = (⊥ : EReal) := Decode.low_bits
  have e1 : constantI S_ 32 0#32 (Shape.Idx.first h_S_) = 0#32 := rfl
  have hm := mem_fiber x (iotaInDim S4x5000x80 32 2) b n
  rw [e0, e1]
  generalize Host.argReduceFiber (α := EReal) x (iotaInDim S4x5000x80 32 2) reducesTo_S4x5000x80_S4x5000_d2 (ix2 b n) = L at hm
  exact Decode.isFirst_of_pairs _ reducer_eq (fun k => x (ix3 b n k)) L id (fun p hp => (hm p).1 hp) fun k => ⟨_, (hm _).2 ⟨k, rfl⟩, rfl⟩

theorem row_eq (z : S4x5000.Idx → BitVec 32) (h1 : S4x5000.BroadcastsInDim S4x5000x1 ![0, 1]) (b : Fin 4) (n : Fin 5000) :
    broadcastInDim S4x5000x1 ![0, 1] h1 (sitofp (F := Ideal) FTy.f32 z) (ix3 b n (0 : Fin 1)) = FloatOps.sitofp (F := Ideal) .f32 (z (ix2 b n)) := by
  pointwise

theorem classes_eq (x : FVec Ideal S4x5000x80 .f32) (h1) (b : Fin 4) (n : Fin 5000) :
    broadcastInDim S4x5000x1 ![0, 1] h1 (sitofp (F := Ideal) FTy.f32 fun j =>
      (Host.argReduce (F := Ideal) (φ := .f32) reducer_argmax_f32_i32 x (iotaInDim S4x5000x80 32 2) (constant S_ FTy.f32 4286578688#32) (constantI S_ 32 0#32)
        reducesTo_S4x5000x80_S4x5000_d2 h_S_ j).2) (ix3 b n (0 : Fin 1)) = FloatOps.sitofp (F := Ideal) .f32 (Decode.first fun k => x (ix3 b n k)) := by
  exact (row_eq _ h1 b n).trans (congrArg (FloatOps.sitofp (F := Ideal) .f32) (pick_eq x b n))

end Cert.Proof.DecodeRef
end
-- ==== Proof.Decode.Claim.lean ====
/-
  The decode call and its reference run, and their results agree.
-/
module
public import proofs.«01_k».proof.Proof.Decode.Ref
public import Idealize.ShloMosaic.Lib.Quiescent
@[expose] public section
set_option maxRecDepth 16384
noncomputable section
namespace Cert.Proof.Decode
open Idealize.ShloMosaic Idealize.ShloMosaic.TcCoe Idealize.SL.Sem Idealize.ShloMosaic.Tactic

section
open Cert.DecodeIdeal Cert.DecodeIdeal.Gen

/-- The call's three results. -/
theorem result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = scores m c
      ∧ r.2.mem ((c.tc : Thread nD τ).loc main_v0_1) = classes m c
      ∧ r.2.mem ((c.tc : Thread nD τ).loc main_v0_2) = boxes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (arr_scores m c), (h c).2.1.trans (arr_classes m c), (h c).2.2.1.trans (arr_boxes m c), (h c).2.2.2⟩)
    (Cert.DecodeIdeal.Value.run_blocks m g)
end

section
open Cert.DecodeRefIdeal Cert.DecodeRefIdeal.Gen

theorem col_eq (y : S4x5000x1.Idx) : y = ix3 (y 0 : Fin 4) (y 1 : Fin 5000) (0 : Fin 1) := by
  funext a
  fin_cases a
  · rfl
  · rfl
  · exact Fin.ext (by have h : (y 2).val < 1 := (y 2).isLt; show (y 2).val = 0; omega)

/-- The reference's three results. -/
theorem ref_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v13) = (fun y : S4x5000x1.Idx => score (fun k => (m ((c.tc : Thread nD τ).loc main_arg0) : FVec Ideal S4x5000x80 .f32) (ix3 (y 0 : Fin 4) (y 1 : Fin 5000) k))
        ((m ((c.tc : Thread nD τ).loc main_arg2) : FVec Ideal S4x5000x1 .f32) (ix3 (y 0 : Fin 4) (y 1 : Fin 5000) (0 : Fin 1))))
      ∧ r.2.mem ((c.tc : Thread nD τ).loc main_v15) = (fun y : S4x5000x1.Idx => FloatOps.sitofp (F := Ideal) .f32 (first fun k => (m ((c.tc : Thread nD τ).loc main_arg0) : FVec Ideal S4x5000x80 .f32) (ix3 (y 0 : Fin 4) (y 1 : Fin 5000) k)))
      ∧ r.2.mem ((c.tc : Thread nD τ).loc main_v9) = (fun y : S4x5000x4.Idx => corner (fun k => (m ((c.tc : Thread nD τ).loc main_arg1) : FVec Ideal S4x5000x4 .f32) (ix3 (y 0 : Fin 4) (y 1 : Fin 5000) k))
        (fun k => (m ((c.tc : Thread nD τ).loc main_arg3) : FVec Ideal S4x5000x2 .f32) (ix3 (y 0 : Fin 4) (y 1 : Fin 5000) k)) (y 2 : Fin 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  · simp -implicitDefEqProofs only [StableHlo.TRef.toBuf, StableHlo.TRef.ofBuf, cast_cast, cast_eq]
    funext y
    refine (congrArg _ (col_eq y)).trans ?_
    exact DecodeRef.scores_eq (m ((c.tc : Thread nD τ).loc main_arg0)) (m ((c.tc : Thread nD τ).loc main_arg2)) _ _ _ _ _ Cert.DecodeRefIdeal.Facts₀.bcast_S_S4x5000 (y 0) (y 1)
  · funext y
    refine (congrArg _ (col_eq y)).trans ?_
    exact DecodeRef.classes_eq (m ((c.tc : Thread nD τ).loc main_arg0)) _ (y 0) (y 1)
  · funext y
    have e : y = ix3 (y 0 : Fin 4) (y 1 : Fin 5000) (y 2 : Fin 4) := by funext a; fin_cases a <;> rfl
    refine (congrArg _ e).trans ?_
    exact DecodeRef.corners_eq (m ((c.tc : Thread nD τ).loc main_arg1)) (m ((c.tc : Thread nD τ).loc main_arg3)) _ _ _ (y 0) (y 1) (y 2)

/-- The reference runs, its arguments end as launched and every counter at zero. -/
theorem ref_framed (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2, sem_eq_zero_of_no_sems (by decide) r.2⟩) (ref_result m g)

end

/-- The call's results are the reference's. -/
theorem algebraic : Cert.algebraic_DecodeIdeal_DecodeRefIdeal (hDecodeIdeal := Cert.DecodeIdeal.Gen.facts) (hDecodeRefIdeal := Cert.DecodeRefIdeal.Gen.facts) := by
  intro m g m' g' hpre hag
  refine ⟨scores m, classes m, boxes m, result m g, ?_⟩
  refine (θ_run _ _ _).mono (fun r h c => ⟨(h c).1.trans ?_, (h c).2.1.trans ?_, (h c).2.2.1.trans ?_, (h c).2.2.2⟩) (ref_result m' g')
  all_goals
    obtain ⟨h0, h1, h2, h3⟩ := hag c
    first
      | rw [h0, h2]; rfl
      | rw [h0]; rfl
      | rw [h1, h3]; rfl

end Cert.Proof.Decode
end
-- ==== Proof.Nms.Struct.lean ====
/-
  The suppression kernel's body written by its repeated pieces.

  The printed body fills the two gathered tables in a loop, writes the table of overlaps in sixteen blocks of rows,
  runs the suppression in a loop over that table's rows, and stores its results. Here the blocks are written once,
  and the printed body is shown to be that program (`body_eq`).
-/
module

public import proofs.«01_k».proof.Proof.Gen.NmsIdeal
public import Idealize.ShloMosaic.Lib.Tactic

@[expose] public section

set_option maxRecDepth 16384

noncomputable section

namespace Cert.Proof.NmsI

open Cert.NmsIdeal
open Idealize.ShloMosaic Idealize.SL.Sem Idealize.ShloMosaic.Tactic
open Facts₀ Facts

variable {F : FTy → Type} [FloatOps F]

/-! ## The values -/

/-- The zero and the one of the kernel's text. -/
abbrev zf : F .f32 := Scalar.ofBits .f32 0x00000000#32
abbrev of : F .f32 := Scalar.ofBits .f32 0x3F800000#32

/-- One coordinate of the gathered boxes, as a column and as a row. -/
def col (T : FVec F S1024x4 .f32) (k : Fin 4) : FVec F S1024x1 .f32 :=
  extractStridedSlice S1024x1 ![0, k.val] T ⟨rfl, fun a => by fin_cases a <;> simp [Shape.size] <;> omega⟩
def row (R : FVec F S4x1024 .f32) (k : Fin 4) : FVec F S1x1024 .f32 :=
  extractStridedSlice S1x1024 ![k.val, 0] R ⟨rfl, fun a => by fin_cases a <;> simp [Shape.size] <;> omega⟩

/-- The gathered boxes turned over by the product with the table of ones. -/
def turn (T : FVec F S1024x4 .f32) (E : FVec F S1024x1024 .f32) : FVec F S4x1024 .f32 :=
  matmul dot_S1024x4_S1024x1024_S4x1024_0_0_1_1_n_n (some .fp32) T (shapeCast S1024x1024 E shapeCasts_S1024x1024_S1024x1024) (constant S4x1024 .f32 0x00000000#32)

/-- The boxes' areas, as a column and as a row. -/
def areac (T : FVec F S1024x4 .f32) : FVec F S1024x1 .f32 :=
  mulf (maximumf (broadcast S1024x1 zf) (subf (col T 2) (col T 0))) (maximumf (broadcast S1024x1 zf) (subf (col T 3) (col T 1)))
def arear (R : FVec F S4x1024 .f32) : FVec F S1x1024 .f32 :=
  mulf (maximumf (broadcast S1x1024 zf) (subf (row R 2) (row R 0))) (maximumf (broadcast S1x1024 zf) (subf (row R 3) (row R 1)))

/-- Sixty-four rows of a column from row `lo` on, and a row, over a block of the table. -/
def part (a : FVec F S1024x1 .f32) (lo : Nat) (h : lo + 64 ≤ 1024) : FVec F S64x1024 .f32 :=
  broadcastTo S64x1024 (extractStridedSlice S64x1 ![lo, 0] a ⟨rfl, fun a => by fin_cases a <;> simp [Shape.size] <;> omega⟩) broadcasts_S64x1_S64x1024
def wide (b : FVec F S1x1024 .f32) : FVec F S64x1024 .f32 := broadcastTo S64x1024 b broadcasts_S1x1024_S64x1024

/-- The common areas of a block of the table. -/
def inter (T : FVec F S1024x4 .f32) (R : FVec F S4x1024 .f32) (lo : Nat) (h : lo + 64 ≤ 1024) : FVec F S64x1024 .f32 :=
  mulf (maximumf (broadcast S64x1024 zf) (subf (minimumf (part (col T 2) lo h) (wide (row R 2))) (maximumf (part (col T 0) lo h) (wide (row R 0)))))
    (maximumf (broadcast S64x1024 zf) (subf (minimumf (part (col T 3) lo h) (wide (row R 3))) (maximumf (part (col T 1) lo h) (wide (row R 1)))))

/-- The overlaps of a block of the table. -/
def iou (T : FVec F S1024x4 .f32) (R : FVec F S4x1024 .f32) (lo : Nat) (h : lo + 64 ≤ 1024) : FVec F S64x1024 .f32 :=
  divf (inter T R lo h) (maximumf (subf (addf (part (areac T) lo h) (wide (arear R))) (inter T R lo h)) (broadcast S64x1024 (Scalar.ofBits .f32 0x358637BD#32)))

/-- A block of the table: one where the column's box comes after the row's and overlaps it too much. -/
def sblk (T : FVec F S1024x4 .f32) (R : FVec F S4x1024 .f32) (lo : Nat) (h : lo + 64 ≤ 1024) : FVec F S64x1024 .f32 :=
  shapeCast S64x1024 (select (andi (cmpf .ogt (iou T R lo h) (broadcast S64x1024 (Scalar.ofBits .f32 0x3F19999A#32)))
      (cmpi .sgt (iota .tc S64x1024 32 [1] iota_S64x1024_d1_w32) (addi (iota .tc S64x1024 32 [0] iota_S64x1024_d0_w32) (broadcast S64x1024 (BitVec.ofNat 32 lo)))))
    (broadcast S64x1024 (of (F := F))) (broadcast S64x1024 (zf (F := F)))) shapeCasts_S64x1024_S64x1024

/-- Which boxes are kept before the suppression. -/
def keep0 (ts : FVec F S1x1x1024 .f32) : FVec F S1x1024 .f32 :=
  select (cmpf .ogt (shapeCast S1x1024 ts shapeCasts_S1x1x1024_S1x1024) (broadcast S1x1024 (Scalar.ofBits .f32 0x3DCCCCCD#32)))
    (broadcast S1x1024 (of (F := F))) (broadcast S1x1024 (zf (F := F)))

/-- One step of the suppression: row `x` of the table taken off where box `w` is kept. -/
def sup (w : BitVec 32) (x : FVec F S1x1024 .f32) (kv : FVec F S1x1024 .f32) : FVec F S1x1024 .f32 :=
  mulf kv (subf (broadcast S1x1024 of) (mulf (broadcastTo S1x1024 (shapeCast S1x1
    (multiReduction .maximumf [1] S1 (select (cmpi .eq (iota .tc S1x1024 32 [1] iota_S1x1024_d1_w32) (broadcast S1x1024 w)) kv (broadcast S1x1024 zf)) 0xFF800000#32 reduces_S1x1024_S1 (.inl rfl) rfl)
    shapeCasts_S1_S1x1) broadcasts_S1x1_S1x1024) x))

/-- The number of kept boxes. -/
def total (kv : FVec F S1x1024 .f32) : FVec F S1 .f32 :=
  multiReduction .add [1] S1 kv 0x00000000#32 reduces_S1x1024_S1 (.inl rfl) rfl

/-- That number as a word, a hundred at most. -/
def count (s : FVec F S1 .f32) : IVec S1x1 32 :=
  fptosi 32 (minimumf (broadcast S1x1 (Scalar.ofBits .f32 0x42C80000#32)) (shapeCast S1x1 s shapeCasts_S1_S1x1))

/-- The places below the count. -/
def slots (n : IVec S1x1 32) : IVec S100x1 1 :=
  cmpi .slt (iota .tc S100x1 32 [0] iota_S100x1_d0_w32) (broadcastTo S100x1 n broadcasts_S1x1_S100x1)

/-- The scores, the classes and the boxes that are stored. -/
def oks (n : IVec S1x1 32) (tc : FVec F S1x1024x1 .f32) : FVec F S1x100x1 .f32 :=
  shapeCast S1x100x1 (select (slots n) (extractStridedSlice S100x1 ![0, 0] (shapeCast S1024x1 tc shapeCasts_S1x1024x1_S1024x1) slices_S1024x1_o0_0_S100x1)
    (broadcast S100x1 (Scalar.ofBits .f32 0xBF800000#32 : F .f32))) shapeCasts_S100x1_S1x100x1
def okc (n : IVec S1x1 32) (k : FVec F S100x1 .f32) : FVec F S1x100x1 .f32 :=
  shapeCast S1x100x1 (select (slots n) k (broadcast S100x1 (Scalar.ofBits .f32 0xBF800000#32 : F .f32))) shapeCasts_S100x1_S1x100x1
def okb (n : IVec S1x1 32) (b : FVec F S100x4 .f32) : FVec F S1x100x4 .f32 :=
  shapeCast S1x100x4 (mulf b (broadcastTo S100x4 (select (slots n) (broadcast S100x1 (of (F := F))) (broadcast S100x1 (zf (F := F)))) broadcasts_S100x1_S100x4)) shapeCasts_S100x4_S1x100x4

/-! ## The program -/

abbrev PE (F : FTy → Type) [FloatOps F] (α : Type) := Prog (TpuEff nD τ sig (Elt F) Λ₀ .tc) α

section
variable (i : grid0.Coords) (arg1 : Memref sig .tc .vmem S1x1x1024 .f32) (arg2 : Memref sig .tc .vmem S1x1024x1 .f32)
  (arg3 : Memref sig .tc .smem S1x1x1000 .i32) (arg4 : Memref sig .tc .vmem S1x5000x4 .f32) (arg5 : Memref sig .tc .vmem S1x5000x1 .f32)
  (arg6 : Memref sig .tc .vmem S1024x1024 .f32) (arg7 : Memref sig .tc .vmem S1x100x1 .f32) (arg8 : Memref sig .tc .vmem S1x100x1 .f32)
  (arg9 : Memref sig .tc .vmem S1x100x4 .f32) (arg10 : Memref sig .tc .smem S4x1 .i32) (arg11 : Memref sig .tc .vmem S1024x4 .f32)
  (arg12 : Memref sig .tc .vmem S1024x1024 .f32) (arg13 : Memref sig .tc .vmem S1024x1 .f32)

/-- The two gathered tables set to zero. -/
def clear : PE F PUnit := do
  let v1 : Vec F S1024x4 .f32 ← Prog.lift (.load arg11 (Rect.unit (s := S1024x4) ![0, 0] S1024x4.size inb_S1024x4_S1024x4_0_0).toLoadRect (View.loadsAt_vmem h_S1024x4))
  Prog.lift (.store arg11 (Rect.unit (s := S1024x4) ![0, 0] S1024x4.size inb_S1024x4_S1024x4_0_0) (shapeCast S1024x4 (broadcast S1024x4 (zf (F := F))) shapeCasts_S1024x4_S1024x4) Finset.univ (View.stores_vmem_bits_univ h_S1024x4 rfl) (.inl rfl))
  let v5 : Vec F S1024x1 .f32 ← Prog.lift (.load arg13 (Rect.unit (s := S1024x1) ![0, 0] S1024x1.size inb_S1024x1_S1024x1_0_0).toLoadRect (View.loadsAt_vmem h_S1024x1))
  Prog.lift (.store arg13 (Rect.unit (s := S1024x1) ![0, 0] S1024x1.size inb_S1024x1_S1024x1_0_0) (shapeCast S1024x1 (broadcast S1024x1 (zf (F := F))) shapeCasts_S1024x1_S1024x1) Finset.univ (View.stores_vmem_bits_univ h_S1024x1 rfl) (.inl rfl))

/-- The class of entry `k` gathered, for one of the first hundred. -/
def gatc (k : Fin k0_t1_loop.trips) (v : Elt F .i32) (hw : k0_chk1 k v) : PE F PUnit :=
  if h1 : k0_cond1 k = 1#1 then do
    let x : Vec F S1x1x1 .f32 ← Prog.lift (.load arg5 (Rect.unit (s := S1x5000x1) (k0_off4 v) S1x1x1.size (k0_off4_inb k v hw h1)).toLoadRect (View.loadsAt_vmem h_S1x1x1))
    let y : Vec F S1x1 .f32 ← Prog.lift (.load arg13 (Rect.unit (s := S1024x1) (k0_off5 k) S1x1.size (k0_off5_inb k h1)).toLoadRect (View.loadsAt_vmem h_S1x1))
    Prog.lift (.store arg13 (Rect.unit (s := S1024x1) (k0_off5 k) S1x1.size (k0_off5_inb k h1)) (shapeCast S1x1 (shapeCast S1x1 x shapeCasts_S1x1x1_S1x1) shapeCasts_S1x1_S1x1) Finset.univ (View.stores_vmem_bits_univ h_S1x1 rfl) (.inl rfl))
    pure ⟨⟩
  else pure ⟨⟩

/-- Entry `k` of the list gathered. -/
def gat (k : Fin k0_t1_loop.trips) : PE F PUnit := do
  let v : Elt F .i32 ← smemLoad arg3 (Rect.unit (s := S1x1x1000) (k0_off1 k) S1x1x1.size (k0_off1_inb k)) numel1_S1x1x1 rfl
  have hw : k0_chk1 k v := (← Prog.lift (TpuEff.assume (k0_chk1 k v) (k0_chk1.dec k v))).down
  let x : Vec F S1x1x4 .f32 ← Prog.lift (.load arg4 (Rect.unit (s := S1x5000x4) (k0_off2 v) S1x1x4.size (k0_off2_inb k v hw)).toLoadRect (View.loadsAt_vmem h_S1x1x4))
  let y : Vec F S1x4 .f32 ← Prog.lift (.load arg11 (Rect.unit (s := S1024x4) (k0_off3 k) S1x4.size (k0_off3_inb k)).toLoadRect (View.loadsAt_vmem h_S1x4))
  Prog.lift (.store arg11 (Rect.unit (s := S1024x4) (k0_off3 k) S1x4.size (k0_off3_inb k)) (shapeCast S1x4 (shapeCast S1x4 x shapeCasts_S1x1x4_S1x4) shapeCasts_S1x4_S1x4) Finset.univ (View.stores_vmem_bits_univ h_S1x4 rfl) (.inl rfl))
  gatc arg5 arg13 k v hw

/-- One block of the table stored. -/
def chunk (T : FVec F S1024x4 .f32) (R : FVec F S4x1024 .f32) (k : Nat) (hk : k < 16) : PE F PUnit := do
  let v : Vec F S64x1024 .f32 ← Prog.lift (.load arg12 (Rect.unit (s := S1024x1024) ![64 * k, 0] S64x1024.size (fun a => by fin_cases a <;> simp [Shape.size] <;> omega)).toLoadRect (View.loadsAt_vmem h_S64x1024))
  Prog.lift (.store arg12 (Rect.unit (s := S1024x1024) ![64 * k, 0] S64x1024.size (fun a => by fin_cases a <;> simp [Shape.size] <;> omega)) (sblk T R (64 * k) (by omega)) Finset.univ (View.stores_vmem_bits_univ h_S64x1024 rfl) (.inl rfl))

/-- `n` blocks stored from block `s` on. -/
def chunks (T : FVec F S1024x4 .f32) (R : FVec F S4x1024 .f32) : (n s : Nat) → n + s ≤ 16 → PE F PUnit
  | 0, _, _ => pure ⟨⟩
  | n + 1, s, h => do
    chunk arg12 T R s (by omega)
    chunks T R n (s + 1) (by omega)

/-- Step `k` of the suppression. -/
def step (k : Fin k0_t2_loop.trips) (kv : FVec F S1x1024 .f32) : PE F (FVec F S1x1024 .f32) := do
  let x : Vec F S1x1024 .f32 ← Prog.lift (.load arg12 (Rect.unit (s := S1024x1024) (k0_off6 k) S1x1024.size (k0_off6_inb k)).toLoadRect (View.loadsAt_vmem h_S1x1024))
  pure (sup (Scf.iv 0#32 1#32 k) x kv)

/-- The count stored. -/
def stcount (n : IVec S1x1 32) : PE F PUnit := do
  let v : Elt F .i32 ← smemLoad arg10 (Rect.unit (s := S4x1) (k0_off7 i) S1x1.size (k0_off7_inb i)) numel1_S1x1 rfl
  Prog.lift (.store arg10 (Rect.unit (s := S4x1) (k0_off7 i) S1x1.size (k0_off7_inb i)) (fun _ => extractAt ![0, 0] n inpos_S1x1_p0_0) Finset.univ (View.stores_smem_one rfl numel1_S1x1) (.inl rfl))

/-- The three results stored. -/
def stks (n : IVec S1x1 32) : PE F PUnit := do
  let x : Vec F S1x1024x1 .f32 ← Prog.lift (.load arg2 (Rect.unit (s := S1x1024x1) ![0, 0, 0] S1x1024x1.size inb_S1x1024x1_S1x1024x1_0_0_0).toLoadRect (View.loadsAt_vmem h_S1x1024x1))
  let y : Vec F S1x100x1 .f32 ← Prog.lift (.load arg7 (Rect.unit (s := S1x100x1) ![0, 0, 0] S1x100x1.size inb_S1x100x1_S1x100x1_0_0_0).toLoadRect (View.loadsAt_vmem h_S1x100x1))
  Prog.lift (.store arg7 (Rect.unit (s := S1x100x1) ![0, 0, 0] S1x100x1.size inb_S1x100x1_S1x100x1_0_0_0) (oks n x) Finset.univ (View.stores_vmem_bits_univ h_S1x100x1 rfl) (.inl rfl))
def stkc (n : IVec S1x1 32) : PE F PUnit := do
  let x : Vec F S100x1 .f32 ← Prog.lift (.load arg13 (Rect.unit (s := S1024x1) ![0, 0] S100x1.size inb_S1024x1_S100x1_0_0).toLoadRect (View.loadsAt_vmem h_S100x1))
  let y : Vec F S1x100x1 .f32 ← Prog.lift (.load arg8 (Rect.unit (s := S1x100x1) ![0, 0, 0] S1x100x1.size inb_S1x100x1_S1x100x1_0_0_0).toLoadRect (View.loadsAt_vmem h_S1x100x1))
  Prog.lift (.store arg8 (Rect.unit (s := S1x100x1) ![0, 0, 0] S1x100x1.size inb_S1x100x1_S1x100x1_0_0_0) (okc n x) Finset.univ (View.stores_vmem_bits_univ h_S1x100x1 rfl) (.inl rfl))
def stkb (n : IVec S1x1 32) : PE F PUnit := do
  let x : Vec F S100x4 .f32 ← Prog.lift (.load arg11 (Rect.unit (s := S1024x4) ![0, 0] S100x4.size inb_S1024x4_S100x4_0_0).toLoadRect (View.loadsAt_vmem h_S100x4))
  let y : Vec F S1x100x4 .f32 ← Prog.lift (.load arg9 (Rect.unit (s := S1x100x4) ![0, 0, 0] S1x100x4.size inb_S1x100x4_S1x100x4_0_0_0).toLoadRect (View.loadsAt_vmem h_S1x100x4))
  Prog.lift (.store arg9 (Rect.unit (s := S1x100x4) ![0, 0, 0] S1x100x4.size inb_S1x100x4_S1x100x4_0_0_0) (okb n x) Finset.univ (View.stores_vmem_bits_univ h_S1x100x4 rfl) (.inl rfl))

/-- The gathering: the boxes and the classes in their tables, the boxes and the table of ones loaded. -/
def gather : PE F PUnit := Scf.Loop.for k0_t1_loop k0_t1_ok ⟨⟩ fun k _ => gat arg3 arg4 arg5 arg11 arg13 k

/-- The suppression: the table stored, the kept boxes. -/
def second (T : FVec F S1024x4 .f32) (R : FVec F S4x1024 .f32) : PE F (FVec F S1x1024 .f32) := do
  chunks arg12 T R 16 0 (by omega)
  let ts : Vec F S1x1x1024 .f32 ← Prog.lift (.load arg1 (Rect.unit (s := S1x1x1024) ![0, 0, 0] S1x1x1024.size inb_S1x1x1024_S1x1x1024_0_0_0).toLoadRect (View.loadsAt_vmem h_S1x1x1024))
  Scf.Loop.for k0_t2_loop k0_t2_ok (keep0 ts) fun k kv => step arg12 k kv

/-- The results stored. -/
def third (s : FVec F S1 .f32) : PE F PUnit := do
  stcount i arg10 (count s)
  stks arg2 arg7 (count s)
  stkc arg8 arg13 (count s)
  stkb arg9 arg11 (count s)

/-- The body. -/
def body : PE F PUnit := do
  clear arg11 arg13
  gather arg3 arg4 arg5 arg11 arg13
  let T : Vec F S1024x4 .f32 ← Prog.lift (.load arg11 (Rect.unit (s := S1024x4) ![0, 0] S1024x4.size inb_S1024x4_S1024x4_0_0).toLoadRect (View.loadsAt_vmem h_S1024x4))
  let E : Vec F S1024x1024 .f32 ← Prog.lift (.load arg6 (Rect.unit (s := S1024x1024) ![0, 0] S1024x1024.size inb_S1024x1024_S1024x1024_0_0).toLoadRect (View.loadsAt_vmem h_S1024x1024))
  let kv : FVec F S1x1024 .f32 ← second arg1 arg12 T (turn T E)
  third i arg2 arg7 arg8 arg9 arg10 arg11 arg13 (total kv)

end

/-! ## The printed body -/

section
variable (i : grid0.Coords) (arg1 : Memref sig .tc .vmem S1x1x1024 .f32) (h1 : arg1.IsWhole) (arg2 : Memref sig .tc .vmem S1x1024x1 .f32) (h2 : arg2.IsWhole)
    (arg3 : Memref sig .tc .smem S1x1x1000 .i32) (h3 : arg3.IsWhole) (arg4 : Memref sig .tc .vmem S1x5000x4 .f32) (h4 : arg4.IsWhole) (arg5 : Memref sig .tc .vmem S1x5000x1 .f32) (h5 : arg5.IsWhole)
    (arg6 : Memref sig .tc .vmem S1024x1024 .f32) (h6 : arg6.IsWhole) (arg7 : Memref sig .tc .vmem S1x100x1 .f32) (h7 : arg7.IsWhole) (arg8 : Memref sig .tc .vmem S1x100x1 .f32) (h8 : arg8.IsWhole)
    (arg9 : Memref sig .tc .vmem S1x100x4 .f32) (h9 : arg9.IsWhole) (arg10 : Memref sig .tc .smem S4x1 .i32) (h10 : arg10.IsWhole) (arg11 : Memref sig .tc .vmem S1024x4 .f32) (h11 : arg11.IsWhole)
    (arg12 : Memref sig .tc .vmem S1024x1024 .f32) (h12 : arg12.IsWhole) (arg13 : Memref sig .tc .vmem S1024x1 .f32) (h13 : arg13.IsWhole)

/-- The printed body's part from the first block of the table to the number of kept boxes. -/
def mid (x : (Σ' (arg0 : BitVec 32) (v10 : FVec F S1024x1 .f32) (v11 : FVec F S1024x1 .f32) (v12 : FVec F S1024x1 .f32) (v13 : FVec F S1024x1 .f32) (v17 : FVec F S1x1024 .f32) (v18 : FVec F S1x1024 .f32) (v19 : FVec F S1x1024 .f32) (v20 : FVec F S1x1024 .f32) (v27 : FVec F S1024x1 .f32) (v34 : FVec F S1x1024 .f32), FVec F S64x1024 .f32)) : PE F (FVec F S1 .f32) := do
  let ⟨arg0, v10, v11, v12, v13, v17, v18, v19, v20, v27, v34, v36⟩ := x
  let ⟨v83, v85, v86⟩ ← k0_part2 i arg1 h1 arg2 h2 arg3 h3 arg4 h4 arg5 h5 arg6 h6 arg7 h7 arg8 h8 arg9 h9 arg10 h10 arg11 h11 arg12 h12 arg13 h13 v10 v11 v12 v13 v17 v18 v19 v20 v27 v34 v36
  let ⟨v128, v132, v136⟩ ← k0_part3 i arg1 h1 arg2 h2 arg3 h3 arg4 h4 arg5 h5 arg6 h6 arg7 h7 arg8 h8 arg9 h9 arg10 h10 arg11 h11 arg12 h12 arg13 h13 v10 v11 v12 v13 v17 v18 v19 v20 v27 v34 v83 v85 v86
  let ⟨v177, v185, v186⟩ ← k0_part4 i arg1 h1 arg2 h2 arg3 h3 arg4 h4 arg5 h5 arg6 h6 arg7 h7 arg8 h8 arg9 h9 arg10 h10 arg11 h11 arg12 h12 arg13 h13 v10 v11 v12 v13 v17 v18 v19 v20 v27 v34 v128 v132 v136
  let ⟨v233, v234, cst_45⟩ ← k0_part5 i arg1 h1 arg2 h2 arg3 h3 arg4 h4 arg5 h5 arg6 h6 arg7 h7 arg8 h8 arg9 h9 arg10 h10 arg11 h11 arg12 h12 arg13 h13 v10 v11 v12 v13 v17 v18 v19 v20 v27 v34 v177 v185 v186
  let ⟨v282, v284⟩ ← k0_part6 i arg1 h1 arg2 h2 arg3 h3 arg4 h4 arg5 h5 arg6 h6 arg7 h7 arg8 h8 arg9 h9 arg10 h10 arg11 h11 arg12 h12 arg13 h13 v10 v11 v12 v13 v17 v18 v19 v20 v27 v34 v233 v234 cst_45
  let ⟨v327, v332, v333⟩ ← k0_part7 i arg1 h1 arg2 h2 arg3 h3 arg4 h4 arg5 h5 arg6 h6 arg7 h7 arg8 h8 arg9 h9 arg10 h10 arg11 h11 arg12 h12 arg13 h13 v10 v11 v12 v13 v17 v18 v19 v20 v27 v34 v282 v284
  let ⟨v380, v381, v382⟩ ← k0_part8 i arg1 h1 arg2 h2 arg3 h3 arg4 h4 arg5 h5 arg6 h6 arg7 h7 arg8 h8 arg9 h9 arg10 h10 arg11 h11 arg12 h12 arg13 h13 v10 v11 v12 v13 v17 v18 v19 v20 v27 v34 v327 v332 v333
  let ⟨v428, v429, v431⟩ ← k0_part9 i arg1 h1 arg2 h2 arg3 h3 arg4 h4 arg5 h5 arg6 h6 arg7 h7 arg8 h8 arg9 h9 arg10 h10 arg11 h11 arg12 h12 arg13 h13 v10 v11 v12 v13 v17 v18 v19 v20 v27 v34 v380 v381 v382
  let ⟨v478, cst_84, v479⟩ ← k0_part10 i arg1 h1 arg2 h2 arg3 h3 arg4 h4 arg5 h5 arg6 h6 arg7 h7 arg8 h8 arg9 h9 arg10 h10 arg11 h11 arg12 h12 arg13 h13 v10 v11 v12 v13 v17 v18 v19 v20 v27 v34 v428 v429 v431
  let ⟨v526, v527⟩ ← k0_part11 i arg1 h1 arg2 h2 arg3 h3 arg4 h4 arg5 h5 arg6 h6 arg7 h7 arg8 h8 arg9 h9 arg10 h10 arg11 h11 arg12 h12 arg13 h13 v10 v11 v12 v13 v17 v18 v19 v20 v27 v34 v478 cst_84 v479
  let v576 ← k0_part12 i arg1 h1 arg2 h2 arg3 h3 arg4 h4 arg5 h5 arg6 h6 arg7 h7 arg8 h8 arg9 h9 arg10 h10 arg11 h11 arg12 h12 arg13 h13 v10 v11 v12 v13 v17 v18 v19 v20 v27 v34 v526 v527
  let ⟨v623, v625, v626⟩ ← k0_part13 i arg1 h1 arg2 h2 arg3 h3 arg4 h4 arg5 h5 arg6 h6 arg7 h7 arg8 h8 arg9 h9 arg10 h10 arg11 h11 arg12 h12 arg13 h13 v10 v11 v12 v13 v17 v18 v19 v20 v27 v34 v576
  let ⟨v668, v672, v676⟩ ← k0_part14 i arg1 h1 arg2 h2 arg3 h3 arg4 h4 arg5 h5 arg6 h6 arg7 h7 arg8 h8 arg9 h9 arg10 h10 arg11 h11 arg12 h12 arg13 h13 v10 v11 v12 v13 v17 v18 v19 v20 v27 v34 v623 v625 v626
  let ⟨v717, v725, v726⟩ ← k0_part15 i arg1 h1 arg2 h2 arg3 h3 arg4 h4 arg5 h5 arg6 h6 arg7 h7 arg8 h8 arg9 h9 arg10 h10 arg11 h11 arg12 h12 arg13 h13 v10 v11 v12 v13 v17 v18 v19 v20 v27 v34 v668 v672 v676
  k0_part16 i arg1 h1 arg2 h2 arg3 h3 arg4 h4 arg5 h5 arg6 h6 arg7 h7 arg8 h8 arg9 h9 arg10 h10 arg11 h11 arg12 h12 arg13 h13 v27 v34 v717 v725 v726

theorem part1_eq : k0_part1 (F := F) i arg1 h1 arg2 h2 arg3 h3 arg4 h4 arg5 h5 arg6 h6 arg7 h7 arg8 h8 arg9 h9 arg10 h10 arg11 h11 arg12 h12 arg13 h13 = (do
  clear arg11 arg13
  gather arg3 arg4 arg5 arg11 arg13
  let T : Vec F S1024x4 .f32 ← Prog.lift (.load arg11 (Rect.unit (s := S1024x4) ![0, 0] S1024x4.size inb_S1024x4_S1024x4_0_0).toLoadRect (View.loadsAt_vmem h_S1024x4))
  let E : Vec F S1024x1024 .f32 ← Prog.lift (.load arg6 (Rect.unit (s := S1024x1024) ![0, 0] S1024x1024.size inb_S1024x1024_S1024x1024_0_0).toLoadRect (View.loadsAt_vmem h_S1024x1024))
  pure ⟨BitVec.ofNat 32 (i 0).val, col T 0, col T 1, col T 2, col T 3, row (turn T E) 0, row (turn T E) 1, row (turn T E) 2, row (turn T E) 3, areac T, arear (turn T E), part (col T 0) 0 (by omega)⟩) := by
  sl_kernel_rfl

theorem mid_eq (T : FVec F S1024x4 .f32) (R : FVec F S4x1024 .f32) : mid (F := F) i arg1 h1 arg2 h2 arg3 h3 arg4 h4 arg5 h5 arg6 h6 arg7 h7 arg8 h8 arg9 h9 arg10 h10 arg11 h11 arg12 h12 arg13 h13
    ⟨BitVec.ofNat 32 (i 0).val, col T 0, col T 1, col T 2, col T 3, row R 0, row R 1, row R 2, row R 3, areac T, arear R, part (col T 0) 0 (by omega)⟩
      = second arg1 arg12 T R >>= fun kv => pure (total kv) := by
  sl_kernel_rfl

/-- The printed body's last two parts. -/
def tail17 (s : FVec F S1 .f32) : PE F (Σ' (b : IVec S100x1 1) (x : F .f32), F .f32) := do
  stcount i arg10 (count s)
  stks arg2 arg7 (count s)
  stkc arg8 arg13 (count s)
  pure ⟨slots (count s), of, zf⟩
def tail18 (b : Σ' (b : IVec S100x1 1) (x : F .f32), F .f32) : PE F PUnit := do
  let x : Vec F S100x4 .f32 ← Prog.lift (.load arg11 (Rect.unit (s := S1024x4) ![0, 0] S100x4.size inb_S1024x4_S100x4_0_0).toLoadRect (View.loadsAt_vmem h_S100x4))
  let y : Vec F S1x100x4 .f32 ← Prog.lift (.load arg9 (Rect.unit (s := S1x100x4) ![0, 0, 0] S1x100x4.size inb_S1x100x4_S1x100x4_0_0_0).toLoadRect (View.loadsAt_vmem h_S1x100x4))
  Prog.lift (.store arg9 (Rect.unit (s := S1x100x4) ![0, 0, 0] S1x100x4.size inb_S1x100x4_S1x100x4_0_0_0) (shapeCast S1x100x4 (mulf x (broadcastTo S100x4 (select b.1 (broadcast S100x1 b.2.1) (broadcast S100x1 b.2.2)) broadcasts_S100x1_S100x4)) shapeCasts_S100x4_S1x100x4) Finset.univ (View.stores_vmem_bits_univ h_S1x100x4 rfl) (.inl rfl))

theorem cut_eq : cc0__nms_body (F := F) i arg1 h1 arg2 h2 arg3 h3 arg4 h4 arg5 h5 arg6 h6 arg7 h7 arg8 h8 arg9 h9 arg10 h10 arg11 h11 arg12 h12 arg13 h13
    = (k0_part1 (F := F) i arg1 h1 arg2 h2 arg3 h3 arg4 h4 arg5 h5 arg6 h6 arg7 h7 arg8 h8 arg9 h9 arg10 h10 arg11 h11 arg12 h12 arg13 h13 >>= fun x => mid i arg1 h1 arg2 h2 arg3 h3 arg4 h4 arg5 h5 arg6 h6 arg7 h7 arg8 h8 arg9 h9 arg10 h10 arg11 h11 arg12 h12 arg13 h13 x >>= fun s => tail17 i arg2 arg7 arg8 arg10 arg13 s) >>= fun b => tail18 arg9 arg11 b := by
  sl_kernel_rfl

/-- The printed body is the program above. -/
theorem body_eq : cc0__nms_body (F := F) i arg1 h1 arg2 h2 arg3 h3 arg4 h4 arg5 h5 arg6 h6 arg7 h7 arg8 h8 arg9 h9 arg10 h10 arg11 h11 arg12 h12 arg13 h13
      = body i arg1 arg2 arg3 arg4 arg5 arg6 arg7 arg8 arg9 arg10 arg11 arg12 arg13 := by
  rw [cut_eq, part1_eq]
  unfold body third stkb okb tail17 tail18
  simp only [bind_assoc, pure_bind, mid_eq]

end

end Cert.Proof.NmsI

end
-- ==== Proof.Nms.Gather.lean ====
/-
  What the gathering loop of the suppression kernel leaves.

  Over the buffers' contents: before entry `k` the table of boxes holds the boxes of the entries before `k` and
  zeros below, and the table of classes the same of the first hundred.
-/
module

public import proofs.«01_k».proof.Proof.Nms.Struct
public import Idealize.ShloMosaic.Lib.Pipeline.FrameBody
public import Idealize.ShloMosaic.Lib.Tactic
public import Idealize.ShloMosaic.Lib.Pointwise
public import proofs.«01_k».proof.Proof.Gen.NmsIdeal.Launch

@[expose] public section

set_option maxRecDepth 16384

noncomputable section

namespace Cert.Proof.NmsI

open Cert.NmsIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The tables -/

/-- Entry `n` of the list. -/
def word (ti : Vec F S1x1x1000 .i32) (n : Nat) : BitVec 32 :=
  ti (ix3 (0 : Fin 1) (0 : Fin 1) (⟨n % 1000, Nat.mod_lt _ (by decide)⟩ : Fin 1000))

/-- The position a word names. -/
def pick (v : BitVec 32) : Fin 5000 := ⟨v.toNat % 5000, Nat.mod_lt _ (by decide)⟩

/-- The table of boxes after `n` entries. -/
def boxes (B : Vec F S1x5000x4 .f32) (ti : Vec F S1x1x1000 .i32) (n : Nat) : FVec F S1024x4 .f32 := fun y =>
  if (y 0).val < n then B (ix3 (0 : Fin 1) (pick (word ti (y 0).val)) (y 1 : Fin 4)) else zf

/-- The table of classes after `n` entries. -/
def classes (C : Vec F S1x5000x1 .f32) (ti : Vec F S1x1x1000 .i32) (n : Nat) : FVec F S1024x1 .f32 := fun y =>
  if (y 0).val < n ∧ (y 0).val < 100 then C (ix3 (0 : Fin 1) (pick (word ti (y 0).val)) (0 : Fin 1)) else zf

/-! ## The loop's offsets -/

theorem trips1 : k0_t1_loop.trips = 1000 := by decide +kernel
theorem off1_eq : ∀ k : Fin k0_t1_loop.trips, k0_off1 k = ![0, 0, k.val] := by decide +kernel
theorem off3_eq : ∀ k : Fin k0_t1_loop.trips, k0_off3 k = ![k.val, 0] := by decide +kernel
theorem off5_eq : ∀ k : Fin k0_t1_loop.trips, k0_off5 k = ![k.val, 0] := by decide +kernel
theorem cond1_iff : ∀ k : Fin k0_t1_loop.trips, k0_cond1 k = 1#1 ↔ k.val < 100 := by decide +kernel

theorem word_read (ti : Vec F S1x1x1000 .i32) (k : Fin k0_t1_loop.trips) (z : S1x1x1.Idx) :
    ti ((Rect.unit (s := S1x1x1000) (k0_off1 k) S1x1x1.size (k0_off1_inb k)).emb z) = word ti k.val := by
  idx_vars z
  unfold word
  congr 1
  have e := off1_eq k
  have hk : k.val < 1000 := trips1 ▸ k.isLt
  refine Rect.emb_eq_of_coords _ _ _ (fun a => ?_)
  match a with
  | ⟨0, _⟩ => show 0 = k0_off1 k 0 + 1 * z0.val; rw [e]; show 0 = 0 + 1 * z0.val; omega
  | ⟨1, _⟩ => show 0 = k0_off1 k 1 + 1 * z1.val; rw [e]; show 0 = 0 + 1 * z1.val; omega
  | ⟨2, _⟩ => show k.val % 1000 = k0_off1 k 2 + 1 * z2.val; rw [e]; show _ = k.val + 1 * z2.val; omega

theorem box_read (B : Vec F S1x5000x4 .f32) (k : Fin k0_t1_loop.trips) (v : BitVec 32) (h : k0_chk1 k v) (y1 : Fin 4) :
    shapeCast S1x4 (shapeCast S1x4 (fun z : S1x1x4.Idx => B ((Rect.unit (s := S1x5000x4) (k0_off2 v) S1x1x4.size (k0_off2_inb k v h)).emb z)) shapeCasts_S1x1x4_S1x4) shapeCasts_S1x4_S1x4 (ix2 (0 : Fin 1) y1)
      = B (ix3 (0 : Fin 1) (pick v) y1) := by
  pointwise
  congr 1
  have h1 : (v.toNat : ℕ) + 1 ≤ 5000 := h.1 1
  refine Rect.emb_eq_of_coords _ _ _ (fun a => ?_)
  match a with
  | ⟨0, _⟩ => rfl
  | ⟨1, _⟩ => show v.toNat % 5000 = v.toNat + 1 * 0; omega
  | ⟨2, _⟩ => show y1.val = 0 + 1 * y1.val; omega

theorem cls_read (C : Vec F S1x5000x1 .f32) (k : Fin k0_t1_loop.trips) (v : BitVec 32) (h : k0_chk1 k v) (h1 : k0_cond1 k = 1#1) :
    shapeCast S1x1 (shapeCast S1x1 (fun z : S1x1x1.Idx => C ((Rect.unit (s := S1x5000x1) (k0_off4 v) S1x1x1.size (k0_off4_inb k v h h1)).emb z)) shapeCasts_S1x1x1_S1x1) shapeCasts_S1x1_S1x1 (ix2 (0 : Fin 1) (0 : Fin 1))
      = C (ix3 (0 : Fin 1) (pick v) (0 : Fin 1)) := by
  pointwise
  congr 1
  have h1 : (v.toNat : ℕ) + 1 ≤ 5000 := h.1 1
  refine Rect.emb_eq_of_coords _ _ _ (fun a => ?_)
  match a with
  | ⟨0, _⟩ => rfl
  | ⟨1, _⟩ => show v.toNat % 5000 = v.toNat + 1 * 0; omega
  | ⟨2, _⟩ => rfl

/-- A box written over a table of boxes. -/
theorem box_step {sg : RefSig} {κ : Kind} {sp : Space} (v : View sg κ sp S1024x4 .f32) (f : v.ty.Contents (Elt F)) (B : Vec F S1x5000x4 .f32) (ti : Vec F S1x1x1000 .i32)
    (k : Fin k0_t1_loop.trips) (hf : v.read (Elt F) f = boxes B ti k.val) (w : S1x4.Idx → Elt F .f32)
    (hw : ∀ y1 : Fin 4, w (ix2 (0 : Fin 1) y1) = B (ix3 (0 : Fin 1) (pick (word ti k.val)) y1)) :
    v.read (Elt F) (v.writes (Elt F) f [⟨Rect.unit (s := S1024x4) (k0_off3 k) S1x4.size (k0_off3_inb k), w⟩]) = boxes B ti (k.val + 1) := by
  have e := off3_eq k
  funext y
  by_cases h : (y 0).val = k.val
  · refine (View.read_writes_cons_hit_of_coords v f (Rect.unit (s := S1024x4) (k0_off3 k) S1x4.size (k0_off3_inb k)) w [] (ix2 (0 : Fin 1) (y 1 : Fin 4)) y ?_).trans ?_
    · intro a
      match a with
      | ⟨0, _⟩ => show (y 0).val = k0_off3 k 0 + 1 * 0; rw [e]; show (y 0).val = k.val + 1 * 0; omega
      | ⟨1, _⟩ => show (y 1).val = k0_off3 k 1 + 1 * (y 1).val; rw [e]; show (y 1).val = 0 + 1 * (y 1).val; omega
    · unfold boxes
      rw [if_pos (show (y 0).val < k.val + 1 by omega)]
      exact (hw (y 1)).trans (congrArg (fun n => B (ix3 (0 : Fin 1) (pick (word ti n)) (y 1 : Fin 4))) h.symm)
  · refine (View.read_writes_cons_miss_of_axis v f _ [] y 0 k.val 1 (congrFun e 0) rfl rfl (by omega)).trans ((congrFun hf y).trans ?_)
    unfold boxes
    by_cases h' : (y 0).val < k.val
    · rw [if_pos h', if_pos (by omega)]
    · rw [if_neg h', if_neg (by omega)]

theorem cls_step {sg : RefSig} {κ : Kind} {sp : Space} (v : View sg κ sp S1024x1 .f32) (f : v.ty.Contents (Elt F)) (C : Vec F S1x5000x1 .f32) (ti : Vec F S1x1x1000 .i32)
    (k : Fin k0_t1_loop.trips) (h1 : k0_cond1 k = 1#1) (hf : v.read (Elt F) f = classes C ti k.val) (w : S1x1.Idx → Elt F .f32)
    (hw : w (ix2 (0 : Fin 1) (0 : Fin 1)) = C (ix3 (0 : Fin 1) (pick (word ti k.val)) (0 : Fin 1))) :
    v.read (Elt F) (v.writes (Elt F) f [⟨Rect.unit (s := S1024x1) (k0_off5 k) S1x1.size (k0_off5_inb k h1), w⟩]) = classes C ti (k.val + 1) := by
  have e := off5_eq k
  have hk := (cond1_iff k).1 h1
  funext y
  by_cases h : (y 0).val = k.val
  · refine (View.read_writes_cons_hit_of_coords v f (Rect.unit (s := S1024x1) (k0_off5 k) S1x1.size (k0_off5_inb k h1)) w [] (ix2 (0 : Fin 1) (0 : Fin 1)) y ?_).trans ?_
    · intro a
      match a with
      | ⟨0, _⟩ => show (y 0).val = k0_off5 k 0 + 1 * 0; rw [e]; show (y 0).val = k.val + 1 * 0; omega
      | ⟨1, _⟩ => show (y 1).val = k0_off5 k 1 + 1 * 0; rw [e]; show (y 1).val = 0 + 1 * 0; have : (y 1).val < 1 := (y 1).isLt; omega
    · unfold classes
      rw [if_pos (show (y 0).val < k.val + 1 ∧ (y 0).val < 100 by omega)]
      exact hw.trans (congrArg (fun n => C (ix3 (0 : Fin 1) (pick (word ti n)) (0 : Fin 1))) h.symm)
  · refine (View.read_writes_cons_miss_of_axis v f _ [] y 0 k.val 1 (congrFun e 0) rfl rfl (by omega)).trans ((congrFun hf y).trans ?_)
    unfold classes
    by_cases h' : (y 0).val < k.val ∧ (y 0).val < 100
    · rw [if_pos h', if_pos ⟨by omega, h'.2⟩]
    · rw [if_neg h', if_neg (fun g => h' ⟨by have := g.1; omega, g.2⟩)]

theorem cls_keep (C : Vec F S1x5000x1 .f32) (ti : Vec F S1x1x1000 .i32) (k : Fin k0_t1_loop.trips) (h1 : ¬ k0_cond1 k = 1#1) :
    classes C ti k.val = classes C ti (k.val + 1) := by
  have hk : ¬ k.val < 100 := fun h => h1 ((cond1_iff k).2 h)
  funext y
  unfold classes
  by_cases h' : (y 0).val < k.val ∧ (y 0).val < 100
  · rw [if_pos h', if_pos (by omega)]
  · rw [if_neg h', if_neg (fun g => h' ⟨by have := g.1; have := g.2; omega, g.2⟩)]

/-! ## The loop -/

section
variable (c : Dev nD) (E : Set ℕ)

theorem gatc_wp (arg5 : Memref sig .tc .vmem S1x5000x1 .f32) (arg13 : Memref sig .tc .vmem S1024x1 .f32)
    (C : Vec F S1x5000x1 .f32) (ti : Vec F S1x1x1000 .i32) (k : Fin k0_t1_loop.trips) (v : Elt F .i32) (hw : k0_chk1 k v) (hv : v = word ti k.val) (K : PUnit → sProp 𝕄) :
    iprop(owns (c : Thread nD τ) arg5 fullShare C ∗ owns (c : Thread nD τ) arg13 fullShare (classes C ti k.val)
        ∗ (owns (c : Thread nD τ) arg5 fullShare C -∗ owns (c : Thread nD τ) arg13 fullShare (classes C ti (k.val + 1)) -∗ K ⟨⟩))
      ⊢ wp frame (wpE (defs₀ (F := F)) Variants.none c none) E (gatc arg5 arg13 k v hw) K := by
  unfold gatc
  split
  · rename_i h1
    unfold owns
    iintro ⟨⟨%f5, %hf5, H5⟩, ⟨%f13, %hf13, H13⟩, Hk⟩
    subst hf5
    sl_exec
    sl_step
    iapply Hk $$ [H5] [H13]
    · iexists f5; isplitr; swap; · iexact H5
      ipureintro; rfl
    · iexists _; isplitr; swap; · iexact H13
      ipureintro
      refine cls_step arg13.view f13 (arg5.view.read (Elt F) f5) ti k h1 hf13 _ ?_
      rw [← hv]
      exact cls_read (arg5.view.read (Elt F) f5) k v hw h1
  · rename_i h1
    rw [cls_keep C ti k h1]
    iintro ⟨H5, H13, Hk⟩
    sl_step
    iapply Hk $$ H5 H13

theorem gat_wp (arg3 : Memref sig .tc .smem S1x1x1000 .i32) (arg4 : Memref sig .tc .vmem S1x5000x4 .f32) (arg5 : Memref sig .tc .vmem S1x5000x1 .f32)
    (arg11 : Memref sig .tc .vmem S1024x4 .f32) (arg13 : Memref sig .tc .vmem S1024x1 .f32)
    (B : Vec F S1x5000x4 .f32) (C : Vec F S1x5000x1 .f32) (ti : Vec F S1x1x1000 .i32) (k : Fin k0_t1_loop.trips) (hw : k0_chk1 k (word ti k.val)) (K : PUnit → sProp 𝕄) :
    iprop(owns (c : Thread nD τ) arg3 fullShare ti ∗ owns (c : Thread nD τ) arg4 fullShare B ∗ owns (c : Thread nD τ) arg5 fullShare C
        ∗ owns (c : Thread nD τ) arg11 fullShare (boxes B ti k.val) ∗ owns (c : Thread nD τ) arg13 fullShare (classes C ti k.val)
        ∗ (owns (c : Thread nD τ) arg3 fullShare ti -∗ owns (c : Thread nD τ) arg4 fullShare B -∗ owns (c : Thread nD τ) arg5 fullShare C
          -∗ owns (c : Thread nD τ) arg11 fullShare (boxes B ti (k.val + 1)) -∗ owns (c : Thread nD τ) arg13 fullShare (classes C ti (k.val + 1)) -∗ K ⟨⟩))
      ⊢ wp frame (wpE (defs₀ (F := F)) Variants.none c none) E (gat arg3 arg4 arg5 arg11 arg13 k) K := by
  unfold gat
  iintro ⟨H3, H4, H5, H11, H13, Hk⟩
  have hc := fun (v : Elt F .i32) (h : k0_chk1 k v) (hv : v = word ti k.val) K => gatc_wp c E arg5 arg13 C ti k v h hv K
  unfold owns gatc at hc
  unfold owns
  icases H3 with ⟨%f3, %hf3, H3⟩
  icases H4 with ⟨%f4, %hf4, H4⟩
  icases H11 with ⟨%f11, %hf11, H11⟩
  subst hf3 hf4
  have hr := word_read (arg3.view.read (Elt F) f3) k (Shape.Idx.first (numel1_S1x1x1.symm ▸ Nat.one_pos))
  have hw' : k0_chk1 k ((arg3.access (Rect.unit (s := S1x1x1000) (k0_off1 k) S1x1x1.size (k0_off1_inb k))).read (Elt F) f3
      (Shape.Idx.first (numel1_S1x1x1.symm ▸ Nat.one_pos))) := by
    rw [show (arg3.access (Rect.unit (s := S1x1x1000) (k0_off1 k) S1x1x1.size (k0_off1_inb k))).read (Elt F) f3
      (Shape.Idx.first (numel1_S1x1x1.symm ▸ Nat.one_pos)) = word (arg3.view.read (Elt F) f3) k.val from hr]
    exact hw
  sl_exec
  iapply (hc _ hw' hr K)
  isplitl [H5]; · iexact H5
  isplitl [H13]; · iexact H13
  iintro H5 H13
  iapply Hk $$ [H3] [H4] [H5] [H11] [H13]
  · iexists f3; isplitr; swap; · iexact H3
    ipureintro; rfl
  · iexists f4; isplitr; swap; · iexact H4
    ipureintro; rfl
  · iexact H5
  · iexists _; isplitr; swap; · iexact H11
    ipureintro
    refine box_step arg11.view f11 (arg4.view.read (Elt F) f4) (arg3.view.read (Elt F) f3) k hf11 _ (fun y1 => ?_)
    rw [← hr]
    exact box_read (arg4.view.read (Elt F) f4) k _ hw' y1
  · iexact H13

/-- The whole loop, from cleared tables. -/
theorem gather_wp (arg3 : Memref sig .tc .smem S1x1x1000 .i32) (arg4 : Memref sig .tc .vmem S1x5000x4 .f32) (arg5 : Memref sig .tc .vmem S1x5000x1 .f32)
    (arg11 : Memref sig .tc .vmem S1024x4 .f32) (arg13 : Memref sig .tc .vmem S1024x1 .f32)
    (B : Vec F S1x5000x4 .f32) (C : Vec F S1x5000x1 .f32) (ti : Vec F S1x1x1000 .i32) (hw : ∀ k : Fin k0_t1_loop.trips, k0_chk1 k (word ti k.val)) (K : PUnit → sProp 𝕄) :
    iprop(owns (c : Thread nD τ) arg3 fullShare ti ∗ owns (c : Thread nD τ) arg4 fullShare B ∗ owns (c : Thread nD τ) arg5 fullShare C
        ∗ owns (c : Thread nD τ) arg11 fullShare (boxes B ti 0) ∗ owns (c : Thread nD τ) arg13 fullShare (classes C ti 0)
        ∗ (owns (c : Thread nD τ) arg3 fullShare ti -∗ owns (c : Thread nD τ) arg4 fullShare B -∗ owns (c : Thread nD τ) arg5 fullShare C
          -∗ owns (c : Thread nD τ) arg11 fullShare (boxes B ti 1000) -∗ owns (c : Thread nD τ) arg13 fullShare (classes C ti 1000) -∗ K ⟨⟩))
      ⊢ wp frame (wpE (defs₀ (F := F)) Variants.none c none) E (gather arg3 arg4 arg5 arg11 arg13) K := by
  unfold gather
  let I : Nat → PUnit → sProp 𝕄 := fun n _ =>
    iprop(owns (c : Thread nD τ) arg3 fullShare ti ∗ owns (c : Thread nD τ) arg4 fullShare B ∗ owns (c : Thread nD τ) arg5 fullShare C
        ∗ owns (c : Thread nD τ) arg11 fullShare (boxes B ti n) ∗ owns (c : Thread nD τ) arg13 fullShare (classes C ti n))
  have hb : ∀ (k : Fin k0_t1_loop.trips) (acc : PUnit), I k.val acc
      ⊢ wp frame (wpE (defs₀ (F := F)) Variants.none c none) E (gat arg3 arg4 arg5 arg11 arg13 k) (I (k.val + 1)) := by
    intro k acc
    refine BIBase.Entails.trans ?_ (gat_wp c E arg3 arg4 arg5 arg11 arg13 B C ti k (hw k) (I (k.val + 1)))
    show iprop(_ ∗ _ ∗ _ ∗ _ ∗ _) ⊢ iprop(_ ∗ _ ∗ _ ∗ _ ∗ _ ∗ (_ -∗ _ -∗ _ -∗ _ -∗ _ -∗ (_ ∗ _ ∗ _ ∗ _ ∗ _)))
    iintro ⟨H3, H4, H5, H11, H13⟩
    isplitl [H3]; · iexact H3
    isplitl [H4]; · iexact H4
    isplitl [H5]; · iexact H5
    isplitl [H11]; · iexact H11
    isplitl [H13]; · iexact H13
    iintro H3 H4 H5 H11 H13
    isplitl [H3]; · iexact H3
    isplitl [H4]; · iexact H4
    isplitl [H5]; · iexact H5
    isplitl [H11]; · iexact H11
    iexact H13
  refine BIBase.Entails.trans ?_ (Scf.wp_for frame (wpE (defs₀ (F := F)) Variants.none c none) E k0_t1_loop.lb k0_t1_loop.ub k0_t1_loop.st _ PUnit.unit _ I hb)
  show _ ⊢ iprop((_ ∗ _ ∗ _ ∗ _ ∗ _) ∗ _)
  iintro ⟨H3, H4, H5, H11, H13, Hk⟩
  isplitl [H3 H4 H5 H11 H13]
  · isplitl [H3]; · iexact H3
    isplitl [H4]; · iexact H4
    isplitl [H5]; · iexact H5
    isplitl [H11]; · iexact H11
    iexact H13
  · have ht : I k0_t1_loop.trips = I 1000 := congrArg I trips1
    iintro %acc HI
    ihave HI2 : iprop(I 1000 acc) $$ [HI]
    · rw [← ht]; iexact HI
    icases HI2 with ⟨H3, H4, H5, H11, H13⟩
    iapply Hk $$ H3 H4 H5 H11 H13

end

end Cert.Proof.NmsI

end
-- ==== Proof.Nms.Triple.lean ====
/-
  What the suppression kernel's body leaves in its results.

  Over the buffers' contents: the table of overlaps after its sixteen blocks, the kept boxes after each step of the
  loop, and the three results at the values of `oks`, `okc` and `okb`.
-/
module

public import proofs.«01_k».proof.Proof.Nms.Gather
public import Idealize.ShloMosaic.Lib.Pipeline.FrameBody
public import Idealize.ShloMosaic.Lib.Tactic
public import Idealize.ShloMosaic.Lib.Pointwise
public import proofs.«01_k».proof.Proof.Gen.NmsIdeal.Launch

@[expose] public section

set_option maxRecDepth 16384

noncomputable section

namespace Cert.Proof.NmsI

open Cert.NmsIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The values -/

/-- The whole table of overlaps. -/
def stab (T : FVec F S1024x4 .f32) (R : FVec F S4x1024 .f32) : FVec F S1024x1024 .f32 := fun y =>
  sblk T R (64 * ((y 0).val / 64)) (by have h : (y 0).val < 1024 := (y 0).isLt; omega) (ix2 (⟨(y 0).val % 64, Nat.mod_lt _ (by decide)⟩ : Fin 64) (y 1 : Fin 1024))

/-- Row `k` of the table. -/
def srow (S : FVec F S1024x1024 .f32) (k : Nat) : FVec F S1x1024 .f32 := fun z =>
  S (ix2 (⟨k % 1024, Nat.mod_lt _ (by decide)⟩ : Fin 1024) (z 1 : Fin 1024))

/-- The kept boxes after `n` steps. -/
def kept (S : FVec F S1024x1024 .f32) (ts : FVec F S1x1x1024 .f32) : Nat → FVec F S1x1024 .f32
  | 0 => keep0 ts
  | n + 1 => sup (BitVec.ofNat 32 n) (srow S n) (kept S ts n)

/-- The count of kept boxes from the inputs' blocks. -/
def cnt (ts : FVec F S1x1x1024 .f32) (ti : Vec F S1x1x1000 .i32) (B : Vec F S1x5000x4 .f32) (e : FVec F S1024x1024 .f32) : IVec S1x1 32 :=
  count (total (kept (stab (boxes B ti 1000) (turn (boxes B ti 1000) e)) ts 1000))

/-- The first hundred of the two gathered tables. -/
def topc (C : FVec F S1024x1 .f32) : FVec F S100x1 .f32 := fun z => C (ix2 (⟨(z 0).val, by have h : (z 0).val < 100 := (z 0).isLt; omega⟩ : Fin 1024) (z 1 : Fin 1))
def topb (B : FVec F S1024x4 .f32) : FVec F S100x4 .f32 := fun z => B (ix2 (⟨(z 0).val, by have h : (z 0).val < 100 := (z 0).isLt; omega⟩ : Fin 1024) (z 1 : Fin 4))

/-! ## Whole blocks read and stored -/

theorem read_store {Val : EltTy → Type} {sg : RefSig} {κ : Kind} {sp : Space} {s : Shape} {e : EltTy} (m : View sg κ sp s e) (f : m.ty.Contents Val)
    (o : Fin s.rank → Nat) (ho : ∀ a, o a = 0) (inb : ∀ a, o a + s.size a ≤ s.size a) (w : s.Idx → Val e) :
    m.read Val (m.writes Val f [⟨Rect.unit (s := s) o s.size inb, w⟩]) = w := by
  funext y
  refine View.read_writes_cons_hit_of_coords m f (Rect.unit (s := s) o s.size inb) w [] y y (fun a => ?_)
  show (y a).val = o a + 1 * (y a).val
  rw [ho a]; omega

theorem read_load {Val : EltTy → Type} {sg : RefSig} {κ : Kind} {sp : Space} {s : Shape} {e : EltTy} (m : View sg κ sp s e) (f : m.ty.Contents Val)
    (o : Fin s.rank → Nat) (ho : ∀ a, o a = 0) (inb : ∀ a, o a + s.size a ≤ s.size a) :
    (m.readAt Val (Rect.unit (s := s) o s.size inb).toLoadRect f : s.Idx → Val e) = m.read Val f := by
  have h : ∀ y : s.Idx, (Rect.unit (s := s) o s.size inb).emb y = y := fun y => Rect.emb_eq_of_coords _ _ _ (fun a => by
    show (y a).val = o a + 1 * (y a).val
    rw [ho a]; omega)
  funext y
  exact congrArg (m.read Val f) (h y)

theorem z2 : ∀ a : Fin 2, (![0, 0] : Fin 2 → Nat) a = 0 := by decide
theorem z3 : ∀ a : Fin 3, (![0, 0, 0] : Fin 3 → Nat) a = 0 := by decide

section
variable (c : Dev nD) (E : Set ℕ)

theorem load_wp {s : Shape} (arg : Memref sig .tc .vmem s .f32) (Y : Vec F s .f32) (o : Fin s.rank → Nat) (ho : ∀ a, o a = 0) (inb : ∀ a, o a + s.size a ≤ s.size a)
    (hl : arg.view.LoadsAt (Rect.unit (s := s) o s.size inb).toLoadRect) (K : Vec F s .f32 → sProp 𝕄) :
    iprop(owns (c : Thread nD τ) arg fullShare Y ∗ (owns (c : Thread nD τ) arg fullShare Y -∗ K Y))
      ⊢ wp frame (wpE (defs₀ (F := F)) Variants.none c none) E (Prog.lift (.load arg (Rect.unit (s := s) o s.size inb).toLoadRect hl)) K := by
  unfold owns
  iintro ⟨⟨%f, %hf, H⟩, Hk⟩
  subst hf
  sl_exec
  sl_step
  refine BIBase.Entails.trans ?_ (Entails.of_eq (congrArg K (read_load arg.view f o ho inb).symm))
  iintro ⟨H, Hk⟩
  iapply Hk
  iexists f; isplitr; swap; · iexact H
  ipureintro; rfl

theorem clear_wp (arg11 : Memref sig .tc .vmem S1024x4 .f32) (arg13 : Memref sig .tc .vmem S1024x1 .f32)
    (B : Vec F S1x5000x4 .f32) (C : Vec F S1x5000x1 .f32) (ti : Vec F S1x1x1000 .i32) (K : PUnit → sProp 𝕄) :
    iprop((∃ d, owns (c : Thread nD τ) arg11 fullShare d) ∗ (∃ d, owns (c : Thread nD τ) arg13 fullShare d)
        ∗ (owns (c : Thread nD τ) arg11 fullShare (boxes B ti 0) -∗ owns (c : Thread nD τ) arg13 fullShare (classes C ti 0) -∗ K ⟨⟩))
      ⊢ wp frame (wpE (defs₀ (F := F)) Variants.none c none) E (clear arg11 arg13) K := by
  unfold owns clear
  iintro ⟨⟨%d11, %f11, %hf11, H11⟩, ⟨%d13, %f13, %hf13, H13⟩, Hk⟩
  sl_exec
  sl_step
  iapply Hk $$ [H11] [H13]
  · iexists _; isplitr; swap; · iexact H11
    ipureintro
    refine (read_store arg11.view f11 _ z2 _ _).trans ?_
    funext y
    unfold boxes
    rw [if_neg (Nat.not_lt_zero _), shapeCast_self]
    rfl
  · iexists _; isplitr; swap; · iexact H13
    ipureintro
    refine (read_store arg13.view f13 _ z2 _ _).trans ?_
    funext y
    unfold classes
    rw [if_neg (fun h => Nat.not_lt_zero _ h.1), shapeCast_self]
    rfl

/-- The table's first `s` blocks hold the overlaps. -/
def Blks (T : FVec F S1024x4 .f32) (R : FVec F S4x1024 .f32) (s : Nat) (Y : Vec F S1024x1024 .f32) : Prop :=
  ∀ y : S1024x1024.Idx, (y 0).val < 64 * s → Y y = stab T R y

theorem blk_hit {Val : EltTy → Type} {sg : RefSig} {κ : Kind} {sp : Space} (v : View sg κ sp S1024x1024 .f32) (f : v.ty.Contents Val) (r : Nat)
    (inb : ∀ a, (![64 * r, 0] : Fin 2 → Nat) a + S64x1024.size a ≤ S1024x1024.size a) (w : S64x1024.Idx → Val .f32) (y : S1024x1024.Idx) (h : (y 0).val / 64 = r) :
    v.read Val (v.writes Val f [⟨Rect.unit (s := S1024x1024) ![64 * r, 0] S64x1024.size inb, w⟩]) y
      = w (ix2 (⟨(y 0).val % 64, Nat.mod_lt _ (by decide)⟩ : Fin 64) (y 1 : Fin 1024)) := by
  refine View.read_writes_cons_hit_of_coords v f (Rect.unit (s := S1024x1024) ![64 * r, 0] S64x1024.size inb) w [] (ix2 (⟨(y 0).val % 64, Nat.mod_lt _ (by decide)⟩ : Fin 64) (y 1 : Fin 1024)) y ?_
  intro a
  match a with
  | ⟨0, _⟩ => show (y 0).val = 64 * r + 1 * ((y 0).val % 64); omega
  | ⟨1, _⟩ => show (y 1).val = 0 + 1 * (y 1).val; omega

theorem chunk_wp (arg12 : Memref sig .tc .vmem S1024x1024 .f32) (T : FVec F S1024x4 .f32) (R : FVec F S4x1024 .f32) (r : Nat) (hr : r < 16) (Y : Vec F S1024x1024 .f32)
    (hY : Blks T R r Y) (K : PUnit → sProp 𝕄) :
    iprop(owns (c : Thread nD τ) arg12 fullShare Y ∗ (∀ Y', ⌜Blks T R (r + 1) Y'⌝ -∗ owns (c : Thread nD τ) arg12 fullShare Y' -∗ K ⟨⟩))
      ⊢ wp frame (wpE (defs₀ (F := F)) Variants.none c none) E (chunk arg12 T R r hr) K := by
  unfold owns chunk
  iintro ⟨⟨%f, %hf, H⟩, Hk⟩
  subst hf
  sl_exec
  sl_step
  iapply Hk $$ [] [H]
  rotate_left
  · iexists _; isplitr; swap; · iexact H
    ipureintro; rfl
  ipureintro
  intro y hy
  by_cases h : (y 0).val < 64 * r
  · refine (View.read_writes_cons_miss_of_axis _ _ _ [] y 0 (64 * r) 64 rfl rfl rfl (Or.inl h)).trans (hY y h)
  · obtain rfl : (y 0).val / 64 = r := by omega
    exact blk_hit _ _ _ _ _ y rfl

theorem chunks_wp (arg12 : Memref sig .tc .vmem S1024x1024 .f32) (T : FVec F S1024x4 .f32) (R : FVec F S4x1024 .f32) (n s : Nat) (h : n + s ≤ 16) (Y : Vec F S1024x1024 .f32)
    (hY : Blks T R s Y) (K : PUnit → sProp 𝕄) :
    iprop(owns (c : Thread nD τ) arg12 fullShare Y ∗ (∀ Y', ⌜Blks T R (n + s) Y'⌝ -∗ owns (c : Thread nD τ) arg12 fullShare Y' -∗ K ⟨⟩))
      ⊢ wp frame (wpE (defs₀ (F := F)) Variants.none c none) E (chunks arg12 T R n s h) K := by
  induction n generalizing s Y with
  | zero =>
    unfold chunks
    iintro ⟨H, Hk⟩
    sl_step
    iapply Hk $$ [] H
    ipureintro
    rwa [Nat.zero_add]
  | succ n ih =>
    unfold chunks
    rw [wp_bind]
    iintro ⟨H, Hk⟩
    iapply (chunk_wp c E arg12 T R s _ Y hY)
    isplitl [H]; · iexact H
    iintro %Y' %hY' H
    iapply (ih (s + 1) _ Y' hY')
    isplitl [H]; · iexact H
    rw [show n + 1 + s = n + (s + 1) by omega]
    iexact Hk

theorem trips2 : k0_t2_loop.trips = 1000 := by decide +kernel
theorem off6_eq : ∀ k : Fin k0_t2_loop.trips, k0_off6 k = ![k.val, 0] := by decide +kernel
theorem iv_eq : ∀ k : Fin k0_t2_loop.trips, Scf.iv 0#32 1#32 k.val = BitVec.ofNat 32 k.val := by decide +kernel

theorem row_read {Val : EltTy → Type} {sg : RefSig} {κ : Kind} {sp : Space} (v : View sg κ sp S1024x1024 .f32) (f : v.ty.Contents Val) (k : Fin k0_t2_loop.trips) :
    (v.readAt Val (Rect.unit (s := S1024x1024) (k0_off6 k) S1x1024.size (k0_off6_inb k)).toLoadRect f : S1x1024.Idx → Val .f32)
      = fun z => v.read Val f (ix2 (⟨k.val % 1024, Nat.mod_lt _ (by decide)⟩ : Fin 1024) (z 1 : Fin 1024)) := by
  have e := off6_eq k
  have hk : k.val < 1000 := trips2 ▸ k.isLt
  funext z
  refine congrArg (v.read Val f) (Rect.emb_eq_of_coords (Rect.unit (s := S1024x1024) (k0_off6 k) S1x1024.size (k0_off6_inb k)) _ _ (fun a => ?_))
  match a with
  | ⟨0, _⟩ =>
    have h : (z 0).val < 1 := (z 0).isLt
    exact Eq.trans (b := k.val + 1 * (z 0).val) (show k.val % 1024 = _ by omega) (congrArg (· + 1 * (z 0).val) (congrFun e 0).symm)
  | ⟨1, _⟩ => exact Eq.trans (b := 0 + 1 * (z 1).val) (show (z 1).val = _ by omega) (congrArg (· + 1 * (z 1).val) (congrFun e 1).symm)

theorem step_wp (arg12 : Memref sig .tc .vmem S1024x1024 .f32) (S : FVec F S1024x1024 .f32) (k : Fin k0_t2_loop.trips) (kv : FVec F S1x1024 .f32) (K : FVec F S1x1024 .f32 → sProp 𝕄) :
    iprop(owns (c : Thread nD τ) arg12 fullShare S ∗ (owns (c : Thread nD τ) arg12 fullShare S -∗ K (sup (BitVec.ofNat 32 k.val) (srow S k.val) kv)))
      ⊢ wp frame (wpE (defs₀ (F := F)) Variants.none c none) E (step arg12 k kv) K := by
  unfold owns step
  iintro ⟨⟨%f, %hf, H⟩, Hk⟩
  subst hf
  sl_exec
  sl_step
  refine BIBase.Entails.trans ?_ (Entails.of_eq (congrArg K (show sup (BitVec.ofNat 32 k.val) (srow (arg12.view.read (Elt F) f) k.val) kv = sup (Scf.iv 0#32 1#32 k.val)
    (arg12.view.readAt (Elt F) (Rect.unit (s := S1024x1024) (k0_off6 k) S1x1024.size (k0_off6_inb k)).toLoadRect f) kv from
      congrArg₂ (fun w x => sup w x kv) (iv_eq k).symm (row_read arg12.view f k).symm)))
  iintro ⟨H, Hk⟩
  iapply Hk
  iexists f; isplitr; swap; · iexact H
  ipureintro; rfl

theorem second_wp (arg1 : Memref sig .tc .vmem S1x1x1024 .f32) (arg12 : Memref sig .tc .vmem S1024x1024 .f32) (ts : Vec F S1x1x1024 .f32)
    (T : FVec F S1024x4 .f32) (R : FVec F S4x1024 .f32) (K : FVec F S1x1024 .f32 → sProp 𝕄) :
    iprop(owns (c : Thread nD τ) arg1 fullShare ts ∗ (∃ d, owns (c : Thread nD τ) arg12 fullShare d)
        ∗ (owns (c : Thread nD τ) arg1 fullShare ts -∗ owns (c : Thread nD τ) arg12 fullShare (stab T R) -∗ K (kept (stab T R) ts 1000)))
      ⊢ wp frame (wpE (defs₀ (F := F)) Variants.none c none) E (second arg1 arg12 T R) K := by
  unfold second
  simp only [wp_bind]
  iintro ⟨H1, ⟨%d, H12⟩, Hk⟩
  iapply (chunks_wp c E arg12 T R 16 0 _ d (fun y hy => absurd hy (by omega)))
  isplitl [H12]; · iexact H12
  iintro %Y' %hY' H12
  have e : Y' = stab T R := funext fun y => hY' y (show (y 0).val < 1024 from (y 0).isLt)
  subst e
  iapply (load_wp c E arg1 ts _ z3 _ _ _)
  isplitl [H1]; · iexact H1
  iintro H1
  let I : Nat → FVec F S1x1024 .f32 → sProp 𝕄 := fun n kv =>
    iprop(owns (c : Thread nD τ) arg12 fullShare (stab T R) ∗ ⌜kv = kept (stab T R) ts n⌝)
  have hb : ∀ (k : Fin k0_t2_loop.trips) (acc : FVec F S1x1024 .f32), I k.val acc
      ⊢ wp frame (wpE (defs₀ (F := F)) Variants.none c none) E (step arg12 k acc) (I (k.val + 1)) := by
    intro k acc
    refine BIBase.Entails.trans ?_ (step_wp c E arg12 (stab T R) k acc (I (k.val + 1)))
    show iprop(_ ∗ ⌜_⌝) ⊢ iprop(_ ∗ (_ -∗ (_ ∗ ⌜_⌝)))
    iintro ⟨H, %he⟩
    isplitl [H]; · iexact H
    iintro H
    isplitl [H]; · iexact H
    ipureintro
    rw [he]
    rfl
  have hloop := Scf.wp_for frame (wpE (defs₀ (F := F)) Variants.none c none) E k0_t2_loop.lb k0_t2_loop.ub k0_t2_loop.st k0_t2_ok (keep0 ts) (fun k kv => step arg12 k kv) I hb (Q := K)
  have ht : I (Scf.trips k0_t2_loop.lb k0_t2_loop.ub k0_t2_loop.st) = I 1000 := congrArg I trips2
  rw [ht] at hloop
  refine BIBase.Entails.trans ?_ hloop
  show _ ⊢ iprop((_ ∗ ⌜_⌝) ∗ (∀ acc, (_ ∗ ⌜_⌝) -∗ _))
  iintro ⟨⟨Hk, H12⟩, H1⟩
  isplitl [H12]
  · isplitl [H12]; · iexact H12
    ipureintro; rfl
  · iintro %acc ⟨H12, %he⟩
    rw [he]
    iapply Hk $$ H1 H12

/-- The counts with one image's row replaced. -/
def setRow (r : Nat) (n : IVec S1x1 32) (d : Vec F S4x1 .i32) : Vec F S4x1 .i32 := fun y => if (y 0).val = r then n (ix2 0 0) else d y

theorem off7_0 (i : grid0.Coords) : k0_off7 i 0 = (i 0).val := by
  show (BitVec.ofNat 32 (i 0).val).toNat = (i 0).val
  have h : (i 0).val < 4 := (i 0).isLt
  rw [BitVec.toNat_ofNat]; omega

theorem read_row (i : grid0.Coords) (arg10 : Memref sig .tc .smem S4x1 .i32) (n : IVec S1x1 32) (f : arg10.view.ty.Contents (Elt F)) :
    arg10.view.read (Elt F) (arg10.view.writes (Elt F) f [⟨Rect.unit (s := S4x1) (k0_off7 i) S1x1.size (k0_off7_inb i), fun _ => extractAt ![0, 0] n inpos_S1x1_p0_0⟩])
      = setRow (F := F) (i 0).val n (arg10.view.read (Elt F) f) := by
  funext y
  have h0 : (y 0).val < 4 := (y 0).isLt
  have h1 : (y 1).val < 1 := (y 1).isLt
  unfold setRow
  by_cases h : (y 0).val = (i 0).val
  · rw [if_pos h]
    refine (View.read_writes_cons_hit_of_coords arg10.view f (Rect.unit (s := S4x1) (k0_off7 i) S1x1.size (k0_off7_inb i)) _ [] (ix2 (0 : Fin 1) (0 : Fin 1)) y (fun a => ?_)).trans ?_
    · match a with
      | ⟨0, _⟩ => show (y 0).val = k0_off7 i 0 + 1 * 0; rw [off7_0]; omega
      | ⟨1, _⟩ => show (y 1).val = 0 + 1 * 0; omega
    · refine congrArg n ?_
      funext a
      match a with
      | ⟨0, _⟩ => rfl
      | ⟨1, _⟩ => rfl
  · rw [if_neg h]
    refine (View.read_writes_cons_miss_of_axis arg10.view f ⟨Rect.unit (s := S4x1) (k0_off7 i) S1x1.size (k0_off7_inb i), _⟩ [] y (0 : Fin 2) (i 0).val 1 (off7_0 i) rfl rfl (by omega)).trans rfl

theorem stcount_wp (i : grid0.Coords) (arg10 : Memref sig .tc .smem S4x1 .i32) (n : IVec S1x1 32) (d : Vec F S4x1 .i32) (K : PUnit → sProp 𝕄) :
    iprop(owns (c : Thread nD τ) arg10 fullShare d ∗ (owns (c : Thread nD τ) arg10 fullShare (setRow (i 0).val n d) -∗ K ⟨⟩))
      ⊢ wp frame (wpE (defs₀ (F := F)) Variants.none c none) E (stcount i arg10 n) K := by
  unfold owns stcount
  iintro ⟨⟨%f, %hf, H⟩, Hk⟩
  sl_exec
  sl_step
  iapply Hk
  iexists _; isplitr; swap; · iexact H
  ipureintro
  rw [← hf]
  exact read_row i arg10 n f

theorem stks_wp (arg2 : Memref sig .tc .vmem S1x1024x1 .f32) (arg7 : Memref sig .tc .vmem S1x100x1 .f32) (n : IVec S1x1 32) (tc : Vec F S1x1024x1 .f32) (K : PUnit → sProp 𝕄) :
    iprop(owns (c : Thread nD τ) arg2 fullShare tc ∗ (∃ d, owns (c : Thread nD τ) arg7 fullShare d)
        ∗ (owns (c : Thread nD τ) arg2 fullShare tc -∗ owns (c : Thread nD τ) arg7 fullShare (oks n tc) -∗ K ⟨⟩))
      ⊢ wp frame (wpE (defs₀ (F := F)) Variants.none c none) E (stks arg2 arg7 n) K := by
  unfold owns stks
  iintro ⟨⟨%f2, %hf2, H2⟩, ⟨%d, %f7, %hf7, H7⟩, Hk⟩
  subst hf2
  sl_exec
  sl_step
  iapply Hk $$ [H2] [H7]
  · iexists f2; isplitr; swap; · iexact H2
    ipureintro; rfl
  · iexists _; isplitr; swap; · iexact H7
    ipureintro
    refine (read_store arg7.view f7 _ z3 _ _).trans ?_
    exact congrArg (oks n) (read_load arg2.view f2 _ z3 _)

theorem topc_read {Val : EltTy → Type} {sg : RefSig} {κ : Kind} {sp : Space} (v : View sg κ sp S1024x1 .f32) (f : v.ty.Contents Val) :
    (v.readAt Val (Rect.unit (s := S1024x1) ![0, 0] S100x1.size inb_S1024x1_S100x1_0_0).toLoadRect f : S100x1.Idx → Val .f32)
      = fun z => v.read Val f (ix2 (⟨(z 0).val, by have h : (z 0).val < 100 := (z 0).isLt; omega⟩ : Fin 1024) (z 1 : Fin 1)) := by
  funext z
  refine congrArg (v.read Val f) (Rect.emb_eq_of_coords (Rect.unit (s := S1024x1) ![0, 0] S100x1.size inb_S1024x1_S100x1_0_0) _ _ (fun a => ?_))
  match a with
  | ⟨0, _⟩ => show (z 0).val = 0 + 1 * (z 0).val; omega
  | ⟨1, _⟩ => show (z 1).val = 0 + 1 * (z 1).val; omega

theorem topb_read {Val : EltTy → Type} {sg : RefSig} {κ : Kind} {sp : Space} (v : View sg κ sp S1024x4 .f32) (f : v.ty.Contents Val) :
    (v.readAt Val (Rect.unit (s := S1024x4) ![0, 0] S100x4.size inb_S1024x4_S100x4_0_0).toLoadRect f : S100x4.Idx → Val .f32)
      = fun z => v.read Val f (ix2 (⟨(z 0).val, by have h : (z 0).val < 100 := (z 0).isLt; omega⟩ : Fin 1024) (z 1 : Fin 4)) := by
  funext z
  refine congrArg (v.read Val f) (Rect.emb_eq_of_coords (Rect.unit (s := S1024x4) ![0, 0] S100x4.size inb_S1024x4_S100x4_0_0) _ _ (fun a => ?_))
  match a with
  | ⟨0, _⟩ => show (z 0).val = 0 + 1 * (z 0).val; omega
  | ⟨1, _⟩ => show (z 1).val = 0 + 1 * (z 1).val; omega

theorem stkc_wp (arg8 : Memref sig .tc .vmem S1x100x1 .f32) (arg13 : Memref sig .tc .vmem S1024x1 .f32) (n : IVec S1x1 32) (C : Vec F S1024x1 .f32) (K : PUnit → sProp 𝕄) :
    iprop((∃ d, owns (c : Thread nD τ) arg8 fullShare d) ∗ owns (c : Thread nD τ) arg13 fullShare C
        ∗ (owns (c : Thread nD τ) arg8 fullShare (okc n (topc C)) -∗ owns (c : Thread nD τ) arg13 fullShare C -∗ K ⟨⟩))
      ⊢ wp frame (wpE (defs₀ (F := F)) Variants.none c none) E (stkc arg8 arg13 n) K := by
  unfold owns stkc
  iintro ⟨⟨%d, %f8, %hf8, H8⟩, ⟨%f13, %hf13, H13⟩, Hk⟩
  subst hf13
  sl_exec
  sl_step
  iapply Hk $$ [H8] [H13]
  · iexists _; isplitr; swap; · iexact H8
    ipureintro
    refine (read_store arg8.view f8 _ z3 _ _).trans ?_
    exact congrArg (okc n) (topc_read arg13.view f13)
  · iexists f13; isplitr; swap; · iexact H13
    ipureintro; rfl

theorem stkb_wp (arg9 : Memref sig .tc .vmem S1x100x4 .f32) (arg11 : Memref sig .tc .vmem S1024x4 .f32) (n : IVec S1x1 32) (B : Vec F S1024x4 .f32) (K : PUnit → sProp 𝕄) :
    iprop((∃ d, owns (c : Thread nD τ) arg9 fullShare d) ∗ owns (c : Thread nD τ) arg11 fullShare B
        ∗ (owns (c : Thread nD τ) arg9 fullShare (okb n (topb B)) -∗ owns (c : Thread nD τ) arg11 fullShare B -∗ K ⟨⟩))
      ⊢ wp frame (wpE (defs₀ (F := F)) Variants.none c none) E (stkb arg9 arg11 n) K := by
  unfold owns stkb
  iintro ⟨⟨%d, %f9, %hf9, H9⟩, ⟨%f11, %hf11, H11⟩, Hk⟩
  subst hf11
  sl_exec
  sl_step
  iapply Hk $$ [H9] [H11]
  · iexists _; isplitr; swap; · iexact H9
    ipureintro
    refine (read_store arg9.view f9 _ z3 _ _).trans ?_
    exact congrArg (okb n) (topb_read arg11.view f11)
  · iexists f11; isplitr; swap; · iexact H11
    ipureintro; rfl

/-- The body's run: the inputs' blocks as they were, the three results at their values, the image's row of
    the counts replaced. -/
theorem sound_body (i : grid0.Coords) (arg1 : Memref sig .tc .vmem S1x1x1024 .f32) (arg2 : Memref sig .tc .vmem S1x1024x1 .f32)
    (arg3 : Memref sig .tc .smem S1x1x1000 .i32) (arg4 : Memref sig .tc .vmem S1x5000x4 .f32) (arg5 : Memref sig .tc .vmem S1x5000x1 .f32)
    (arg6 : Memref sig .tc .vmem S1024x1024 .f32) (arg7 : Memref sig .tc .vmem S1x100x1 .f32) (arg8 : Memref sig .tc .vmem S1x100x1 .f32)
    (arg9 : Memref sig .tc .vmem S1x100x4 .f32) (arg10 : Memref sig .tc .smem S4x1 .i32) (arg11 : Memref sig .tc .vmem S1024x4 .f32)
    (arg12 : Memref sig .tc .vmem S1024x1024 .f32) (arg13 : Memref sig .tc .vmem S1024x1 .f32)
    (ts : Vec F S1x1x1024 .f32) (tc : Vec F S1x1024x1 .f32) (ti : Vec F S1x1x1000 .i32) (B : Vec F S1x5000x4 .f32) (C : Vec F S1x5000x1 .f32) (e : Vec F S1024x1024 .f32)
    (d : Vec F S4x1 .i32) (hw : ∀ k : Fin k0_t1_loop.trips, k0_chk1 k (word ti k.val)) (K : PUnit → sProp 𝕄) :
    iprop(owns (c : Thread nD τ) arg1 fullShare ts ∗ owns (c : Thread nD τ) arg2 fullShare tc ∗ owns (c : Thread nD τ) arg3 fullShare ti
        ∗ owns (c : Thread nD τ) arg4 fullShare B ∗ owns (c : Thread nD τ) arg5 fullShare C ∗ owns (c : Thread nD τ) arg6 fullShare e
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare d ∗ (∃ d, owns (c : Thread nD τ) arg11 fullShare d) ∗ (∃ d, owns (c : Thread nD τ) arg12 fullShare d)
        ∗ (∃ d, owns (c : Thread nD τ) arg13 fullShare d)
        ∗ (owns (c : Thread nD τ) arg1 fullShare ts -∗ owns (c : Thread nD τ) arg2 fullShare tc -∗ owns (c : Thread nD τ) arg3 fullShare ti
        -∗ owns (c : Thread nD τ) arg4 fullShare B -∗ owns (c : Thread nD τ) arg5 fullShare C -∗ owns (c : Thread nD τ) arg6 fullShare e
        -∗ owns (c : Thread nD τ) arg7 fullShare (oks (cnt ts ti B e) tc) -∗ owns (c : Thread nD τ) arg8 fullShare (okc (cnt ts ti B e) (topc (classes C ti 1000)))
        -∗ owns (c : Thread nD τ) arg9 fullShare (okb (cnt ts ti B e) (topb (boxes B ti 1000)))
        -∗ owns (c : Thread nD τ) arg10 fullShare (setRow (i 0).val (cnt ts ti B e) d) -∗ (∃ d, owns (c : Thread nD τ) arg11 fullShare d) -∗ (∃ d, owns (c : Thread nD τ) arg12 fullShare d)
        -∗ (∃ d, owns (c : Thread nD τ) arg13 fullShare d) -∗ K ⟨⟩))
      ⊢ wp frame (wpE (defs₀ (F := F)) Variants.none c none) E (body i arg1 arg2 arg3 arg4 arg5 arg6 arg7 arg8 arg9 arg10 arg11 arg12 arg13) K := by
  unfold body third cnt
  simp only [wp_bind]
  iintro ⟨H1, H2, H3, H4, H5, H6, H7, H8, H9, H10, H11, H12, H13, Hk⟩
  iapply (clear_wp c E arg11 arg13 B C ti _)
  isplitl [H11]; · iexact H11
  isplitl [H13]; · iexact H13
  iintro H11 H13
  iapply (gather_wp c E arg3 arg4 arg5 arg11 arg13 B C ti hw _)
  isplitl [H3]; · iexact H3
  isplitl [H4]; · iexact H4
  isplitl [H5]; · iexact H5
  isplitl [H11]; · iexact H11
  isplitl [H13]; · iexact H13
  iintro H3 H4 H5 H11 H13
  iapply (load_wp c E arg11 (boxes B ti 1000) _ z2 _ _ _)
  isplitl [H11]; · iexact H11
  iintro H11
  iapply (load_wp c E arg6 e _ z2 _ _ _)
  isplitl [H6]; · iexact H6
  iintro H6
  iapply (second_wp c E arg1 arg12 ts (boxes B ti 1000) (turn (boxes B ti 1000) e) _)
  isplitl [H1]; · iexact H1
  isplitl [H12]; · iexact H12
  iintro H1 H12
  iapply (stcount_wp c E i arg10 _ d _)
  isplitl [H10]; · iexact H10
  iintro H10
  iapply (stks_wp c E arg2 arg7 _ tc _)
  isplitl [H2]; · iexact H2
  isplitl [H7]; · iexact H7
  iintro H2 H7
  iapply (stkc_wp c E arg8 arg13 _ (classes C ti 1000) _)
  isplitl [H8]; · iexact H8
  isplitl [H13]; · iexact H13
  iintro H8 H13
  iapply (stkb_wp c E arg9 arg11 _ (boxes B ti 1000) _)
  isplitl [H9]; · iexact H9
  isplitl [H11]; · iexact H11
  iintro H9 H11
  iapply Hk $$ H1 H2 H3 H4 H5 H6 H7 H8 H9 H10 [H11] [H12] [H13]
  · iexists _; iexact H11
  · iexists _; iexact H12
  · iexists _; iexact H13

end

end Cert.Proof.NmsI

end
-- ==== Proof.Nms.Top.lean ====
/-
  The thousand best of an image's five thousand scores: the places named lie in the image.
-/
module
public import Idealize.ShloMosaic.Lib.Pointwise
public import Idealize.ShloMosaic.Lib.StableHlo.ReadAt
@[expose] public section
noncomputable section
namespace Cert.Proof.Nms
open Idealize.ShloMosaic

/-- The shapes of all scores and of the best ones. -/
abbrev All : Shape := ⟨2, ![4, 5000]⟩
abbrev Best : Shape := ⟨2, ![4, 1000]⟩

/-- A word that the selection gives names a place along the axis. -/
theorem a_place {s t : Shape} {α : Type} (d : Nat) (hd : d < s.rank) (gt : α → α → BitVec 1) (x : s.Idx → α) (h) (j : t.Idx) :
    ∃ p : Fin (s.size ⟨d, hd⟩), (Host.topK t d gt x h).2 j = BitVec.ofNat 32 p.val := by
  unfold Host.topK Host.sort2
  simp only [dif_pos hd]
  exact ⟨_, rfl⟩

/-- A place among the best is the place of one of the five thousand scores. -/
theorem best_lt {α : Type} (gt : α → α → BitVec 1) (x : All.Idx → α) (h) (j : Best.Idx) :
    ((Host.topK Best 1 gt x h).2 j).toNat < 5000 := by
  obtain ⟨p, e⟩ := a_place (t := Best) 1 (by decide) gt x h j
  rw [e, BitVec.toNat_ofNat]
  exact lt_of_le_of_lt (Nat.mod_le _ _) p.isLt

end Cert.Proof.Nms
-- ==== Proof.Nms.Run.lean ====
/-
  The suppression program's run: the body's results at every grid point, the launch, and the frame.

  The run is stated under the one thing the body relies on, that the list entries it reads name boxes (`Named`);
  `named_of_listed` gives it from the range of the list. The fourth result, the counts, is one block that every point
  writes one row of: of it is carried that the rows of the points so far hold their images' counts.
-/
module

public import proofs.«01_k».proof.Proof.Nms.Triple
public import proofs.«01_k».proof.Proof.Gen.NmsIdeal.Frame
public import proofs.«01_k».proof.Proof.Nms.Top
public import Idealize.ShloMosaic.Lib.Pipeline.ValueKit
public import Idealize.ShloMosaic.Lib.Pipeline.DatRel
public import Idealize.ShloMosaic.Lib.ReduceAll
public import Idealize.ShloMosaic.Lib.WordArith
public import Idealize.ShloMosaic.Lib.WordCmp
public import Idealize.ShloMosaic.Lib.Claim

@[expose] public section

set_option maxRecDepth 16384

noncomputable section

namespace Cert.Proof.NmsI

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the pipeline -/

/-- The window told by a relation: the counts'. -/
def forgets0 : Fin 10 → Bool := fun w => w == 9

/-- What each window's staging buffer holds after a point: an input its block, the results their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oks (cnt (iblk m c 0 t) (iblk m c 2 t) (iblk m c 3 t) (iblk m c 5 t)) (iblk m c 1 t)
    | ⟨7, _⟩ => okc (cnt (iblk m c 0 t) (iblk m c 2 t) (iblk m c 3 t) (iblk m c 5 t)) (topc (classes (iblk m c 4 t) (iblk m c 2 t) 1000))
    | ⟨8, _⟩ => okb (cnt (iblk m c 0 t) (iblk m c 2 t) (iblk m c 3 t) (iblk m c 5 t)) (topb (boxes (iblk m c 3 t) (iblk m c 2 t) 1000))
    | ⟨9, _⟩ => Pipeline.Dat.unnamed (cfg := cfg0) 9 t
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = oks (cnt (iblk m c 0 t) (iblk m c 2 t) (iblk m c 3 t) (iblk m c 5 t)) (iblk m c 1 t) := by
  dsimp only [dats]
theorem after_7 (c : Dev nD) (t : Fin cfg0.N) : (dats m 0 c).after 7 t
    = okc (cnt (iblk m c 0 t) (iblk m c 2 t) (iblk m c 3 t) (iblk m c 5 t)) (topc (classes (iblk m c 4 t) (iblk m c 2 t) 1000)) := by
  dsimp only [dats]
theorem after_8 (c : Dev nD) (t : Fin cfg0.N) : (dats m 0 c).after 8 t
    = okb (cnt (iblk m c 0 t) (iblk m c 2 t) (iblk m c 3 t) (iblk m c 5 t)) (topb (boxes (iblk m c 3 t) (iblk m c 2 t) 1000)) := by
  dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- The list entries name boxes. -/
def Named : Prop := ∀ (c : Dev nD) (t : Fin cfg0.N) (k : Fin k0_t1_loop.trips), k0_chk1 k (word (iblk m c 2 t) k.val)

/-! ## The counts' rows -/

/-- The count of a point's image. -/
def cntOf (c : Dev nD) (t : Fin cfg0.N) : IVec S1x1 32 := cnt (iblk m c 0 t) (iblk m c 2 t) (iblk m c 3 t) (iblk m c 5 t)

/-- What the counts' block holds after a point: the rows of the points so far their images' counts. -/
def Rl (c : Dev nD) : (w : Fin cfg0.W) → Fin cfg0.N → ((cfg0.win w).block.Idx → Elt F (cfg0.win w).elt) → Prop := fun w => match w with
  | ⟨9, _⟩ => fun t (X : S4x1.Idx → BitVec 32) => ∀ u : Fin cfg0.N, u.val ≤ t.val → ∀ y : S4x1.Idx, (y 0).val = (grid0.coords u 0).val → X y = cntOf m c u (ix2 0 0)
  | _ => fun _ _ => True

/-- The data of the pipeline, the counts' window held to its relation. -/
abbrev rdats (c : Dev nD) := (dats m 0 c).toRRel forgets0 (Rl m c)

theorem coords_val : ∀ t : Fin cfg0.N, (grid0.coords t 0).val = t.val := by decide +kernel
theorem fetch_9 : ∀ t : Fin cfg0.N, (cfg0.win 9).fetch t = false := by decide +kernel
theorem flush_9 : ∀ t : Fin cfg0.N, (cfg0.win 9).flush t = decide (t.val = 3) := by decide +kernel

/-- One point's row put in: the relation holds after it. -/
theorem row_step (c : Dev nD) (t : Fin cfg0.N) (Y : S4x1.Idx → BitVec 32) (hY : (rdats m c).Finds 9 t Y) :
    Rl m c 9 t (setRow (F := F) (grid0.coords t 0).val (cntOf m c t) Y) := by
  intro u hu y hy
  unfold setRow
  by_cases h : u = t
  · subst h; rw [if_pos hy]
  · have hlt : u.val < t.val := lt_of_le_of_ne hu fun q => h (Fin.ext q)
    have hN : t.val < 4 := t.isLt
    rw [if_neg (by rw [hy, coords_val, coords_val]; omega)]
    rcases ((rdats m c).finds_of_pos (fetch_9 t) (by omega) Y).1 hY with h1 | h1
    · rw [flush_9] at h1
      have := of_decide_eq_true h1
      simp only at this
      omega
    · exact (dats m 0 c).toRRel_leaves rfl h1 u (by show u.val ≤ t.val - 1; omega) y hy

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdats m c).Finds 9 t Y⌝ ∗ owns (c : Thread nD τ) (st0_9 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, ⌜Rl m c 9 t X⌝ ∗ owns (c : Thread nD τ) (st0_9 t) fullShare X))

/-- The invariant between points: the scratches at some contents, and the generator's register. -/
theorem inv_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ ∃ r, prngReg c r) := by
  unfold Pipeline.ΦA
  rw [scopedRest0_eq]
  refine congrArg (fun p : sProp 𝕄 => iprop(p ∗ ∃ r, prngReg c r)) ?_
  refine congrArg₂ (fun p q : sProp 𝕄 => iprop(p ∗ q)) (congrArg _ (funext fun f => (owns_whole (c : Thread nD τ) cc0_scratch0 fullShare f).symm)) ?_
  exact congrArg₂ (fun p q : sProp 𝕄 => iprop(p ∗ q)) (congrArg _ (funext fun f => (owns_whole (c : Thread nD τ) cc0_scratch1 fullShare f).symm))
    (congrArg _ (funext fun f => (owns_whole (c : Thread nD τ) cc0_scratch2 fullShare f).symm))

theorem sound_point (hn : Named m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1, before_2, before_3, before_4, before_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, inv_eq]
  iintro ⟨⟨⟨HS0, HS1, HS2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %hd9, H9⟩⟩
  iapply (sound_body c Set.univ (grid0.coords t) _ _ _ _ _ _ _ _ _ _ _ _ _ (iblk m c 0 t) (iblk m c 1 t) (iblk m c 2 t) (iblk m c 3 t)
    (iblk m c 4 t) (iblk m c 5 t) d9 (hn c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  iintro H0 H1 H2 H3 H4 H5 H6 H7 H8 H9 HS0 HS1 HS2
  isplitl [HS0 HS1 HS2 HP]
  · isplitl [HS0 HS1 HS2]
    · isplitl [HS0]; · iexact HS0
      isplitl [HS1]; · iexact HS1
      iexact HS2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr; swap; · iexact H9
  ipureintro
  exact row_step m c t d9 hd9

theorem defs₀_row (t : Fin cfg0.N) :
    defs₀ (F := F) .tc cfg0.body (cfg0.bodyArgs t (cfg0.slots t)) = bodyAt0 t := by
  unfold defs₀; rw [Defs.onTc_tc]

theorem body_obligation (hn : Named m) (c : Dev nD) :
    Pipeline.BodyObligationRel (dats (F := F) m 0 c) (defs₀ (F := F)) Variants.none () Set.univ forgets0 (Rl m c) := fun t => by
  rw [bigSep_W0, bigSep_W0, defs₀_row]
  exact triple_restated (sound_point m hn c t) rfl .rfl fun _ => .rfl

/-! ## The run -/

/-- What a run leaves: every window's array but the counts' at its data's, every count its image's, every other buffer as the
    region found it. -/
def Post (r : PUnit × MemSt nD τ sig (Elt F)) : Prop :=
  ∀ c : Dev nD, (∀ w : Fin 10, forgets0 w = false → r.2.mem (((cfgs 0).spec w).arr.view.loc (c.tc : Thread nD τ)) = (dats m 0 c).arrAt w cfg0.N)
    ∧ (∀ b ∈ Pipeline.restRefs sig (cfgs 0).spec, r.2.mem ((c.tc : Thread nD τ).loc b) = V m c b)
    ∧ ∀ (u : Fin cfg0.N) (y : S4x1.Idx), (y 0).val = (grid0.coords u 0).val → (r.2.mem ((c.tc : Thread nD τ).loc main_v11_3) : IVec S4x1 32) y = cntOf m c u (ix2 0 0)

set_option backward.isDefEq.respectTransparency.types false in
set_option maxHeartbeats 800000 in
theorem run_rel (hn : Named m) : θ_run defs (onTc (τ := τ) (main (F := F))) (s₀ m ρ)
    (fun r => Pipeline.RDat.FramePost (cfgs 0) (rdats m) (V m) r ∧ r.2.sem = fun _ => 0) :=
  Pipeline.RDat.θ_run_frame (Q' := _) cfgs (0 : Fin 1) launch0 defs₀ Variants.none (rdats m) m ρ main
    (hbody := fun c => (body_obligation m hn c).toRRel) (hshare := fun c => (dats m 0 c).share_full fun _ => rfl)
    (howed := fun _ _ => rfl) (V := V m) (hmain := hmain m Variants.none) (hA := dats_A m) (hΦ := fun _ _ => rfl)

/-- The counts' array at the end: the last point writes the block back whole. -/
theorem counts_end (c : Dev nD) (G : Buf (Elt F) ((c.tc : Thread nD τ).loc main_v11_3)) (h : (rdats m c).ArrAt 9 cfg0.N G) (u : Fin cfg0.N) (y : S4x1.Idx)
    (hy : (y 0).val = (grid0.coords u 0).val) : (G : IVec S4x1 32) y = cntOf m c u (ix2 0 0) := by
  have ht : 3 < cfg0.N := by decide
  have h3 := (rdats m c).ArrAt_succ 9 (⟨3, ht⟩ : Fin cfg0.N)
  rw [if_pos ((flush0_9 _).2 rfl)] at h3
  have h4 : (rdats m c).ArrStep 9 (⟨3, ht⟩ : Fin cfg0.N) ((rdats m c).ArrAt 9 3) G := by
    rw [← h3]; exact h
  obtain ⟨G₀, X, -, hX, rfl⟩ := h4
  have hu : u.val < 4 := u.isLt
  have hr := (dats m 0 c).toRRel_leaves (w := 9) rfl hX u (by show u.val ≤ 3; omega) y hy
  have e : ∀ t, win0_9.index t = ![0, 0] := by decide +kernel
  have hb : (((View.whole main_v11_3).slice (win0_9.rect (⟨3, ht⟩ : Fin cfg0.N))).emb y : S4x1.Idx) = y := by
    funext a
    fin_cases a <;> (apply Fin.ext; blk_simp [e]; try simp)
    · exact congrFun (e _) 0
    · exact congrFun (e _) 1
  refine Eq.trans ?_ hr
  refine (congrArg _ hb.symm).trans ?_
  refine (View.write_emb_of_mem _ _ (Finset.mem_univ _)).trans ?_
  rfl

theorem run_all (hn : Named m) : θ_run defs (onTc (τ := τ) (main (F := F))) (s₀ m ρ)
    (fun r => Post m r ∧ r.2.sem = fun _ => 0) :=
  (θ_run defs _ _).mono (fun _ h => ⟨fun c => ⟨fun w hw => (((dats m 0 c).toR.override_arrAt (by simp only [hw]) _ _).trans ((dats m 0 c).toR_arrAt_iff w _ _)).1 ((h.1 c).1 w),
    (h.1 c).2, counts_end m c _ ((h.1 c).1 9)⟩, h.2⟩) (run_rel m ρ hn)

/-- The frame: the arguments end as launched and every counter at zero. -/
theorem framed (hn : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2.1 main_arg0 (Pipeline.mem_restRefs_of main_arg0 (by decide) (by decide))).trans (V_main_arg0 m c),
      ((h.1 c).1 3 rfl).trans (((dats m 0 c).arrAt_in 3 rfl _).trans ((dats_A m c 3).trans (V_main_arg1 m c))),
      ((h.1 c).1 4 rfl).trans (((dats m 0 c).arrAt_in 4 rfl _).trans ((dats_A m c 4).trans (V_main_arg2 m c)))⟩, h.2⟩) (run_all m ρ hn)

/-! ## The list entries from the selection -/

/-- The best of the scores and their places. -/
def best (c : Dev nD) : Vec F S4x1000 .f32 × IVec S4x1000 32 :=
  Host.topK S4x1000 1 (FloatOps.cmpfTotal .gt) (shapeCast S4x5000 (m ((c : Thread nD τ).loc main_arg0) : Vec F S4x5000x1 .f32) shapeCasts_S4x5000x1_S4x5000) sliceFits_S4x5000_S4x1000

theorem listed_lt (c : Dev nD) (j : S4x1000.Idx) : ((best m c).2 j).toNat < 5000 := Nms.best_lt _ _ _ j

theorem V_list (c : Dev nD) : V m c main_v4 = shapeCast S4x1x1000 ((best m c).2 : Vec F S4x1000 .i32) shapeCasts_S4x1000_S4x1x1000 := by
  unfold V
  entry_read
  rfl

/-- A point's list entries are those of its image's row of the list. -/
theorem word_entry (c : Dev nD) (t : Fin cfg0.N) (n : Nat) : word (iblk m c 2 t) n
    = (best m c).2 (ix2 (⟨(grid0.coords t 0).val, (grid0.coords t 0).isLt⟩ : Fin 4) (⟨n % 1000, Nat.mod_lt _ (by decide)⟩ : Fin 1000)) := by
  have e : ∀ t, win0_2.index t = ![(grid0.coords t 0).val, 0, 0] := by decide +kernel
  unfold word
  blk_simp [iblk, e]
  rw [show ((View.whole main_v4).slice (win0_2.rect t)).emb (ix3 0 0 ⟨n % 1000, Nat.mod_lt _ (by decide)⟩)
      = ix3 (⟨(grid0.coords t 0).val, (grid0.coords t 0).isLt⟩ : Fin 4) (0 : Fin 1) (⟨n % 1000, Nat.mod_lt _ (by decide)⟩ : Fin 1000) from ?_]
  · refine (congrFun (V_list m c) _).trans ?_
    pointwise
  · funext a
    fin_cases a
    all_goals (apply Fin.ext; blk_simp [e]; try simp)

theorem chk_of_lt (k : Fin k0_t1_loop.trips) (v : BitVec 32) (h : v.toNat < 5000) : k0_chk1 k v := by
  refine ⟨?_, fun _ => ?_⟩
  · intro a
    match a with
    | ⟨0, _⟩ => show 0 + 1 ≤ 1; omega
    | ⟨1, _⟩ => show v.toNat + 1 ≤ 5000; omega
    | ⟨2, _⟩ => show 0 + 4 ≤ 4; omega
  · intro a
    match a with
    | ⟨0, _⟩ => show 0 + 1 ≤ 1; omega
    | ⟨1, _⟩ => show v.toNat + 1 ≤ 5000; omega
    | ⟨2, _⟩ => show 0 + 1 ≤ 1; omega

/-- Every point's list entries are in range. -/
theorem named : Named m := fun c t k => by
  rw [word_entry]
  exact chk_of_lt k _ (listed_lt m c _)

end Cert.Proof.NmsI

end
-- ==== Proof.Nms.Keep.lean ====
/-
  The suppression reference leaves its arguments as they were.
-/
module
public import proofs.«01_k».proof.Proof.Gen.NmsRefIdeal.Run
public import Idealize.ShloMosaic.Lib.Claim
@[expose] public section
set_option maxRecDepth 16384
noncomputable section
namespace Cert.Proof.NmsRef
open Cert.NmsRefIdeal Cert.NmsRefIdeal.Gen Cert.NmsRefIdeal.Value
open Idealize.ShloMosaic Idealize.ShloMosaic.TcCoe Idealize.SL.Sem Idealize.ShloMosaic.Tactic
open Idealize.ShloMosaic.StableHlo

variable {F : FTy → Type} [FloatOps F]

/-- The three arguments. -/
abbrev args : List (Ref sig .tc) := [main_arg0, main_arg1, main_arg2]

/-- The arguments and what the first operations give. -/
abbrev early : List (Ref sig .tc) := [main_arg0, main_arg1, main_arg2, main_values, main_indices]

theorem early_of (b : Ref sig .tc) (hb : b ∈ args) : b ∈ early := by
  simp only [List.mem_cons, List.not_mem_nil, or_false] at hb ⊢
  rcases hb with h | h | h
  · exact Or.inl h
  · exact Or.inr (Or.inl h)
  · exact Or.inr (Or.inr (Or.inl h))

theorem keeps_hostOps0 (b : Ref sig .tc) (hb : b ∈ args) (V : Valuation τ sig (Elt F)) : after hostOps0 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_1 (b : Ref sig .tc) (hb : b ∈ early) (V : Valuation τ sig (Elt F)) : after hostOps0_1 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_2 (b : Ref sig .tc) (hb : b ∈ early) (V : Valuation τ sig (Elt F)) : after hostOps0_2 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_3 (b : Ref sig .tc) (hb : b ∈ early) (V : Valuation τ sig (Elt F)) : after hostOps0_3 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_4 (b : Ref sig .tc) (hb : b ∈ early) (V : Valuation τ sig (Elt F)) : after hostOps0_4 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_5 (b : Ref sig .tc) (hb : b ∈ early) (V : Valuation τ sig (Elt F)) : after hostOps0_5 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_6 (b : Ref sig .tc) (hb : b ∈ early) (V : Valuation τ sig (Elt F)) : after hostOps0_6 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_7 (b : Ref sig .tc) (hb : b ∈ early) (V : Valuation τ sig (Elt F)) : after hostOps0_7 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_8 (b : Ref sig .tc) (hb : b ∈ early) (V : Valuation τ sig (Elt F)) : after hostOps0_8 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_9 (b : Ref sig .tc) (hb : b ∈ early) (V : Valuation τ sig (Elt F)) : after hostOps0_9 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_10 (b : Ref sig .tc) (hb : b ∈ early) (V : Valuation τ sig (Elt F)) : after hostOps0_10 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_11 (b : Ref sig .tc) (hb : b ∈ early) (V : Valuation τ sig (Elt F)) : after hostOps0_11 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_12 (b : Ref sig .tc) (hb : b ∈ early) (V : Valuation τ sig (Elt F)) : after hostOps0_12 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_13 (b : Ref sig .tc) (hb : b ∈ early) (V : Valuation τ sig (Elt F)) : after hostOps0_13 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_14 (b : Ref sig .tc) (hb : b ∈ early) (V : Valuation τ sig (Elt F)) : after hostOps0_14 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_15 (b : Ref sig .tc) (hb : b ∈ early) (V : Valuation τ sig (Elt F)) : after hostOps0_15 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_16 (b : Ref sig .tc) (hb : b ∈ early) (V : Valuation τ sig (Elt F)) : after hostOps0_16 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_17 (b : Ref sig .tc) (hb : b ∈ early) (V : Valuation τ sig (Elt F)) : after hostOps0_17 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_hostOps0_18 (b : Ref sig .tc) (hb : b ∈ early) (V : Valuation τ sig (Elt F)) : after hostOps0_18 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_condOps (b : Ref sig .tc) (hb : b ∈ early) (V : Valuation τ sig (Elt F)) : after condOps V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem keeps_while0Ops0 (b : Ref sig .tc) (hb : b ∈ early) (V : Valuation τ sig (Elt F)) : after while0Ops0 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)

variable (m : (ℓ : Loc nD τ sig) → Buf (Elt F) ℓ) (g : Dev nD → PrngReg)

theorem early_entry (b : Ref sig .tc) (hb : b ∈ early) (c : Dev nD) : entryContents preI m c (Proc.devRef .tc b) = after hostOps0 (entryContents [] m c) (Proc.devRef .tc b) := by
  simp only [entryContents, afterL_cons, afterL_nil]
  rw [keeps_hostOps0_12 b hb, keeps_hostOps0_11 b hb, keeps_hostOps0_10 b hb, keeps_hostOps0_9 b hb, keeps_hostOps0_8 b hb, keeps_hostOps0_7 b hb, keeps_hostOps0_6 b hb, keeps_hostOps0_5 b hb, keeps_hostOps0_4 b hb, keeps_hostOps0_3 b hb, keeps_hostOps0_2 b hb, keeps_hostOps0_1 b hb]

theorem early_trip (b : Ref sig .tc) (hb : b ∈ early) (c : Dev nD) : ∀ k, atK m k c (Proc.devRef .tc b) = after hostOps0 (entryContents [] m c) (Proc.devRef .tc b)
  | 0 => early_entry m b hb c
  | k + 1 => by
    rw [show atK m (k + 1) c = afterL bodyI (after condOps (atK m k c)) from rfl]
    simp only [afterL_cons, afterL_nil]
    rw [keeps_while0Ops0 b hb, keeps_condOps b hb]
    exact early_trip b hb c k

theorem keeps (b : Ref sig .tc) (hb : b ∈ args) (c : Dev nD) :
    finalContents condOps preI bodyI postI 1000 m c (Proc.devRef .tc b) = m ((c.tc : Thread nD τ).loc b) := by
  have he := early_of b hb
  simp only [finalContents, afterL_cons, afterL_nil]
  rw [keeps_hostOps0_18 b he, keeps_hostOps0_17 b he, keeps_hostOps0_16 b he, keeps_hostOps0_15 b he, keeps_hostOps0_14 b he, keeps_hostOps0_13 b he, keeps_condOps b he]
  exact (early_trip m b he c 1000).trans ((keeps_hostOps0 b hb _).trans rfl)

theorem framed : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h c main_arg0 rfl).trans (keeps m _ (by decide) c),
    (h c main_arg1 rfl).trans (keeps m _ (by decide) c), (h c main_arg2 rfl).trans (keeps m _ (by decide) c)⟩, sem_eq_zero_of_no_sems (by decide) r.2⟩) (run_fold m g)

end Cert.Proof.NmsRef
end
-- ==== Proof.Nms.Spec.lean ====
/-
  The mathematics of the suppression: of a list of scored boxes, best first, a box is dropped when an earlier kept
  box overlaps it too much; the first hundred kept places are counted.
-/
module
public import Idealize.ShloMosaic.PureOps.Ideal
@[expose] public section
noncomputable section
namespace Cert.Proof.Nms
open Idealize.ShloMosaic

/-- A box's area. -/
def area (a : Fin 4 → EReal) : EReal := max (0 : EReal) (a 2 - a 0) * max (0 : EReal) (a 3 - a 1)

/-- The area two boxes have in common. -/
def common (a b : Fin 4 → EReal) : EReal :=
  max (0 : EReal) (min (a 2) (b 2) - max (a 0) (b 0)) * max (0 : EReal) (min (a 3) (b 3) - max (a 1) (b 1))

/-- Their overlap: the common area as a part of the joint one. -/
def overlap (a b : Fin 4 → EReal) : EReal :=
  Ideal.div (common a b) (max (area a + area b - common a b) (Ideal.ofBits .f32 0x358637BD#32))

/-- Whether two boxes overlap too much. -/
def over (a b : Fin 4 → EReal) : BitVec 1 := FloatOps.cmpf (F := Ideal) (φ := .f32) .ogt (overlap a b) (Ideal.ofBits .f32 0x3F19999A#32)

/-- Whether a score counts. -/
def good (s : EReal) : BitVec 1 := FloatOps.cmpf (F := Ideal) (φ := .f32) .ogt s (Ideal.ofBits .f32 0x3DCCCCCD#32)

/-- Place `n` of the list. -/
abbrev place (n : Nat) : Fin 1000 := ⟨n % 1000, Nat.mod_lt _ (by decide)⟩

/-- The kept places after the first `n` boxes have dropped those behind them. -/
def keep (s : Fin 1000 → EReal) (B : Fin 1000 → Fin 4 → EReal) : Nat → Fin 1000 → BitVec 1
  | 0, j => good (s j)
  | n + 1, j => keep s B n j &&& ~~~(over (B (place n)) (B j) &&& BitVec.ofBool (decide (n < j.val)) &&& keep s B n (place n))

/-- The number of kept places. -/
def number (s : Fin 1000 → EReal) (B : Fin 1000 → Fin 4 → EReal) : Nat := ∑ j : Fin 1000, (keep s B 1000 j).toNat

/-- Whether slot `o` is below that number. -/
def slot (s : Fin 1000 → EReal) (B : Fin 1000 → Fin 4 → EReal) (o : Fin 100) : BitVec 1 := BitVec.ofBool (decide (o.val < number s B))

theorem number_le (s : Fin 1000 → EReal) (B : Fin 1000 → Fin 4 → EReal) : number s B ≤ 1000 := by
  unfold number
  refine (Finset.sum_le_card_nsmul _ _ 1 fun j _ => ?_).trans (by simp)
  have := (keep s B 1000 j).isLt
  omega

/-- The hundred at most, compared as words. -/
theorem slot_word (s : Fin 1000 → EReal) (B : Fin 1000 → Fin 4 → EReal) (o : Fin 100) :
    IntOp.cmpi .slt (BitVec.ofNat 32 o.val) (BitVec.ofNat 32 (min 100 (number s B))) = slot s B o := by
  have h : min 100 (number s B) ≤ 100 := Nat.min_le_left _ _
  have hi : o.val < number s B ↔ o.val < min 100 (number s B) := by omega
  unfold slot
  simp only [hi]
  generalize min 100 (number s B) = k at *
  show BitVec.ofBool (BitVec.slt _ _) = _
  refine congrArg BitVec.ofBool ?_
  rw [Bool.eq_iff_iff, BitVec.slt_iff_toInt_lt, decide_eq_true_iff, BitVec.toInt_eq_toNat_of_lt (by rw [BitVec.toNat_ofNat]; omega), BitVec.toInt_eq_toNat_of_lt (by rw [BitVec.toNat_ofNat]; omega),
    BitVec.toNat_ofNat, BitVec.toNat_ofNat]
  omega

end Cert.Proof.Nms
end
-- ==== Proof.Nms.Value.lean ====
/-
  The suppression kernel's values over the extended reals.
-/
module
public import proofs.«01_k».proof.Proof.Nms.Triple
public import proofs.«01_k».proof.Proof.Nms.Spec
public import Idealize.ShloMosaic.Lib.Pointwise
@[expose] public section
set_option maxRecDepth 16384
noncomputable section
namespace Cert.Proof.NmsI
open Cert.NmsIdeal
open Idealize.ShloMosaic Idealize.ShloMosaic.Tactic
open Facts₀ Facts

theorem hundred_bits : Ideal.ofBits .f32 0x42C80000#32 = ((100 : ℝ) : EReal) := by
  simp [Ideal.ofBits, Ideal.ieee]
  norm_cast
  norm_num

theorem low_bits : Ideal.ofBits .f32 0xFF800000#32 = (⊥ : EReal) := by simp [Ideal.ofBits, Ideal.ieee]

/-- A bit as a number. -/
def num (b : BitVec 1) : EReal := if b = 1#1 then 1 else 0

theorem num_nonneg (b : BitVec 1) : 0 ≤ num b := by
  unfold num; split <;> simp

theorem num_coe (b : BitVec 1) : num b = ((b.toNat : ℝ) : EReal) := by
  rcases (show b = 0#1 ∨ b = 1#1 by revert b; decide) with rfl | rfl <;> simp [num]

/-- The product with the table of ones turns the boxes over. -/
theorem turn_apply (T : FVec Ideal S1024x4 .f32) (E : FVec Ideal S1024x1024 .f32) (hE : ∀ i j : Fin 1024, E (ix2 i j) = if i = j then (1 : EReal) else 0) (k : Fin 4) (j : Fin 1024) :
    turn T E (ix2 k j) = T (ix2 j k) := by
  unfold turn
  pointwise
  rw [Finset.sum_eq_single j]
  · rw [hE, if_pos rfl, mul_one]
  · intro x _ hx
    rw [hE, if_neg hx, mul_zero]
  · simp

theorem areac_apply (T : FVec Ideal S1024x4 .f32) (i : Fin 1024) : areac T (ix2 i (0 : Fin 1)) = Nms.area fun k => T (ix2 i k) := by
  unfold areac col zf Nms.area
  pointwise

theorem arear_apply (R : FVec Ideal S4x1024 .f32) (j : Fin 1024) : arear R (ix2 (0 : Fin 1) j) = Nms.area fun k => R (ix2 k j) := by
  unfold arear row zf Nms.area
  pointwise

theorem inter_apply (T : FVec Ideal S1024x4 .f32) (R : FVec Ideal S4x1024 .f32) (lo : Nat) (h : lo + 64 ≤ 1024) (i : Fin 64) (j : Fin 1024) :
    inter T R lo h (ix2 i j) = Nms.common (fun k => T (ix2 (⟨lo + i.val, by omega⟩ : Fin 1024) k)) fun k => R (ix2 k j) := by
  unfold inter part wide col row zf Nms.common
  pointwise

theorem iou_apply (T : FVec Ideal S1024x4 .f32) (R : FVec Ideal S4x1024 .f32) (lo : Nat) (h : lo + 64 ≤ 1024) (i : Fin 64) (j : Fin 1024) :
    iou T R lo h (ix2 i j) = Nms.overlap (fun k => T (ix2 (⟨lo + i.val, by omega⟩ : Fin 1024) k)) fun k => R (ix2 k j) := by
  unfold iou part wide Nms.overlap
  pointwise
  rw [inter_apply, areac_apply, arear_apply]

theorem later (lo : Nat) (h : lo + 64 ≤ 1024) (i : Fin 64) (j : Fin 1024) :
    IntOp.cmpi .sgt (BitVec.ofNat 32 j.val) (IntOp.addi (BitVec.ofNat 32 i.val) (BitVec.ofNat 32 lo)) = BitVec.ofBool (decide (lo + i.val < j.val)) := by
  unfold IntOp.cmpi IntOp.addi
  refine congrArg BitVec.ofBool ?_
  rw [← BitVec.ofNat_add, Bool.eq_iff_iff, BitVec.slt_iff_toInt_lt, decide_eq_true_iff, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem sblk_apply (T : FVec Ideal S1024x4 .f32) (R : FVec Ideal S4x1024 .f32) (lo : Nat) (h : lo + 64 ≤ 1024) (i : Fin 64) (j : Fin 1024) :
    sblk T R lo h (ix2 i j) = num (Nms.over (fun k => T (ix2 (⟨lo + i.val, by omega⟩ : Fin 1024) k)) (fun k => R (ix2 k j)) &&& BitVec.ofBool (decide (lo + i.val < j.val))) := by
  unfold sblk Nms.over zf of num
  pointwise
  rw [iou_apply, later lo h]
  rfl

theorem stab_apply (T : FVec Ideal S1024x4 .f32) (R : FVec Ideal S4x1024 .f32) (i j : Fin 1024) :
    stab T R (ix2 i j) = num (Nms.over (fun k => T (ix2 i k)) (fun k => R (ix2 k j)) &&& BitVec.ofBool (decide (i.val < j.val))) := by
  have e : 64 * (i.val / 64) + i.val % 64 = i.val := Nat.div_add_mod _ _
  refine (sblk_apply T R (64 * (i.val / 64)) (by omega) (⟨i.val % 64, Nat.mod_lt _ (by decide)⟩ : Fin 64) j).trans ?_
  simp only [e]

theorem keep0_apply (ts : FVec Ideal S1x1x1024 .f32) (j : Fin 1024) :
    keep0 ts (ix2 (0 : Fin 1) j) = num (Nms.good (ts (ix3 (0 : Fin 1) (0 : Fin 1) j))) := by
  unfold keep0 Nms.good zf of num
  pointwise
  refine Eq.trans (b := num (BitVec.ofBool (decide (Ideal.ofBits .f32 0x3DCCCCCD#32 < ts (ix3 (0 : Fin 1) (0 : Fin 1) j))))) ?_ rfl
  by_cases h : Ideal.ofBits .f32 0x3DCCCCCD#32 < ts (ix3 (0 : Fin 1) (0 : Fin 1) j)
  · rw [if_pos h, decide_eq_true h]; rfl
  · rw [if_neg h, decide_eq_false h]; rfl

/-- The greatest of a row's entries taken at one place only, the others zero. -/
theorem fold_at (f : Fin 1024 → EReal) (n : Fin 1024) (h : 0 ≤ f n) :
    Finset.fold max (⊥ : EReal) (fun x : Fin 1024 => Scalar.select (IntOp.cmpi .eq (BitVec.ofNat 32 x.val) (BitVec.ofNat 32 n.val)) (f x) 0) Finset.univ = f n := by
  have hs : ∀ x : Fin 1024, Scalar.select (IntOp.cmpi .eq (BitVec.ofNat 32 x.val) (BitVec.ofNat 32 n.val)) (f x) (0 : EReal) = if x = n then f n else 0 := fun x => by
    by_cases e : x = n
    · subst e; simp [Scalar.select, IntOp.cmpi]
    · have : BitVec.ofNat 32 x.val ≠ BitVec.ofNat 32 n.val := fun q => e (Fin.ext (by
        have := congrArg BitVec.toNat q
        rw [BitVec.toNat_ofNat, BitVec.toNat_ofNat] at this
        omega))
      have h2 : (BitVec.ofNat 32 x.val == BitVec.ofNat 32 n.val) = false := beq_eq_false_iff_ne.2 this
      rw [if_neg e]
      simp [h2, Scalar.select, IntOp.cmpi]
  simp only [hs]
  apply le_antisymm
  · rw [Finset.fold_max_le]
    exact ⟨bot_le, fun x _ => by split <;> simp [h]⟩
  · rw [Finset.le_fold_max]
    exact Or.inr ⟨n, Finset.mem_univ _, by simp⟩

theorem sup_apply (n : Fin 1024) (x kv : FVec Ideal S1x1024 .f32) (h : 0 ≤ kv (ix2 (0 : Fin 1) n)) (j : Fin 1024) :
    sup (BitVec.ofNat 32 n.val) x kv (ix2 (0 : Fin 1) j) = kv (ix2 (0 : Fin 1) j) * (1 - kv (ix2 (0 : Fin 1) n) * x (ix2 (0 : Fin 1) j)) := by
  unfold sup zf of
  pointwise
  rw [low_bits, fold_at (fun x => kv (ix2 (0 : Fin 1) x)) n h]

theorem num_step (a b c : BitVec 1) : num a * (1 - num b * num c) = num (a &&& ~~~(c &&& b)) := by
  have h : (1 : EReal) - 1 = 0 := by rw [← EReal.coe_one, ← EReal.coe_sub]; simp
  rcases (show a = 0#1 ∨ a = 1#1 by revert a; decide) with rfl | rfl <;> rcases (show b = 0#1 ∨ b = 1#1 by revert b; decide) with rfl | rfl <;>
    rcases (show c = 0#1 ∨ c = 1#1 by revert c; decide) with rfl | rfl <;> simp [num, h]

/-- The reals inside the extended reals, as a map that keeps sums. -/
def coeHom : ℝ →+ EReal := { toFun := fun x => (x : EReal), map_zero' := EReal.coe_zero, map_add' := EReal.coe_add }

/-- A place of the list among the padded ones. -/
def up (j : Fin 1000) : Fin 1024 := ⟨j.val, by omega⟩

section
variable (T : FVec Ideal S1024x4 .f32) (R : FVec Ideal S4x1024 .f32) (hR : ∀ k j, R (ix2 k j) = T (ix2 j k)) (ts : FVec Ideal S1x1x1024 .f32)
  (s : Fin 1000 → EReal) (B : Fin 1000 → Fin 4 → EReal)
  (hs : ∀ j : Fin 1000, ts (ix3 (0 : Fin 1) (0 : Fin 1) (up j)) = s j)
  (hp : ∀ j : Fin 1024, 1000 ≤ j.val → Nms.good (ts (ix3 (0 : Fin 1) (0 : Fin 1) j)) = 0#1)
  (hB : ∀ (j : Fin 1000) (k : Fin 4), T (ix2 (up j) k) = B j k)

include hR hs hp hB in
/-- The kernel's kept boxes are the kept places; the padding is never kept. -/
theorem kept_apply : ∀ n, n ≤ 1000 → ∀ j : Fin 1024, kept (stab T R) ts n (ix2 (0 : Fin 1) j) = num (if h : j.val < 1000 then Nms.keep s B n ⟨j.val, h⟩ else 0#1)
  | 0, _, j => by
    refine (keep0_apply ts j).trans (congrArg num ?_)
    split
    · next h => exact congrArg Nms.good (hs ⟨j.val, h⟩)
    · next h => exact hp j (by omega)
  | n + 1, hn, j => by
    have ih := kept_apply n (by omega)
    have h1 : n < 1024 := by omega
    have hk : kept (stab T R) ts n (ix2 (0 : Fin 1) (⟨n, h1⟩ : Fin 1024)) = num (Nms.keep s B n (Nms.place n)) := by
      rw [ih, dif_pos (show n < 1000 by omega)]
      exact congrArg (fun p => num (Nms.keep s B n p)) (Fin.ext (Nat.mod_eq_of_lt (show n < 1000 by omega)).symm)
    refine (sup_apply ⟨n, h1⟩ (srow (stab T R) n) (kept (stab T R) ts n) (by rw [hk]; exact num_nonneg _) j).trans ?_
    have hx : srow (stab T R) n (ix2 (0 : Fin 1) j) = num (Nms.over (fun k => T (ix2 (⟨n, h1⟩ : Fin 1024) k)) (fun k => R (ix2 k j)) &&& BitVec.ofBool (decide (n < j.val))) := by
      refine Eq.trans (congrArg (fun i => stab T R (ix2 i j)) (Fin.ext (Nat.mod_eq_of_lt h1) : (⟨n % 1024, Nat.mod_lt _ (by decide)⟩ : Fin 1024) = ⟨n, h1⟩)) ?_
      exact stab_apply T R _ _
    rw [hx, hk, ih, num_step]
    refine congrArg num ?_
    split
    · next h =>
      have e1 : (fun k => T (ix2 (⟨n, h1⟩ : Fin 1024) k)) = B (Nms.place n) := by
        funext k
        refine Eq.trans ?_ (hB _ k)
        exact congrArg (fun p => T (ix2 p k)) (Fin.ext (Nat.mod_eq_of_lt (show n < 1000 by omega)).symm)
      have e2 : (fun k => R (ix2 k j)) = B ⟨j.val, h⟩ := by
        funext k
        exact (hR k j).trans (hB ⟨j.val, h⟩ k)
      rw [e1, e2]
      rfl
    · simp

include hR hs hp hB in
theorem total_kept : total (kept (stab T R) ts 1000) (ix1 (0 : Fin 1)) = ((Nms.number s B : ℝ) : EReal) := by
  have e : total (kept (stab T R) ts 1000) (ix1 (0 : Fin 1)) = ∑ j : Fin 1024, kept (stab T R) ts 1000 (ix2 (0 : Fin 1) j) := by
    unfold total
    generalize kept (stab T R) ts 1000 = kv
    pointwise
  rw [e]
  simp only [kept_apply T R hR ts s B hs hp hB 1000 le_rfl, num_coe]
  refine (map_sum coeHom _ _).symm.trans (congrArg _ ?_)
  unfold Nms.number
  rw [show (1024 : ℕ) = 1000 + 24 from rfl, Fin.sum_univ_add]
  rw [Finset.sum_eq_zero (s := Finset.univ) (f := fun i : Fin 24 => _)]
  · push_cast
    rw [add_zero]
    refine Finset.sum_congr rfl fun j _ => ?_
    rw [dif_pos (show (Fin.castAdd 24 j).val < 1000 from j.isLt)]
    rfl
  · intro i _
    rw [dif_neg (by show ¬ (1000 + i.val < 1000); omega)]
    exact Nat.cast_zero
end

theorem count_apply (s : FVec Ideal S1 .f32) (k : Nat) (hk : k ≤ 1000) (h : s (ix1 (0 : Fin 1)) = ((k : ℝ) : EReal)) : count s (ix2 (0 : Fin 1) (0 : Fin 1)) = BitVec.ofNat 32 (min 100 k) := by
  unfold count
  pointwise
  rw [h, hundred_bits]
  show Ideal.fptosi 32 _ = _
  have e : min ((100 : ℝ) : EReal) ((k : ℝ) : EReal) = (((min 100 k : ℕ) : ℝ) : EReal) := by
    rw [← (EReal.coe_strictMono.monotone.map_min : ((min (100:ℝ) (k:ℝ) : ℝ) : EReal) = _)]; push_cast; rfl
  rw [e]
  have hm : min 100 k ≤ 100 := Nat.min_le_left _ _
  generalize min 100 k = q at *
  unfold Ideal.fptosi
  rw [Ideal.toIntClamped_coe, if_pos (by positivity), Int.floor_natCast]
  rw [show max (-((2 ^ (32 - 1) : ℕ) : ℤ)) (min (((2 ^ (32 - 1) : ℕ) : ℤ) - 1) (q : ℤ)) = (q : ℤ) by norm_num; omega]
  exact BitVec.ofInt_natCast 32 q

theorem slots_apply (n : IVec S1x1 32) (o : Fin 100) : slots n (ix2 o (0 : Fin 1)) = IntOp.cmpi .slt (BitVec.ofNat 32 o.val) (n (ix2 (0 : Fin 1) (0 : Fin 1))) := by
  unfold slots
  pointwise

theorem oks_apply (n : IVec S1x1 32) (tc : FVec Ideal S1x1024x1 .f32) (o : Fin 100) : oks n tc (ix3 (0 : Fin 1) o (0 : Fin 1)) =
    Scalar.select (slots n (ix2 o (0 : Fin 1))) (tc (ix3 (0 : Fin 1) (⟨o.val, by omega⟩ : Fin 1024) (0 : Fin 1))) (Ideal.ofBits .f32 0xBF800000#32) := by
  unfold oks
  pointwise

theorem okc_apply (n : IVec S1x1 32) (k : FVec Ideal S100x1 .f32) (o : Fin 100) : okc n k (ix3 (0 : Fin 1) o (0 : Fin 1)) =
    Scalar.select (slots n (ix2 o (0 : Fin 1))) (k (ix2 o (0 : Fin 1))) (Ideal.ofBits .f32 0xBF800000#32) := by
  unfold okc
  pointwise

theorem okb_apply (n : IVec S1x1 32) (b : FVec Ideal S100x4 .f32) (o : Fin 100) (k : Fin 4) : okb n b (ix3 (0 : Fin 1) o k) =
    Scalar.select (slots n (ix2 o (0 : Fin 1))) (b (ix2 o k)) 0 := by
  unfold okb zf of
  pointwise

end Cert.Proof.NmsI
end
-- ==== Proof.Nms.Out.lean ====
/-
  The suppression program's four results, each as one function of the arguments.
-/
module
public import proofs.«01_k».proof.Proof.Nms.Value
public import proofs.«01_k».proof.Proof.Nms.Run
public import Idealize.ShloMosaic.Lib.Pipeline.ValueKit
public import Idealize.ShloMosaic.Lib.StableHlo.ReadAt
public import Idealize.ShloMosaic.Lib.Claim
@[expose] public section
set_option maxRecDepth 16384
noncomputable section
namespace Cert.Proof.NmsI
open Cert.NmsIdeal Cert.NmsIdeal.Gen
open Idealize.ShloMosaic Idealize.ShloMosaic.TcCoe Idealize.SL.Sem Idealize.ShloMosaic.Tactic

variable (m : (ℓ : Loc nD τ sig) → Buf (Elt Ideal) ℓ)

/-- The top scores, the list, the boxes and the classes. -/
abbrev tops (c : Dev nD) : FVec Ideal S4x1000 .f32 := (best m c).1
abbrev list (c : Dev nD) : IVec S4x1000 32 := (best m c).2
abbrev bxs (c : Dev nD) : FVec Ideal S4x5000x4 .f32 := m ((c : Thread nD τ).loc main_arg1)
abbrev cls (c : Dev nD) : FVec Ideal S4x5000x1 .f32 := m ((c : Thread nD τ).loc main_arg2)

/-! ## The arrays the region finds -/

theorem flat (x : FVec Ideal S4x5000x1 .f32) : shapeCast S4x5000 x shapeCasts_S4x5000x1_S4x5000 = fun i => x (ix3 (i 0 : Fin 4) (i 1 : Fin 5000) (0 : Fin 1)) := by
  funext i
  rw [show i = ix2 (i 0 : Fin 4) (i 1 : Fin 5000) from by funext a; fin_cases a <;> rfl]
  pointwise

theorem V_row (c : Dev nD) (b : Fin 4) (j : Fin 1000) : (V m c main_v2 : FVec Ideal S4x1x1024 .f32) (ix3 b (0 : Fin 1) (⟨j.val, by omega⟩ : Fin 1024)) = tops m c (ix2 b j) := by
  generalize hz : tops m c (ix2 b j) = z
  unfold V
  after_reads_at
  refine Eq.trans ?_ hz
  exact congrArg (fun x : FVec Ideal S4x5000 .f32 => (Host.topK S4x1000 1 (FloatOps.cmpfTotal .gt) x sliceFits_S4x5000_S4x1000).1 (ix2 b j)) (flat _).symm

theorem V_row_pad (c : Dev nD) (b : Fin 4) (j : Fin 1024) (h : 1000 ≤ j.val) : (V m c main_v2 : FVec Ideal S4x1x1024 .f32) (ix3 b (0 : Fin 1) j) = Ideal.ofBits .f32 0xBF800000#32 := by
  unfold V
  unfold_abbrev_sides
  after_reads_at
  rw [dif_neg (by omega)]
  rfl

theorem V_col (c : Dev nD) (b : Fin 4) (j : Fin 1000) : (V m c main_v3 : FVec Ideal S4x1024x1 .f32) (ix3 b (⟨j.val, by omega⟩ : Fin 1024) (0 : Fin 1)) = tops m c (ix2 b j) := by
  generalize hz : tops m c (ix2 b j) = z
  unfold V
  after_reads_at
  refine Eq.trans ?_ hz
  exact congrArg (fun x : FVec Ideal S4x5000 .f32 => (Host.topK S4x1000 1 (FloatOps.cmpfTotal .gt) x sliceFits_S4x5000_S4x1000).1 (ix2 b j)) (flat _).symm

theorem V_eye (c : Dev nD) (i j : Fin 1024) : (V m c main_v10 : FVec Ideal S1024x1024 .f32) (ix2 i j) = if i = j then (1 : EReal) else 0 := by
  unfold V
  unfold_abbrev_sides
  after_reads_at
  have e0 : IntOp.addi (BitVec.ofNat 32 i.val) 0#32 = BitVec.ofNat 32 i.val := BitVec.add_zero _
  rw [e0]
  by_cases h : i = j
  · subst h
    rw [if_pos rfl, show IntOp.cmpi .eq (BitVec.ofNat 32 i.val) (BitVec.ofNat 32 i.val) = 1#1 by simp [IntOp.cmpi]]
    show (((1#1 : BitVec 1).toNat : ℝ) : EReal) = 1
    simp
  · have h1 : BitVec.ofNat 32 i.val ≠ BitVec.ofNat 32 j.val := fun q => h (Fin.ext (by
      have := congrArg BitVec.toNat q
      rw [BitVec.toNat_ofNat, BitVec.toNat_ofNat] at this
      omega))
    have h2 : (BitVec.ofNat 32 i.val == BitVec.ofNat 32 j.val) = false := beq_eq_false_iff_ne.2 h1
    rw [if_neg h, show IntOp.cmpi .eq (BitVec.ofNat 32 i.val) (BitVec.ofNat 32 j.val) = 0#1 by simp [IntOp.cmpi, h2]]
    show (((0#1 : BitVec 1).toNat : ℝ) : EReal) = 0
    simp

/-! ## The blocks -/

variable (c : Dev nD) (t : Fin cfg0.N)

/-- The point's image. -/
abbrev img : Fin 4 := ⟨(grid0.coords t 0).val, (grid0.coords t 0).isLt⟩

theorem blk_row (j : Fin 1024) : (iblk m c 0 t : FVec Ideal S1x1x1024 .f32) (ix3 (0 : Fin 1) (0 : Fin 1) j) = (V m c main_v2 : FVec Ideal S4x1x1024 .f32) (ix3 (img t) (0 : Fin 1) j) := by
  have e : ∀ t, win0_0.index t = ![(grid0.coords t 0).val, 0, 0] := by decide +kernel
  blk_simp [iblk, e]
  refine congrArg (V m c main_v2) ?_
  funext a
  fin_cases a <;> (apply Fin.ext; blk_simp [e]; try simp)

theorem blk_col (j : Fin 1024) : (iblk m c 1 t : FVec Ideal S1x1024x1 .f32) (ix3 (0 : Fin 1) j (0 : Fin 1)) = (V m c main_v3 : FVec Ideal S4x1024x1 .f32) (ix3 (img t) j (0 : Fin 1)) := by
  have e : ∀ t, win0_1.index t = ![(grid0.coords t 0).val, 0, 0] := by decide +kernel
  blk_simp [iblk, e]
  refine congrArg (V m c main_v3) ?_
  funext a
  fin_cases a <;> (apply Fin.ext; blk_simp [e]; try simp)

theorem blk_box (n : Fin 5000) (k : Fin 4) : (iblk m c 3 t : FVec Ideal S1x5000x4 .f32) (ix3 (0 : Fin 1) n k) = bxs m c (ix3 (img t) n k) := by
  have e : ∀ t, win0_3.index t = ![(grid0.coords t 0).val, 0, 0] := by decide +kernel
  blk_simp [iblk, e]
  rw [V_main_arg1]
  refine congrArg (m ((c : Thread nD τ).loc main_arg1)) ?_
  funext a
  fin_cases a <;> (apply Fin.ext; blk_simp [e]; try simp)

theorem blk_cls (n : Fin 5000) : (iblk m c 4 t : FVec Ideal S1x5000x1 .f32) (ix3 (0 : Fin 1) n (0 : Fin 1)) = cls m c (ix3 (img t) n (0 : Fin 1)) := by
  have e : ∀ t, win0_4.index t = ![(grid0.coords t 0).val, 0, 0] := by decide +kernel
  blk_simp [iblk, e]
  rw [V_main_arg2]
  refine congrArg (m ((c : Thread nD τ).loc main_arg2)) ?_
  funext a
  fin_cases a <;> (apply Fin.ext; blk_simp [e]; try simp)

theorem blk_eye (i j : Fin 1024) : (iblk m c 5 t : FVec Ideal S1024x1024 .f32) (ix2 i j) = if i = j then (1 : EReal) else 0 := by
  have e : ∀ t, win0_5.index t = ![0, 0] := by decide +kernel
  refine Eq.trans ?_ (V_eye m c i j)
  blk_simp [iblk, e]
  refine congrArg (V m c main_v10) ?_
  funext a
  fin_cases a <;> (apply Fin.ext; blk_simp [e]; try simp)

/-! ## The results -/

/-- An image's top scores and its listed boxes. -/
def sc (b : Fin 4) : Fin 1000 → EReal := fun j => tops m c (ix2 b j)
def bx (b : Fin 4) : Fin 1000 → Fin 4 → EReal := fun j k => bxs m c (ix3 b (pick (list m c (ix2 b j))) k)

theorem low_bad : Nms.good (Ideal.ofBits .f32 0xBF800000#32) = 0#1 := by
  have h : ¬ Ideal.ofBits .f32 0x3DCCCCCD#32 < Ideal.ofBits .f32 0xBF800000#32 := by
    simp [Ideal.ofBits, Ideal.ieee]
    refine le_trans (b := (0 : EReal)) ?_ ?_
    · norm_cast
      norm_num
    · norm_cast
      positivity
  exact congrArg BitVec.ofBool (decide_eq_false h)

theorem cnt_val : cnt (iblk m c 0 t) (iblk m c 2 t) (iblk m c 3 t) (iblk m c 5 t) (ix2 (0 : Fin 1) (0 : Fin 1)) = BitVec.ofNat 32 (min 100 (Nms.number (sc m c (img t)) (bx m c (img t)))) := by
  unfold cnt
  refine count_apply _ _ (Nms.number_le _ _) (total_kept _ _ (turn_apply _ _ (blk_eye m c t)) _ _ _ (fun j => ?_) (fun j h => ?_) fun j k => ?_)
  · exact (blk_row m c t _).trans (V_row m c _ j)
  · rw [blk_row, V_row_pad m c _ j h]; exact low_bad
  · refine (if_pos j.isLt).trans ((blk_box m c t _ k).trans ?_)
    refine congrArg (fun w => bxs m c (ix3 (img t) (pick w) k)) ((word_entry m c t _).trans ?_)
    exact congrArg (fun n => list m c (ix2 (img t) n)) (Fin.ext (Nat.mod_eq_of_lt j.isLt))

theorem slots_val (o : Fin 100) : slots (cnt (iblk m c 0 t) (iblk m c 2 t) (iblk m c 3 t) (iblk m c 5 t)) (ix2 o (0 : Fin 1)) = Nms.slot (sc m c (img t)) (bx m c (img t)) o := by
  rw [slots_apply, cnt_val, Nms.slot_word]

def oscores : S4x100x1.Idx → EReal := fun y => Scalar.select (Nms.slot (sc m c (y 0)) (bx m c (y 0)) (y 1)) (tops m c (ix2 (y 0 : Fin 4) (⟨(y 1).val, by have h : (y 1).val < 100 := (y 1).isLt; omega⟩ : Fin 1000))) (Ideal.ofBits .f32 0xBF800000#32)
def oclasses : S4x100x1.Idx → EReal := fun y => Scalar.select (Nms.slot (sc m c (y 0)) (bx m c (y 0)) (y 1)) (cls m c (ix3 (y 0 : Fin 4) (pick (list m c (ix2 (y 0 : Fin 4) (⟨(y 1).val, by have h : (y 1).val < 100 := (y 1).isLt; omega⟩ : Fin 1000)))) (0 : Fin 1))) (Ideal.ofBits .f32 0xBF800000#32)
def ocount : S4x1.Idx → BitVec 32 := fun y => BitVec.ofNat 32 (min 100 (Nms.number (sc m c (y 0)) (bx m c (y 0))))
def oboxes : S4x100x4.Idx → EReal := fun y => Scalar.select (Nms.slot (sc m c (y 0)) (bx m c (y 0)) (y 1)) (bxs m c (ix3 (y 0 : Fin 4) (pick (list m c (ix2 (y 0 : Fin 4) (⟨(y 1).val, by have h : (y 1).val < 100 := (y 1).isLt; omega⟩ : Fin 1000)))) (y 2 : Fin 4))) 0

theorem ix3_one (y : S1x100x1.Idx) : y = ix3 (0 : Fin 1) (y 1 : Fin 100) (0 : Fin 1) := by
  funext a
  fin_cases a
  · exact Fin.ext (by have h : (y 0).val < 1 := (y 0).isLt; show (y 0).val = 0; omega)
  · rfl
  · exact Fin.ext (by have h : (y 2).val < 1 := (y 2).isLt; show (y 2).val = 0; omega)

theorem ix3_row (y : S1x100x4.Idx) : y = ix3 (0 : Fin 1) (y 1 : Fin 100) (y 2 : Fin 4) := by
  funext a
  fin_cases a
  · exact Fin.ext (by have h : (y 0).val < 1 := (y 0).isLt; show (y 0).val = 0; omega)
  · rfl
  · rfl

theorem listed_word (o : Fin 100) : word (iblk m c 2 t) o.val = list m c (ix2 (img t) (⟨o.val, by omega⟩ : Fin 1000)) :=
  (word_entry m c t _).trans (congrArg (fun n => list m c (ix2 (img t) n)) (Fin.ext (Nat.mod_eq_of_lt (by omega))))

theorem oks_at (n : IVec S1x1 32) (tc : FVec Ideal S1x1024x1 .f32) (y : S1x100x1.Idx) : (oks n tc y : EReal) =
    Scalar.select (slots n (ix2 (y 1 : Fin 100) (0 : Fin 1))) (tc (ix3 (0 : Fin 1) (⟨(y 1).val, by have h : (y 1).val < 100 := (y 1).isLt; omega⟩ : Fin 1024) (0 : Fin 1))) (Ideal.ofBits .f32 0xBF800000#32) :=
  (congrArg (oks n tc) (ix3_one y)).trans (oks_apply n tc (y 1))

theorem okc_at (n : IVec S1x1 32) (k : FVec Ideal S100x1 .f32) (y : S1x100x1.Idx) : (okc n k y : EReal) =
    Scalar.select (slots n (ix2 (y 1 : Fin 100) (0 : Fin 1))) (k (ix2 (y 1 : Fin 100) (0 : Fin 1))) (Ideal.ofBits .f32 0xBF800000#32) :=
  (congrArg (okc n k) (ix3_one y)).trans (okc_apply n k (y 1))

theorem okb_at (n : IVec S1x1 32) (k : FVec Ideal S100x4 .f32) (y : S1x100x4.Idx) : (okb n k y : EReal) =
    Scalar.select (slots n (ix2 (y 1 : Fin 100) (0 : Fin 1))) (k (ix2 (y 1 : Fin 100) (y 2 : Fin 4))) 0 :=
  (congrArg (okb n k) (ix3_row y)).trans (okb_apply n k (y 1) (y 2))

theorem topc_at (o : Fin 100) : topc (F := Ideal) (classes (iblk m c 4 t) (iblk m c 2 t) 1000) (ix2 o (0 : Fin 1))
    = cls m c (ix3 (img t) (pick (list m c (ix2 (img t) (⟨o.val, by omega⟩ : Fin 1000)))) (0 : Fin 1)) := by
  refine (if_pos ⟨show o.val < 1000 by omega, o.isLt⟩).trans ((blk_cls m c t _).trans ?_)
  exact congrArg (fun w => cls m c (ix3 (img t) (pick w) (0 : Fin 1))) (listed_word m c t o)

theorem topb_at (o : Fin 100) (k : Fin 4) : topb (F := Ideal) (boxes (iblk m c 3 t) (iblk m c 2 t) 1000) (ix2 o k)
    = bxs m c (ix3 (img t) (pick (list m c (ix2 (img t) (⟨o.val, by omega⟩ : Fin 1000)))) k) := by
  refine (if_pos (show o.val < 1000 by omega)).trans ((blk_box m c t _ k).trans ?_)
  exact congrArg (fun w => bxs m c (ix3 (img t) (pick w) k)) (listed_word m c t o)

theorem col_at (o : Fin 100) : (iblk m c 1 t : FVec Ideal S1x1024x1 .f32) (ix3 (0 : Fin 1) (⟨o.val, by omega⟩ : Fin 1024) (0 : Fin 1)) = tops m c (ix2 (img t) (⟨o.val, by omega⟩ : Fin 1000)) :=
  (blk_col m c t _).trans (V_col m c (img t) (⟨o.val, by omega⟩ : Fin 1000))

theorem pay_scores (y : S1x100x1.Idx) : (oks (F := Ideal) (cnt (iblk m c 0 t) (iblk m c 2 t) (iblk m c 3 t) (iblk m c 5 t)) (iblk m c 1 t) y : EReal) = oscores m c (ix3 (img t) (y 1 : Fin 100) (0 : Fin 1)) := by
  refine (oks_at _ _ y).trans ?_
  rw [slots_val m c t (y 1)]
  exact congrArg (fun v => Scalar.select (Nms.slot (sc m c (img t)) (bx m c (img t)) (y 1)) v (Ideal.ofBits .f32 0xBF800000#32)) (col_at m c t (y 1))

theorem pay_classes (y : S1x100x1.Idx) : (okc (F := Ideal) (cnt (iblk m c 0 t) (iblk m c 2 t) (iblk m c 3 t) (iblk m c 5 t)) (topc (classes (iblk m c 4 t) (iblk m c 2 t) 1000)) y : EReal) = oclasses m c (ix3 (img t) (y 1 : Fin 100) (0 : Fin 1)) := by
  refine (okc_at _ _ y).trans ?_
  rw [slots_val m c t (y 1)]
  exact congrArg (fun v => Scalar.select (Nms.slot (sc m c (img t)) (bx m c (img t)) (y 1)) v (Ideal.ofBits .f32 0xBF800000#32)) (topc_at m c t (y 1))

theorem pay_boxes (y : S1x100x4.Idx) : (okb (F := Ideal) (cnt (iblk m c 0 t) (iblk m c 2 t) (iblk m c 3 t) (iblk m c 5 t)) (topb (boxes (iblk m c 3 t) (iblk m c 2 t) 1000)) y : EReal) = oboxes m c (ix3 (img t) (y 1 : Fin 100) (y 2 : Fin 4)) := by
  refine (okb_at _ _ y).trans ?_
  rw [slots_val m c t (y 1)]
  exact congrArg (fun v => Scalar.select (Nms.slot (sc m c (img t)) (bx m c (img t)) (y 1)) v (0 : EReal)) (topb_at m c t (y 1) (y 2))

theorem arr_scores : (dats m 0 c).arrAt 6 (cfgs 0).N = oscores m c := by
  have e : ∀ t, win0_6.index t = ![(grid0.coords t 0).val, 0, 0] := by decide +kernel
  refine (dats m 0 c).arrAt_eq_of_covers 6 _ (by decide +kernel) fun t hf y => ?_
  blk_simp
  rw [after_6]
  refine (pay_scores m c t y).trans ?_
  refine congrArg (oscores m c) ?_
  funext a
  fin_cases a <;> (apply Fin.ext; blk_simp [e]; try simp)

theorem arr_classes : (dats m 0 c).arrAt 7 (cfgs 0).N = oclasses m c := by
  have e : ∀ t, win0_7.index t = ![(grid0.coords t 0).val, 0, 0] := by decide +kernel
  refine (dats m 0 c).arrAt_eq_of_covers 7 _ (by decide +kernel) fun t hf y => ?_
  blk_simp
  rw [after_7]
  refine (pay_classes m c t y).trans ?_
  refine congrArg (oclasses m c) ?_
  funext a
  fin_cases a <;> (apply Fin.ext; blk_simp [e]; try simp)

theorem arr_boxes : (dats m 0 c).arrAt 8 (cfgs 0).N = oboxes m c := by
  have e : ∀ t, win0_8.index t = ![(grid0.coords t 0).val, 0, 0] := by decide +kernel
  refine (dats m 0 c).arrAt_eq_of_covers 8 _ (by decide +kernel) fun t hf y => ?_
  blk_simp
  rw [after_8]
  refine (pay_boxes m c t y).trans ?_
  refine congrArg (oboxes m c) ?_
  funext a
  fin_cases a <;> (apply Fin.ext; blk_simp [e]; try simp)

/-- The counts' array from what a run leaves. -/
theorem arr_count (G : IVec S4x1 32) (hG : ∀ (u : Fin cfg0.N) (y : S4x1.Idx), (y 0).val = (grid0.coords u 0).val → G y = cntOf m c u (ix2 0 0)) : G = ocount m c := by
  funext y
  have h4 : (y 0).val < 4 := (y 0).isLt
  have hy : (y 0).val = (grid0.coords (⟨(y 0).val, h4⟩ : Fin cfg0.N) 0).val := (coords_val _).symm
  refine (hG ⟨(y 0).val, h4⟩ y hy).trans ((cnt_val m c _).trans ?_)
  have hi : img (⟨(y 0).val, h4⟩ : Fin cfg0.N) = (y 0 : Fin 4) := Fin.ext hy.symm
  exact congrArg (fun b => BitVec.ofNat 32 (min 100 (Nms.number (sc m c b) (bx m c b)))) hi

end Cert.Proof.NmsI
end
-- ==== Proof.Nms.RefVal.lean ====
/-
  The suppression reference's stretches of operations, read at an index.
-/
module
public import proofs.«01_k».proof.Proof.Nms.Spec
public import proofs.«01_k».proof.Proof.Nms.Keep
public import Idealize.ShloMosaic.Lib.Pointwise
public import Idealize.ShloMosaic.Lib.StableHlo.ReadAt
@[expose] public section
set_option maxRecDepth 16384
noncomputable section
namespace Cert.Proof.NmsRef
open Cert.NmsRefIdeal Cert.NmsRefIdeal.Gen Cert.NmsRefIdeal.Value
open Idealize.ShloMosaic Idealize.ShloMosaic.TcCoe Idealize.SL.Sem Idealize.ShloMosaic.Tactic
open Idealize.ShloMosaic.StableHlo

variable (V : Valuation τ sig (Elt Ideal))

/-- The table of overlaps, the places and the kept boxes that the loop carries. -/
abbrev ov : IVec S4x1000x1000 1 := V (Proc.devRef .tc main_v57_0)
abbrev io : IVec S1000 32 := V (Proc.devRef .tc main_v57_1)
abbrev at3 : IVec S_ 32 := V (Proc.devRef .tc main_v57_3)
abbrev kp : IVec S4x1000 1 := V (Proc.devRef .tc main_v57_4)
abbrev sl : IVec S4x100x1 1 := V (Proc.devRef .tc main_v68)
abbrev tb : FVec Ideal S4x1000x4 .f32 := V (Proc.devRef .tc main_v2)
abbrev ls : IVec S4x1000 32 := V (Proc.devRef .tc main_indices)
abbrev best : FVec Ideal S4x1000 .f32 × IVec S4x1000 32 :=
  Host.topK S4x1000 1 (FloatOps.cmpfTotal .gt) (shapeCast S4x5000 (V (Proc.devRef .tc main_arg0) : FVec Ideal S4x5000x1 .f32) shapeCasts_S4x5000x1_S4x5000) sliceFits_S4x5000_S4x1000
abbrev bxs : FVec Ideal S4x5000x4 .f32 := V (Proc.devRef .tc main_arg1)
abbrev cls : FVec Ideal S4x5000x1 .f32 := V (Proc.devRef .tc main_arg2)
abbrev tc : FVec Ideal S4x1000x1 .f32 := V (Proc.devRef .tc main_v4)

theorem not_negative (w : BitVec 32) (h : w.toNat < 5000) : Scalar.select (IntOp.cmpi .slt w 0#32) (IntOp.addi w 5000#32) w = w := by
  have hs : BitVec.slt w 0#32 = false := by
    rw [← Bool.not_eq_true, BitVec.slt_iff_toInt_lt, BitVec.toInt_eq_toNat_of_lt (by omega)]; simp
  simp [IntOp.cmpi, hs, Scalar.select]

/-- The gather of `take_along_axis`: row `idx` of the same image, read signed and clamped. -/
theorem gather_box (x0 : FVec Ideal S4x5000x4 .f32) (idx : IVec S4x1000x1 32) (b : Fin 4) (n : Fin 1000) (k : Fin 4) :
    Host.gather gather_S4x5000x4_S4x1000x1_S4x1000x4_2_1_0_0_1_2_114 x0 idx (ix3 b n k)
      = x0 (ix3 b (⟨min (idx (ix3 b n (0 : Fin 1))).toInt.toNat 4999, by omega⟩ : Fin 5000) k) := by
  unfold Host.gather
  congr 1
  funext a
  refine Fin.ext ?_
  show GatherDims.start _ _ idx a + GatherDims.batchCoord _ _ a + GatherDims.offCoord _ _ a = _
  set d := gather_S4x5000x4_S4x1000x1_S4x1000x4_2_1_0_0_1_2_114 with hd
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [hd, gather_S4x5000x4_S4x1000x1_S4x1000x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b n k) ⟨List.idxOf (1 : Fin 3) d.startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  · have h1 : GatherDims.start d (ix3 b n k) idx 2 = 0 := by
      unfold GatherDims.start; exact dif_neg (by simp [hd, gather_S4x5000x4_S4x1000x1_S4x1000x4_2_1_0_0_1_2_114])
    have h2 : GatherDims.batchCoord d (ix3 b n k) 2 = 0 :=
      GatherDims.batchCoord_eq_zero _ _ _ (fun h => by simp [hd, gather_S4x5000x4_S4x1000x1_S4x1000x4_2_1_0_0_1_2_114] at h)
    have h3 : GatherDims.offCoord d (ix3 b n k) 2 = k.val := by rfl
    show GatherDims.start d (ix3 b n k) idx 2 + GatherDims.batchCoord d (ix3 b n k) 2 + GatherDims.offCoord d (ix3 b n k) 2 = k.val
    rw [h1, h2, h3]; omega

/-- The gather of `take_along_axis`: row `idx` of the same image, read signed and clamped. -/
theorem gather_cls (x0 : FVec Ideal S4x5000x1 .f32) (idx : IVec S4x1000x1 32) (b : Fin 4) (n : Fin 1000) (k : Fin 1) :
    Host.gather gather_S4x5000x1_S4x1000x1_S4x1000x1_2_1_0_0_1_2_111 x0 idx (ix3 b n k)
      = x0 (ix3 b (⟨min (idx (ix3 b n (0 : Fin 1))).toInt.toNat 4999, by omega⟩ : Fin 5000) k) := by
  unfold Host.gather
  congr 1
  funext a
  refine Fin.ext ?_
  show GatherDims.start _ _ idx a + GatherDims.batchCoord _ _ a + GatherDims.offCoord _ _ a = _
  set d := gather_S4x5000x1_S4x1000x1_S4x1000x1_2_1_0_0_1_2_111 with hd
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [hd, gather_S4x5000x1_S4x1000x1_S4x1000x1_2_1_0_0_1_2_111] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b n k) ⟨List.idxOf (1 : Fin 3) d.startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  · have h1 : GatherDims.start d (ix3 b n k) idx 2 = 0 := by
      unfold GatherDims.start; exact dif_neg (by simp [hd, gather_S4x5000x1_S4x1000x1_S4x1000x1_2_1_0_0_1_2_111])
    have h2 : GatherDims.batchCoord d (ix3 b n k) 2 = 0 :=
      GatherDims.batchCoord_eq_zero _ _ _ (fun h => by simp [hd, gather_S4x5000x1_S4x1000x1_S4x1000x1_2_1_0_0_1_2_111] at h)
    have h3 : GatherDims.offCoord d (ix3 b n k) 2 = k.val := by rfl
    show GatherDims.start d (ix3 b n k) idx 2 + GatherDims.batchCoord d (ix3 b n k) 2 + GatherDims.offCoord d (ix3 b n k) 2 = k.val
    rw [h1, h2, h3]; omega

/-- A row of one entry folded. -/
theorem fold_one (f : Fin 1 → BitVec 1) (h : f 0 = 1#1) : Finset.fold IntOp.andi (1#1) f Finset.univ = 1#1 := by
  have e : (Finset.univ : Finset (Fin 1)) = {0} := rfl
  rw [e, Finset.fold_singleton, h]
  rfl

theorem in_range (w : BitVec 32) (h : w.toNat < 5000) : IntOp.andi (IntOp.cmpi .sge w 0#32) (IntOp.cmpi .sle w 4999#32) = 1#1 := by
  rw [IntOp.andi_eq_one]
  constructor
  · rw [IntOp.cmpi_sge, BitVec.toInt_eq_toNat_of_lt (x := w) (by omega)]; simp
  · rw [IntOp.cmpi_sle, BitVec.toInt_eq_toNat_of_lt (x := w) (by omega)]; simp; omega

/-- The position a word names. -/
def pick (v : BitVec 32) : Fin 5000 := ⟨v.toNat % 5000, Nat.mod_lt _ (by decide)⟩

theorem pick_eq (w : BitVec 32) (h : w.toNat < 5000) : (⟨min w.toInt.toNat 4999, by omega⟩ : Fin 5000) = pick w := by
  apply Fin.ext
  show min _ 4999 = _ % 5000
  rw [BitVec.toInt_eq_toNat_of_lt (by omega), Nat.mod_eq_of_lt h]
  simp; omega

/-- The list with its last axis. -/
abbrev li : IVec S4x1000x1 32 := V (Proc.devRef .tc main_v1)

theorem read_boxes (h : ∀ j, (li V j).toNat < 5000) (b : Fin 4) (n : Fin 1000) (k : Fin 4) : (after hostOps0_1 V (Proc.devRef .tc main_v2) : FVec Ideal S4x1000x4 .f32) (ix3 b n k) = bxs V (ix3 b (pick (li V (ix3 b n (0 : Fin 1)))) k) := by
  have hw := h (ix3 b n (0 : Fin 1))
  after_reads_at
  refine (congrArg₂ (fun u v => Scalar.select u v (Ideal.ofBits .f32 0x7FC00000#32)) (fold_one _ ?_) (gather_box _ _ b n k)).trans ?_
  · refine Eq.trans (b := IntOp.andi (IntOp.cmpi .sge (Scalar.select (IntOp.cmpi .slt (li V (ix3 b n (0 : Fin 1))) 0#32) (IntOp.addi (li V (ix3 b n (0 : Fin 1))) 5000#32) (li V (ix3 b n (0 : Fin 1)))) 0#32) (IntOp.cmpi .sle (Scalar.select (IntOp.cmpi .slt (li V (ix3 b n (0 : Fin 1))) 0#32) (IntOp.addi (li V (ix3 b n (0 : Fin 1))) 5000#32) (li V (ix3 b n (0 : Fin 1)))) 4999#32)) rfl ?_
    rw [not_negative _ hw, in_range _ hw]
  · refine Eq.trans (b := bxs V (ix3 b (⟨min (Scalar.select (IntOp.cmpi .slt (li V (ix3 b n (0 : Fin 1))) 0#32) (IntOp.addi (li V (ix3 b n (0 : Fin 1))) 5000#32) (li V (ix3 b n (0 : Fin 1)))).toInt.toNat 4999, by omega⟩ : Fin 5000) k)) ?_ ?_
    · show Scalar.select 1#1 _ _ = _
      pointwise
    · simp only [not_negative _ hw, pick_eq _ hw]

/-- The list with its last axis is the selection's places. -/
theorem read_li : li (after hostOps0 V) = broadcastInDim S4x1000x1 ![0, 1] bcast_S4x1000_S4x1000x1_0_1 (best V).2 := by
  unfold li
  after_reads_simp
  rfl

theorem read_cls (h : ∀ j, (ls V j).toNat < 5000) (b : Fin 4) (n : Fin 1000) : (after hostOps0_3 (after hostOps0_2 V) (Proc.devRef .tc main_v4) : FVec Ideal S4x1000x1 .f32) (ix3 b n (0 : Fin 1)) = cls V (ix3 b (pick (ls V (ix2 b n))) (0 : Fin 1)) := by
  have hw := h (ix2 b n)
  after_reads_at
  refine (congrArg₂ (fun u v => Scalar.select u v (Ideal.ofBits .f32 0x7FC00000#32)) (fold_one _ ?_) (gather_cls _ _ b n (0 : Fin 1))).trans ?_
  · refine Eq.trans (b := IntOp.andi (IntOp.cmpi .sge (Scalar.select (IntOp.cmpi .slt (ls V (ix2 b n)) 0#32) (IntOp.addi (ls V (ix2 b n)) 5000#32) (ls V (ix2 b n))) 0#32) (IntOp.cmpi .sle (Scalar.select (IntOp.cmpi .slt (ls V (ix2 b n)) 0#32) (IntOp.addi (ls V (ix2 b n)) 5000#32) (ls V (ix2 b n))) 4999#32)) rfl ?_
    rw [not_negative _ hw, in_range _ hw]
  · refine Eq.trans (b := cls V (ix3 b (⟨min (Scalar.select (IntOp.cmpi .slt (ls V (ix2 b n)) 0#32) (IntOp.addi (ls V (ix2 b n)) 5000#32) (ls V (ix2 b n))).toInt.toNat 4999, by omega⟩ : Fin 5000) (0 : Fin 1))) ?_ ?_
    · show Scalar.select 1#1 _ _ = _
      pointwise
    · simp only [not_negative _ hw, pick_eq _ hw]

theorem read_over (b : Fin 4) (i j : Fin 1000) : (after hostOps0_12 (after hostOps0_11 (after hostOps0_10 (after hostOps0_9 (after hostOps0_8 (after hostOps0_7 (after hostOps0_6 (after hostOps0_5 (after hostOps0_4 V)))))))) (Proc.devRef .tc main_v57_0) : IVec S4x1000x1000 1) (ix3 b i j)
    = Nms.over (fun k => tb V (ix3 b i k)) (fun k => tb V (ix3 b j k)) := by
  unfold Nms.over Nms.overlap Nms.common Nms.area
  after_reads_at
  refine (congrFun (id_eq _) _).trans ?_
  pointwise
  have z : id (constant (F := Ideal) S_ .f32 0#32) ix0 = (0 : EReal) := Ideal.ofBits_zero_f32
  rw [z]

theorem read_good (b : Fin 4) (j : Fin 1000) : (after hostOps0_12 V (Proc.devRef .tc main_v57_4) : IVec S4x1000 1) (ix2 b j)
    = Nms.good ((V (Proc.devRef .tc main_values) : FVec Ideal S4x1000 .f32) (ix2 b j)) := by
  unfold Nms.good
  after_reads_at
  refine (congrFun (id_eq _) _).trans ?_
  pointwise

theorem read_iota (j : Fin 1000) : (after hostOps0_12 V (Proc.devRef .tc main_v57_1) : IVec S1000 32) (ix1 j) = BitVec.ofNat 32 j.val := by
  after_reads_at
  rfl

theorem read_zero : (after hostOps0_12 V (Proc.devRef .tc main_v57_3) : IVec S_ 32) = fun _ => 0#32 := by
  after_reads_simp
  rfl

/-- The number of ones among a thousand bits, added as words. -/
theorem fold_bits (k : Fin 1000 → BitVec 1) (s : Finset (Fin 1000)) : Finset.fold IntOp.addi (0#32) (fun x => BitVec.setWidth 32 (k x)) s = BitVec.ofNat 32 (∑ x ∈ s, (k x).toNat) := by
  classical
  induction s using Finset.induction_on with
  | empty => rfl
  | insert a s ha ih =>
    rw [Finset.fold_insert ha, ih, Finset.sum_insert ha, BitVec.ofNat_add]
    refine congrArg (· + _) ?_
    apply BitVec.eq_of_toNat_eq
    simp

/-- The count held at a hundred, as a word. -/
theorem min_word (n : Nat) (hn : n ≤ 1000) : IntOp.minsi 100#32 (BitVec.ofNat 32 n) = BitVec.ofNat 32 (min 100 n) := by
  unfold IntOp.minsi
  have hs : (BitVec.slt 100#32 (BitVec.ofNat 32 n) = true) ↔ 100 < n := by
    rw [BitVec.slt_iff_toInt_lt, BitVec.toInt_eq_toNat_of_lt (x := BitVec.ofNat 32 n) (by rw [BitVec.toNat_ofNat]; omega), BitVec.toNat_ofNat, Nat.mod_eq_of_lt (by omega)]
    show (100 : ℤ) < _ ↔ _
    omega
  by_cases h : 100 < n
  · rw [if_pos (hs.2 h), Nat.min_eq_left (by omega)]
  · rw [if_neg (fun q => h (hs.1 q)), Nat.min_eq_right (by omega)]

theorem fold_count (s : Fin 1000 → EReal) (B : Fin 1000 → Fin 4 → EReal) (k : Fin 1000 → BitVec 1) (hk : ∀ j, k j = Nms.keep s B 1000 j) :
    IntOp.minsi 100#32 (Finset.fold IntOp.addi (0#32) (fun x => BitVec.setWidth 32 (k x)) Finset.univ) = BitVec.ofNat 32 (min 100 (Nms.number s B)) := by
  rw [funext hk, fold_bits (fun x => Nms.keep s B 1000 x) Finset.univ]
  exact min_word _ (Nms.number_le s B)

theorem read_count (s : Fin 1000 → EReal) (B : Fin 1000 → Fin 4 → EReal) (b : Fin 4) (hk : ∀ j : Fin 1000, kp V (ix2 b j) = Nms.keep s B 1000 j) :
    (after hostOps0_13 V (Proc.devRef .tc main_v62) : IVec S4x1 32) (ix2 b (0 : Fin 1)) = BitVec.ofNat 32 (min 100 (Nms.number s B)) := by
  after_reads_at
  exact fold_count s B _ hk

theorem read_slot (s : Fin 1000 → EReal) (B : Fin 1000 → Fin 4 → EReal) (b : Fin 4) (hk : ∀ j : Fin 1000, kp V (ix2 b j) = Nms.keep s B 1000 j)
    (o : Fin 100) : (after hostOps0_13 V (Proc.devRef .tc main_v68) : IVec S4x100x1 1) (ix3 b o (0 : Fin 1)) = Nms.slot s B o := by
  after_reads_at
  exact (congrArg (IntOp.cmpi .slt (BitVec.ofNat 32 o.val)) (fold_count s B _ hk)).trans (Nms.slot_word s B o)

theorem read_scores (b : Fin 4) (o : Fin 100) : (after hostOps0_14 (after hostOps0_13 V) (Proc.devRef .tc main_v71) : FVec Ideal S4x100x1 .f32) (ix3 b o (0 : Fin 1))
   = Scalar.select ((after hostOps0_13 V (Proc.devRef .tc main_v68) : IVec S4x100x1 1) (ix3 b o (0 : Fin 1))) ((V (Proc.devRef .tc main_values) : FVec Ideal S4x1000 .f32) (ix2 b (⟨o.val, by omega⟩ : Fin 1000))) (Ideal.ofBits .f32 0xBF800000#32) := by
  after_reads_at
  rfl

theorem read_classes (b : Fin 4) (o : Fin 100) : (after hostOps0_16 (after hostOps0_15 V) (Proc.devRef .tc main_v73) : FVec Ideal S4x100x1 .f32) (ix3 b o (0 : Fin 1))
   = Scalar.select (sl V (ix3 b o (0 : Fin 1))) (tc V (ix3 b (⟨o.val, by omega⟩ : Fin 1000) (0 : Fin 1))) (Ideal.ofBits .f32 0xBF800000#32) := by
  after_reads_at
  rfl

theorem read_outs (b : Fin 4) (o : Fin 100) (k : Fin 4) : (after hostOps0_18 (after hostOps0_17 V) (Proc.devRef .tc main_v75) : FVec Ideal S4x100x4 .f32) (ix3 b o k)
   = Scalar.select (sl V (ix3 b o (0 : Fin 1))) (tb V (ix3 b (⟨o.val, by omega⟩ : Fin 1000) k)) (0 : EReal) := by
  after_reads_at
  exact congrArg (Scalar.select _ _) Ideal.ofBits_zero_f32

/-- A place of the list read as a start. -/
theorem start_word (n : Nat) (hn : n < 1000) : Scalar.select (IntOp.cmpi .slt (BitVec.ofNat 32 n) 0#32) (IntOp.addi (BitVec.ofNat 32 n) 1000#32) (BitVec.ofNat 32 n) = BitVec.ofNat 32 n := by
  have hs : BitVec.slt (BitVec.ofNat 32 n) 0#32 = false := by
    rw [← Bool.not_eq_true, BitVec.slt_iff_toInt_lt, BitVec.toInt_eq_toNat_of_lt (by rw [BitVec.toNat_ofNat]; omega)]; simp; omega
  simp [IntOp.cmpi, hs, Scalar.select]

theorem start_int (n : Nat) (hn : n < 1000) : (BitVec.ofNat 32 n).toInt = (n : ℤ) := by
  rw [BitVec.toInt_eq_toNat_of_lt (by rw [BitVec.toNat_ofNat]; omega), BitVec.toNat_ofNat, Nat.mod_eq_of_lt (by omega)]

theorem clamp_zero (x : ℤ) (b : Nat) : (min (max x 0) ((0 : ℕ) : ℤ)).toNat + b = b := by omega
theorem clamp_in (x : ℤ) (n : Nat) (hn : n < 1000) (hx : x = n) : (min (max x 0) ((999 : ℕ) : ℤ)).toNat = n % 1000 := by omega

/-- One step of the loop. -/
theorem step_keep (n : Nat) (hn : n < 1000) (h3 : at3 V = fun _ => BitVec.ofNat 32 n) (b : Fin 4) (j : Fin 1000) :
    (step_main_v57_4 V : IVec S4x1000 1) (ix2 b j) = IntOp.andi (kp V (ix2 b j)) (~~~(IntOp.andi (IntOp.andi (ov V (ix3 b (Nms.place n) j))
      (IntOp.cmpi .sgt (io V (ix1 j)) (BitVec.ofNat 32 n))) (kp V (ix2 b (Nms.place n))))) := by
  unfold step_main_v57_4 res_main_while0b_v77 res_main_while0b_v95
  have h3' : V (Proc.devRef .tc main_v57_3) = fun _ => BitVec.ofNat 32 n := h3
  rw [h3']
  refine (congrFun (id_eq _) _).trans ?_
  pointwise
  refine congrArg (fun x => IntOp.andi _ (~~~ x)) (congrArg₂ IntOp.andi (congrArg₂ IntOp.andi (congrArg (ov V) ?_) rfl) (congrArg (kp V) ?_))
  · funext a
    fin_cases a
    · exact Fin.ext (clamp_zero _ _)
    · exact Fin.ext (clamp_in _ n hn ((congrArg BitVec.toInt (start_word n hn)).trans (start_int n hn)))
    · exact Fin.ext (clamp_zero _ _)
  · funext a
    fin_cases a
    · exact Fin.ext (clamp_zero _ _)
    · exact Fin.ext (clamp_in _ n hn ((congrArg BitVec.toInt (start_word n hn)).trans (start_int n hn)))

end Cert.Proof.NmsRef
end
-- ==== Proof.Nms.RefOut.lean ====
/-
  The suppression reference's four results, each as one function of the arguments.
-/
module
public import proofs.«01_k».proof.Proof.Nms.RefVal
public import proofs.«01_k».proof.Proof.Nms.Top
@[expose] public section
set_option maxRecDepth 16384
noncomputable section
namespace Cert.Proof.NmsRef
open Cert.NmsRefIdeal Cert.NmsRefIdeal.Gen Cert.NmsRefIdeal.Value
open Idealize.ShloMosaic Idealize.ShloMosaic.TcCoe Idealize.SL.Sem Idealize.ShloMosaic.Tactic
open Idealize.ShloMosaic.StableHlo

/-! ## Values that later operations leave -/

theorem stays_2 (b : Ref sig .tc) (hb : b ∈ [main_v2]) (V : Valuation τ sig (Elt Ideal)) : after hostOps0_2 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_3 (b : Ref sig .tc) (hb : b ∈ [main_v2]) (V : Valuation τ sig (Elt Ideal)) : after hostOps0_3 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_4 (b : Ref sig .tc) (hb : b ∈ [main_v2, main_v4]) (V : Valuation τ sig (Elt Ideal)) : after hostOps0_4 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_5 (b : Ref sig .tc) (hb : b ∈ [main_v2, main_v4]) (V : Valuation τ sig (Elt Ideal)) : after hostOps0_5 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_6 (b : Ref sig .tc) (hb : b ∈ [main_v2, main_v4]) (V : Valuation τ sig (Elt Ideal)) : after hostOps0_6 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_7 (b : Ref sig .tc) (hb : b ∈ [main_v2, main_v4]) (V : Valuation τ sig (Elt Ideal)) : after hostOps0_7 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_8 (b : Ref sig .tc) (hb : b ∈ [main_v2, main_v4]) (V : Valuation τ sig (Elt Ideal)) : after hostOps0_8 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_9 (b : Ref sig .tc) (hb : b ∈ [main_v2, main_v4]) (V : Valuation τ sig (Elt Ideal)) : after hostOps0_9 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_10 (b : Ref sig .tc) (hb : b ∈ [main_v2, main_v4]) (V : Valuation τ sig (Elt Ideal)) : after hostOps0_10 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_11 (b : Ref sig .tc) (hb : b ∈ [main_v2, main_v4]) (V : Valuation τ sig (Elt Ideal)) : after hostOps0_11 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_12 (b : Ref sig .tc) (hb : b ∈ [main_v2, main_v4]) (V : Valuation τ sig (Elt Ideal)) : after hostOps0_12 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_13 (b : Ref sig .tc) (hb : b ∈ [main_v2, main_v4]) (V : Valuation τ sig (Elt Ideal)) : after hostOps0_13 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_14 (b : Ref sig .tc) (hb : b ∈ [main_v2, main_v4, main_v68, main_v62]) (V : Valuation τ sig (Elt Ideal)) : after hostOps0_14 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_15 (b : Ref sig .tc) (hb : b ∈ [main_v2, main_v68, main_v71, main_v62]) (V : Valuation τ sig (Elt Ideal)) : after hostOps0_15 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_16 (b : Ref sig .tc) (hb : b ∈ [main_v2, main_v68, main_v71, main_v62]) (V : Valuation τ sig (Elt Ideal)) : after hostOps0_16 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_17 (b : Ref sig .tc) (hb : b ∈ [main_v71, main_v73, main_v62]) (V : Valuation τ sig (Elt Ideal)) : after hostOps0_17 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_18 (b : Ref sig .tc) (hb : b ∈ [main_v71, main_v73, main_v62]) (V : Valuation τ sig (Elt Ideal)) : after hostOps0_18 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_cond (b : Ref sig .tc) (hb : b ∈ [main_v2, main_v4]) (V : Valuation τ sig (Elt Ideal)) : after condOps V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)
theorem stays_body (b : Ref sig .tc) (hb : b ∈ [main_v2, main_v4]) (V : Valuation τ sig (Elt Ideal)) : after while0Ops0 V (Proc.devRef .tc b) = V (Proc.devRef .tc b) := by
  refine after_of_forall_not_mem _ V fun op hop => ?_
  fin_cases hop <;> exact fun h => devRef_ne_of_ne (fun e => absurd (e ▸ hb) (by decide)) (Finset.mem_singleton.mp h)

variable (m : (ℓ : Loc nD τ sig) → Buf (Elt Ideal) ℓ) (c : Dev nD)

/-- The contents at launch, and those before the coordinates are taken. -/
abbrev start : Valuation τ sig (Elt Ideal) := entryContents [] m c
abbrev first : Valuation τ sig (Elt Ideal) := after hostOps0_1 (after hostOps0 (start m c))
abbrev second : Valuation τ sig (Elt Ideal) := after hostOps0_3 (after hostOps0_2 (first m c))
abbrev third : Valuation τ sig (Elt Ideal) := after hostOps0_11 (after hostOps0_10 (after hostOps0_9 (after hostOps0_8 (after hostOps0_7 (after hostOps0_6 (after hostOps0_5 (after hostOps0_4 (second m c))))))))

theorem entry_eq : entryContents preI m c = after hostOps0_12 (third m c) := rfl

theorem args_third (b : Ref sig .tc) (hb : b ∈ early) : third m c (Proc.devRef .tc b) = after hostOps0 (start m c) (Proc.devRef .tc b) := by
  exact (keeps_hostOps0_11 b hb _).trans ((keeps_hostOps0_10 b hb _).trans ((keeps_hostOps0_9 b hb _).trans ((keeps_hostOps0_8 b hb _).trans ((keeps_hostOps0_7 b hb _).trans ((keeps_hostOps0_6 b hb _).trans ((keeps_hostOps0_5 b hb _).trans ((keeps_hostOps0_4 b hb _).trans ((keeps_hostOps0_3 b hb _).trans ((keeps_hostOps0_2 b hb _).trans (keeps_hostOps0_1 b hb _))))))))))

theorem args_first (b : Ref sig .tc) (hb : b ∈ early) : first m c (Proc.devRef .tc b) = after hostOps0 (start m c) (Proc.devRef .tc b) :=
  keeps_hostOps0_1 b hb _

/-- The top scores, the list, the boxes and the classes. -/
abbrev xs : FVec Ideal S4x1000 .f32 := (best (start m c)).1
abbrev xl : IVec S4x1000 32 := (best (start m c)).2
abbrev xb : FVec Ideal S4x5000x4 .f32 := m ((c.tc : Thread nD τ).loc main_arg1)
abbrev xc : FVec Ideal S4x5000x1 .f32 := m ((c.tc : Thread nD τ).loc main_arg2)

theorem top_values : (after hostOps0 (start m c) (Proc.devRef .tc main_values) : FVec Ideal S4x1000 .f32) = xs m c := by
  after_reads_simp
  rfl
theorem top_indices : (after hostOps0 (start m c) (Proc.devRef .tc main_indices) : IVec S4x1000 32) = xl m c := by
  after_reads_simp
  rfl
theorem listed_lt (j : S4x1000.Idx) : (xl m c j).toNat < 5000 := Nms.best_lt _ _ _ j

/-- An image's top scores and its listed boxes. -/
def sc (b : Fin 4) : Fin 1000 → EReal := fun j => xs m c (ix2 b j)
def bx (b : Fin 4) : Fin 1000 → Fin 4 → EReal := fun j k => xb m c (ix3 b (pick (xl m c (ix2 b j))) k)

variable (h : ∀ j, (xl m c j).toNat < 5000)

include h

theorem first_tb (b : Fin 4) (n : Fin 1000) (k : Fin 4) : tb (first m c) (ix3 b n k) = bx m c b n k := by
  have e : ∀ j, li (after hostOps0 (start m c)) j = xl m c (ix2 (j 0 : Fin 4) (j 1 : Fin 1000)) := fun j =>
    (congrFun (read_li (start m c)) j).trans (congrArg (xl m c) (by funext a; fin_cases a <;> rfl))
  refine (read_boxes (after hostOps0 (start m c)) (fun j => by rw [e]; exact h _) b n k).trans ?_
  rw [e]
  exact congrFun (keeps_hostOps0 main_arg1 (by decide) _) _

theorem second_tb (b : Fin 4) (n : Fin 1000) (k : Fin 4) : tb (second m c) (ix3 b n k) = bx m c b n k := by
  refine Eq.trans (congrFun ?_ _) (first_tb m c h b n k)
  exact (stays_3 main_v2 (by decide) _).trans ((stays_2 main_v2 (by decide) _).trans (rfl))

theorem second_tc (b : Fin 4) (n : Fin 1000) : tc (second m c) (ix3 b n (0 : Fin 1)) = xc m c (ix3 b (pick (xl m c (ix2 b n))) (0 : Fin 1)) := by
  have e1 : ls (first m c) = xl m c := (args_first m c main_indices (by decide)).trans (top_indices m c)
  have e3 : cls (first m c) = xc m c := (args_first m c main_arg2 (by decide)).trans (keeps_hostOps0 main_arg2 (by decide) _)
  refine (read_cls (first m c) (by rw [e1]; exact h) b n).trans ?_
  rw [e1, e3]

omit h in
theorem stay_third (b : Ref sig .tc) (hb : b ∈ [main_v2, main_v4]) : third m c (Proc.devRef .tc b) = second m c (Proc.devRef .tc b) := by
  unfold third
  generalize second m c = W
  exact (stays_11 b hb _).trans ((stays_10 b hb _).trans ((stays_9 b hb _).trans ((stays_8 b hb _).trans ((stays_7 b hb _).trans ((stays_6 b hb _).trans ((stays_5 b hb _).trans ((stays_4 b hb _).trans (rfl))))))))

omit h in
theorem stay_entry (b : Ref sig .tc) (hb : b ∈ [main_v2, main_v4]) : entryContents preI m c (Proc.devRef .tc b) = second m c (Proc.devRef .tc b) :=
  (congrFun (entry_eq m c) _).trans ((stays_12 b hb (third m c)).trans (stay_third m c b hb))

theorem entry_tb (b : Fin 4) (n : Fin 1000) (k : Fin 4) : tb (entryContents preI m c) (ix3 b n k) = bx m c b n k := by
  refine Eq.trans (congrFun ?_ _) (second_tb m c h b n k)
  exact stay_entry m c main_v2 (by decide)

theorem entry_tc (b : Fin 4) (n : Fin 1000) : tc (entryContents preI m c) (ix3 b n (0 : Fin 1)) = xc m c (ix3 b (pick (xl m c (ix2 b n))) (0 : Fin 1)) := by
  refine Eq.trans (congrFun ?_ _) (second_tc m c h b n)
  exact stay_entry m c main_v4 (by decide)

theorem entry_ov (b : Fin 4) (i j : Fin 1000) : ov (entryContents preI m c) (ix3 b i j) = Nms.over (bx m c b i) (bx m c b j) := by
  refine (read_over (second m c) b i j).trans ?_
  exact congrArg₂ Nms.over (funext fun k => second_tb m c h b i k) (funext fun k => second_tb m c h b j k)

omit h in
theorem entry_kp (b : Fin 4) (j : Fin 1000) : kp (entryContents preI m c) (ix2 b j) = Nms.good (sc m c b j) := by
  refine (read_good (third m c) b j).trans ?_
  exact congrArg Nms.good (congrFun ((args_third m c main_values (by decide)).trans (top_values m c)) (ix2 b j))

omit h in
theorem entry_io (j : Fin 1000) : io (entryContents preI m c) (ix1 j) = BitVec.ofNat 32 j.val := read_iota (third m c) j

omit h in
theorem entry_at3 : at3 (entryContents preI m c) = fun _ => BitVec.ofNat 32 0 := read_zero (third m c)

/-! ## The loop -/

omit h in
theorem after_word (n : Nat) (hn : n < 1000) (j : Fin 1000) : IntOp.cmpi .sgt (BitVec.ofNat 32 j.val) (BitVec.ofNat 32 n) = BitVec.ofBool (decide (n < j.val)) := by
  unfold IntOp.cmpi
  refine congrArg BitVec.ofBool ?_
  show BitVec.slt (BitVec.ofNat 32 n) (BitVec.ofNat 32 j.val) = _
  rw [Bool.eq_iff_iff, BitVec.slt_iff_toInt_lt, decide_eq_true_iff, start_int n hn, start_int j.val j.isLt]
  omega

/-- What the loop carries before trip `n`. -/
theorem carried : ∀ n, n ≤ 1000 → ov (STEP^[n] (entryContents preI m c)) = ov (entryContents preI m c) ∧ io (STEP^[n] (entryContents preI m c)) = io (entryContents preI m c)
    ∧ (at3 (STEP^[n] (entryContents preI m c)) = fun _ => BitVec.ofNat 32 n)
    ∧ ∀ (b : Fin 4) (j : Fin 1000), kp (STEP^[n] (entryContents preI m c)) (ix2 b j) = Nms.keep (sc m c b) (bx m c b) n j
  | 0, _ => ⟨rfl, rfl, entry_at3 m c, entry_kp m c⟩
  | n + 1, hn => by
    obtain ⟨h0, h1, h3, h4⟩ := carried n (by omega)
    rw [Function.iterate_succ_apply']
    generalize STEP^[n] (entryContents preI m c) = S at *
    refine ⟨(STEP_main_v57_0 S).trans h0, (STEP_main_v57_1 S).trans h1, (STEP_main_v57_3 S).trans ?_, fun b j => ?_⟩
    · have e : step_main_v57_3 S = addi (at3 S) (constantI S_ 32 1#32) := rfl
      rw [e, h3]
      funext i
      show BitVec.ofNat 32 n + 1#32 = _
      rw [BitVec.ofNat_add]
    · refine (congrFun (STEP_main_v57_4 S) _).trans ((step_keep S n (by omega) h3 b j).trans ?_)
      rw [h0, h1, h4, h4, entry_ov m c h, entry_io, after_word n (by omega) j]
      rfl

/-! ## The results -/

/-- The contents when the loop is left. -/
abbrev left : Valuation τ sig (Elt Ideal) := after condOps (atK m 1000 c)

theorem left_kp (b : Fin 4) (j : Fin 1000) : kp (left m c) (ix2 b j) = Nms.keep (sc m c b) (bx m c b) 1000 j := by
  refine Eq.trans (congrFun ?_ _) ((carried m c h 1000 le_rfl).2.2.2 b j)
  exact (cond_keeps (atK m 1000 c) main_v57_4 (by decide)).trans (atK_agree m c 1000 main_v57_4 (by decide))

omit h in
theorem stays_trip (b : Ref sig .tc) (hb : b ∈ [main_v2, main_v4]) : ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [stays_body b hb, stays_cond b hb]
    exact stays_trip b hb k

theorem left_tb (b : Fin 4) (n : Fin 1000) (k : Fin 4) : tb (left m c) (ix3 b n k) = bx m c b n k := by
  refine Eq.trans (congrFun ?_ _) (entry_tb m c h b n k)
  exact (stays_cond _ (by decide) _).trans (stays_trip m c _ (by decide) 1000)

theorem left_tc (b : Fin 4) (n : Fin 1000) : tc (left m c) (ix3 b n (0 : Fin 1)) = xc m c (ix3 b (pick (xl m c (ix2 b n))) (0 : Fin 1)) := by
  refine Eq.trans (congrFun ?_ _) (entry_tc m c h b n)
  exact (stays_cond _ (by decide) _).trans (stays_trip m c _ (by decide) 1000)

omit h in
theorem left_xs : (left m c (Proc.devRef .tc main_values) : FVec Ideal S4x1000 .f32) = xs m c :=
  (keeps_condOps main_values (by decide) _).trans ((early_trip m main_values (by decide) c 1000).trans (top_values m c))

theorem left_slot (b : Fin 4) (o : Fin 100) : sl (after hostOps0_13 (left m c)) (ix3 b o (0 : Fin 1)) = Nms.slot (sc m c b) (bx m c b) o :=
  read_slot (left m c) _ _ b (left_kp m c h b) o

/-- The contents at the end. -/
abbrev last : Valuation τ sig (Elt Ideal) := finalContents condOps preI bodyI postI 1000 m c

omit h in
theorem last_eq : last m c = after hostOps0_18 (after hostOps0_17 (after hostOps0_16 (after hostOps0_15 (after hostOps0_14 (after hostOps0_13 (left m c)))))) := rfl

def oscores : S4x100x1.Idx → EReal := fun y => Scalar.select (Nms.slot (sc m c (y 0)) (bx m c (y 0)) (y 1)) (xs m c (ix2 (y 0 : Fin 4) (⟨(y 1).val, by have h : (y 1).val < 100 := (y 1).isLt; omega⟩ : Fin 1000))) (Ideal.ofBits .f32 0xBF800000#32)
def oclasses : S4x100x1.Idx → EReal := fun y => Scalar.select (Nms.slot (sc m c (y 0)) (bx m c (y 0)) (y 1)) (xc m c (ix3 (y 0 : Fin 4) (pick (xl m c (ix2 (y 0 : Fin 4) (⟨(y 1).val, by have h : (y 1).val < 100 := (y 1).isLt; omega⟩ : Fin 1000)))) (0 : Fin 1))) (Ideal.ofBits .f32 0xBF800000#32)
def ocount : S4x1.Idx → BitVec 32 := fun y => BitVec.ofNat 32 (min 100 (Nms.number (sc m c (y 0)) (bx m c (y 0))))
def oboxes : S4x100x4.Idx → EReal := fun y => Scalar.select (Nms.slot (sc m c (y 0)) (bx m c (y 0)) (y 1)) (xb m c (ix3 (y 0 : Fin 4) (pick (xl m c (ix2 (y 0 : Fin 4) (⟨(y 1).val, by have h : (y 1).val < 100 := (y 1).isLt; omega⟩ : Fin 1000)))) (y 2 : Fin 4))) 0

omit h in
theorem col_eq (y : S4x100x1.Idx) : y = ix3 (y 0 : Fin 4) (y 1 : Fin 100) (0 : Fin 1) := by
  funext a
  fin_cases a
  · rfl
  · rfl
  · exact Fin.ext (by have h : (y 2).val < 1 := (y 2).isLt; show (y 2).val = 0; omega)

omit h in
theorem row_eq (y : S4x100x4.Idx) : y = ix3 (y 0 : Fin 4) (y 1 : Fin 100) (y 2 : Fin 4) := by
  funext a
  fin_cases a <;> rfl

theorem last_scores : (last m c (Proc.devRef .tc main_v71) : FVec Ideal S4x100x1 .f32) = oscores m c := by
  rw [last_eq, stays_18 _ (by decide), stays_17 _ (by decide), stays_16 _ (by decide), stays_15 _ (by decide)]
  refine funext fun y => (congrArg (after hostOps0_14 (after hostOps0_13 (left m c)) (Proc.devRef .tc main_v71) : FVec Ideal S4x100x1 .f32) (col_eq y)).trans ((read_scores (left m c) (y 0) (y 1)).trans ?_)
  refine (congrArg₂ (fun u (v : FVec Ideal S4x1000 .f32) => Scalar.select u (v (ix2 (y 0 : Fin 4) (⟨(y 1).val, by have h : (y 1).val < 100 := (y 1).isLt; omega⟩ : Fin 1000))) (Ideal.ofBits .f32 0xBF800000#32)) (left_slot m c h (y 0) (y 1)) (left_xs m c)).trans ?_
  rfl

theorem slot_14 (b : Fin 4) (o : Fin 100) : sl (after hostOps0_14 (after hostOps0_13 (left m c))) (ix3 b o (0 : Fin 1)) = Nms.slot (sc m c b) (bx m c b) o := by
  refine Eq.trans (congrFun ?_ _) (left_slot m c h b o)
  exact stays_14 _ (by decide) _

theorem slot_16 (b : Fin 4) (o : Fin 100) : sl (after hostOps0_16 (after hostOps0_15 (after hostOps0_14 (after hostOps0_13 (left m c))))) (ix3 b o (0 : Fin 1)) = Nms.slot (sc m c b) (bx m c b) o := by
  refine Eq.trans (congrFun ?_ _) (slot_14 m c h b o)
  exact (stays_16 _ (by decide) _).trans (stays_15 _ (by decide) _)

theorem tc_14 (b : Fin 4) (n : Fin 1000) : tc (after hostOps0_14 (after hostOps0_13 (left m c))) (ix3 b n (0 : Fin 1)) = xc m c (ix3 b (pick (xl m c (ix2 b n))) (0 : Fin 1)) := by
  refine Eq.trans (congrFun ?_ _) (left_tc m c h b n)
  exact (stays_14 _ (by decide) _).trans (stays_13 _ (by decide) _)

theorem tb_16 (b : Fin 4) (n : Fin 1000) (k : Fin 4) : tb (after hostOps0_16 (after hostOps0_15 (after hostOps0_14 (after hostOps0_13 (left m c))))) (ix3 b n k) = bx m c b n k := by
  refine Eq.trans (congrFun ?_ _) (left_tb m c h b n k)
  exact (stays_16 _ (by decide) _).trans ((stays_15 _ (by decide) _).trans ((stays_14 _ (by decide) _).trans (stays_13 _ (by decide) _)))

theorem last_classes : (last m c (Proc.devRef .tc main_v73) : FVec Ideal S4x100x1 .f32) = oclasses m c := by
  rw [last_eq, stays_18 _ (by decide), stays_17 _ (by decide)]
  refine funext fun y => (congrArg (after hostOps0_16 (after hostOps0_15 (after hostOps0_14 (after hostOps0_13 (left m c)))) (Proc.devRef .tc main_v73) : FVec Ideal S4x100x1 .f32) (col_eq y)).trans ((read_classes _ (y 0) (y 1)).trans ?_)
  refine (congrArg₂ (fun u (v : EReal) => Scalar.select u v (Ideal.ofBits .f32 0xBF800000#32)) (slot_14 m c h (y 0) (y 1)) (tc_14 m c h (y 0) _)).trans ?_
  rfl

omit h in
theorem one_eq (y : S4x1.Idx) : y = ix2 (y 0 : Fin 4) (0 : Fin 1) := by
  funext a
  fin_cases a
  · rfl
  · exact Fin.ext (by have h : (y 1).val < 1 := (y 1).isLt; show (y 1).val = 0; omega)

theorem last_count : (last m c (Proc.devRef .tc main_v62) : IVec S4x1 32) = ocount m c := by
  rw [last_eq, stays_18 _ (by decide), stays_17 _ (by decide), stays_16 _ (by decide), stays_15 _ (by decide), stays_14 _ (by decide)]
  refine funext fun y => (congrArg (after hostOps0_13 (left m c) (Proc.devRef .tc main_v62) : IVec S4x1 32) (one_eq y)).trans ?_
  exact read_count (left m c) _ _ (y 0) (left_kp m c h (y 0))

theorem last_boxes : (last m c (Proc.devRef .tc main_v75) : FVec Ideal S4x100x4 .f32) = oboxes m c := by
  rw [last_eq]
  refine funext fun y => (congrArg (after hostOps0_18 (after hostOps0_17 (after hostOps0_16 (after hostOps0_15 (after hostOps0_14 (after hostOps0_13 (left m c)))))) (Proc.devRef .tc main_v75) : FVec Ideal S4x100x4 .f32) (row_eq y)).trans ((read_outs _ (y 0) (y 1) (y 2)).trans ?_)
  refine (congrArg₂ (fun u (v : EReal) => Scalar.select u v (0 : EReal)) (slot_16 m c h (y 0) (y 1)) (tb_16 m c h (y 0) _ (y 2))).trans ?_
  rfl

end Cert.Proof.NmsRef
end
-- ==== Proof.Nms.Claim.lean ====
/-
  The suppression call and its reference run, and their results agree.
-/
module
public import proofs.«01_k».proof.Defs
public import proofs.«01_k».proof.Proof.Nms.Out
public import proofs.«01_k».proof.Proof.Nms.RefOut
@[expose] public section
set_option maxRecDepth 16384
noncomputable section
namespace Cert.Proof.NmsC
open Idealize.ShloMosaic Idealize.ShloMosaic.TcCoe Idealize.SL.Sem Idealize.ShloMosaic.Tactic

section
open Cert.NmsIdeal Cert.NmsIdeal.Gen

/-- The call's four results, its arguments as launched. -/
theorem result (m : (ℓ : Loc nD τ sig) → Buf (Elt Ideal) ℓ) (g : Dev nD → PrngReg) (hn : NmsI.Named m) :
    θ_run (defs (F := Ideal)) (onTc (τ := τ) (main (F := Ideal))) ⟨m, fun _ => 0, g⟩ (fun r => ∀ c : Dev nD,
      r.2.mem ((c.tc : Thread nD τ).loc main_v11_0) = NmsI.oscores m c
      ∧ r.2.mem ((c.tc : Thread nD τ).loc main_v11_1) = NmsI.oclasses m c
      ∧ r.2.mem ((c.tc : Thread nD τ).loc main_v11_2) = NmsI.oboxes m c
      ∧ r.2.mem ((c.tc : Thread nD τ).loc main_v11_3) = NmsI.ocount m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 6 rfl).trans (NmsI.arr_scores m c), ((h.1.1 c).1 7 rfl).trans (NmsI.arr_classes m c), ((h.1.1 c).1 8 rfl).trans (NmsI.arr_boxes m c), NmsI.arr_count m c _ (h.1.1 c).2.2, h.2.1 c⟩)
    (θ_run_and (NmsI.run_all m g hn) (NmsI.framed m g hn))
end

section
open Cert.NmsRefIdeal Cert.NmsRefIdeal.Gen Cert.NmsRefIdeal.Value

/-- The reference's four results. -/
theorem ref_result (m : (ℓ : Loc nD τ sig) → Buf (Elt Ideal) ℓ) (g : Dev nD → PrngReg) (hl : ∀ c j, (NmsRef.xl m c j).toNat < 5000) :
    θ_run (defs (F := Ideal)) (onTc (τ := τ) (main (F := Ideal))) ⟨m, fun _ => 0, g⟩ (fun r => ∀ c : Dev nD,
      r.2.mem ((c.tc : Thread nD τ).loc main_v71) = NmsRef.oscores m c
      ∧ r.2.mem ((c.tc : Thread nD τ).loc main_v73) = NmsRef.oclasses m c
      ∧ r.2.mem ((c.tc : Thread nD τ).loc main_v75) = NmsRef.oboxes m c
      ∧ r.2.mem ((c.tc : Thread nD τ).loc main_v62) = NmsRef.ocount m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c main_v71 (by decide)).trans (NmsRef.last_scores m c (hl c)), (h.1 c main_v73 (by decide)).trans (NmsRef.last_classes m c (hl c)),
      (h.1 c main_v75 (by decide)).trans (NmsRef.last_boxes m c (hl c)), (h.1 c main_v62 (by decide)).trans (NmsRef.last_count m c (hl c)), h.2.1 c⟩)
    (θ_run_and (run_fold m g) (NmsRef.framed m g))
end

/-! ## One form for the two sides -/

open Cert.NmsIdeal in
/-- A slot's score, class and box from the scores `S`, the boxes `B` and the arrays. -/
def fscore (S : Fin 4 → Fin 1000 → EReal) (B : Fin 4 → Fin 1000 → Fin 4 → EReal) (X : FVec Ideal S4x1000 .f32) : S4x100x1.Idx → EReal :=
  fun y => Scalar.select (Nms.slot (S (y 0)) (B (y 0)) (y 1)) (X (ix2 (y 0 : Fin 4) (⟨(y 1).val, by have h : (y 1).val < 100 := (y 1).isLt; omega⟩ : Fin 1000))) (Ideal.ofBits .f32 0xBF800000#32)

open Cert.NmsIdeal in
def fclass (S : Fin 4 → Fin 1000 → EReal) (B : Fin 4 → Fin 1000 → Fin 4 → EReal) (L : IVec S4x1000 32) (X : FVec Ideal S4x5000x1 .f32) : S4x100x1.Idx → EReal :=
  fun y => Scalar.select (Nms.slot (S (y 0)) (B (y 0)) (y 1)) (X (ix3 (y 0 : Fin 4) (NmsI.pick (L (ix2 (y 0 : Fin 4) (⟨(y 1).val, by have h : (y 1).val < 100 := (y 1).isLt; omega⟩ : Fin 1000)))) (0 : Fin 1))) (Ideal.ofBits .f32 0xBF800000#32)

open Cert.NmsIdeal in
def fbox (S : Fin 4 → Fin 1000 → EReal) (B : Fin 4 → Fin 1000 → Fin 4 → EReal) (L : IVec S4x1000 32) (X : FVec Ideal S4x5000x4 .f32) : S4x100x4.Idx → EReal :=
  fun y => Scalar.select (Nms.slot (S (y 0)) (B (y 0)) (y 1)) (X (ix3 (y 0 : Fin 4) (NmsI.pick (L (ix2 (y 0 : Fin 4) (⟨(y 1).val, by have h : (y 1).val < 100 := (y 1).isLt; omega⟩ : Fin 1000)))) (y 2 : Fin 4))) 0

/-- The counts from the scores `S` and the boxes `B`. -/
def fcount (S : Fin 4 → Fin 1000 → EReal) (B : Fin 4 → Fin 1000 → Fin 4 → EReal) : Cert.NmsIdeal.S4x1.Idx → BitVec 32 :=
  fun y => BitVec.ofNat 32 (min 100 (Nms.number (S (y 0)) (B (y 0))))

/-- The listed boxes from the arrays. -/
def fbx (L : IVec Cert.NmsIdeal.S4x1000 32) (X : FVec Ideal Cert.NmsIdeal.S4x5000x4 .f32) : Fin 4 → Fin 1000 → Fin 4 → EReal :=
  fun b j k => X (ix3 b (NmsI.pick (L (ix2 b j))) k)

def fsc (X : FVec Ideal Cert.NmsIdeal.S4x1000 .f32) : Fin 4 → Fin 1000 → EReal := fun b j => X (ix2 b j)

/-- The call's results are the reference's. -/
theorem algebraic : Cert.algebraic_NmsIdeal_NmsRefIdeal (hNmsIdeal := Cert.NmsIdeal.Gen.facts) (hNmsRefIdeal := Cert.NmsRefIdeal.Gen.facts) := by
  intro m g m' g' _ hag
  refine ⟨NmsI.oscores m, NmsI.oclasses m, NmsI.oboxes m, NmsI.ocount m, result m g (NmsI.named m), ?_⟩
  have e : ∀ c, NmsRef.best (NmsRef.start m' c) = NmsI.best m c := fun c => by
    unfold NmsRef.best NmsI.best
    exact congrArg (fun x => Host.topK Cert.NmsIdeal.S4x1000 1 (FloatOps.cmpfTotal .gt) (shapeCast Cert.NmsIdeal.S4x5000 x Cert.NmsIdeal.Gen.shapeCasts_S4x5000x1_S4x5000) Cert.NmsIdeal.Gen.sliceFits_S4x5000_S4x1000) (hag c).1
  have e0 : ∀ c, NmsRef.xs m' c = NmsI.tops m c := fun c => congrArg Prod.fst (e c)
  have e1 : ∀ c, NmsRef.xl m' c = NmsI.list m c := fun c => congrArg Prod.snd (e c)
  have e2 : ∀ c, NmsRef.xb m' c = NmsI.bxs m c := fun c => (hag c).2.1
  have e3 : ∀ c, NmsRef.xc m' c = NmsI.cls m c := fun c => (hag c).2.2
  refine (θ_run _ _ _).mono (fun r h c => ⟨(h c).1.trans ?_, (h c).2.1.trans ?_, (h c).2.2.1.trans ?_, (h c).2.2.2.1.trans ?_, (h c).2.2.2.2⟩) (ref_result m' g' (NmsRef.listed_lt m'))
  · show fscore (fsc (NmsRef.xs m' c)) (fbx (NmsRef.xl m' c) (NmsRef.xb m' c)) (NmsRef.xs m' c)
      = fscore (fsc (NmsI.tops m c)) (fbx (NmsI.list m c) (NmsI.bxs m c)) (NmsI.tops m c)
    rw [e0, e1, e2]
  · show fclass (fsc (NmsRef.xs m' c)) (fbx (NmsRef.xl m' c) (NmsRef.xb m' c)) (NmsRef.xl m' c) (NmsRef.xc m' c)
      = fclass (fsc (NmsI.tops m c)) (fbx (NmsI.list m c) (NmsI.bxs m c)) (NmsI.list m c) (NmsI.cls m c)
    rw [e0, e1, e2, e3]
  · show fbox (fsc (NmsRef.xs m' c)) (fbx (NmsRef.xl m' c) (NmsRef.xb m' c)) (NmsRef.xl m' c) (NmsRef.xb m' c)
      = fbox (fsc (NmsI.tops m c)) (fbx (NmsI.list m c) (NmsI.bxs m c)) (NmsI.list m c) (NmsI.bxs m c)
    rw [e0, e1, e2]
  · show fcount (fsc (NmsRef.xs m' c)) (fbx (NmsRef.xl m' c) (NmsRef.xb m' c)) = fcount (fsc (NmsI.tops m c)) (fbx (NmsI.list m c) (NmsI.bxs m c))
    rw [e0, e1, e2]

end Cert.Proof.NmsC
end
-- ==== Proof.Nms.Bits.Run.lean ====
/-
  The suppression program's run: the body's results at every grid point, the launch, and the frame.

  The run is stated under the one thing the body relies on, that the list entries it reads name boxes (`Named`);
  `named_of_listed` gives it from the range of the list. Of the fourth result, the count, nothing is said.
-/
module

public import proofs.«01_k».proof.Proof.Nms.Bits.Triple
public import proofs.«01_k».proof.Proof.Gen.Nms.Frame
public import proofs.«01_k».proof.Proof.Nms.Top
public import Idealize.ShloMosaic.Lib.Pipeline.ValueKit
public import Idealize.ShloMosaic.Lib.ReduceAll
public import Idealize.ShloMosaic.Lib.WordArith
public import Idealize.ShloMosaic.Lib.WordCmp
public import Idealize.ShloMosaic.Lib.Claim

@[expose] public section

set_option maxRecDepth 16384

noncomputable section

namespace Cert.Proof.NmsB

open Cert.Nms Cert.Nms.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data of the pipeline -/

/-- The window nothing is said of: the count's. -/
def forgets0 : Fin 10 → Bool := fun w => w == 9

/-- What each window's staging buffer holds after a point: an input its block, the results their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oks (cnt (iblk m c 0 t) (iblk m c 2 t) (iblk m c 3 t) (iblk m c 5 t)) (iblk m c 1 t)
    | ⟨7, _⟩ => okc (cnt (iblk m c 0 t) (iblk m c 2 t) (iblk m c 3 t) (iblk m c 5 t)) (topc (classes (iblk m c 4 t) (iblk m c 2 t) 1000))
    | ⟨8, _⟩ => okb (cnt (iblk m c 0 t) (iblk m c 2 t) (iblk m c 3 t) (iblk m c 5 t)) (topb (boxes (iblk m c 3 t) (iblk m c 2 t) 1000))
    | ⟨9, _⟩ => Pipeline.Dat.unnamed (cfg := cfg0) 9 t
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = oks (cnt (iblk m c 0 t) (iblk m c 2 t) (iblk m c 3 t) (iblk m c 5 t)) (iblk m c 1 t) := by
  dsimp only [dats]
theorem after_7 (c : Dev nD) (t : Fin cfg0.N) : (dats m 0 c).after 7 t
    = okc (cnt (iblk m c 0 t) (iblk m c 2 t) (iblk m c 3 t) (iblk m c 5 t)) (topc (classes (iblk m c 4 t) (iblk m c 2 t) 1000)) := by
  dsimp only [dats]
theorem after_8 (c : Dev nD) (t : Fin cfg0.N) : (dats m 0 c).after 8 t
    = okb (cnt (iblk m c 0 t) (iblk m c 2 t) (iblk m c 3 t) (iblk m c 5 t)) (topb (boxes (iblk m c 3 t) (iblk m c 2 t) 1000)) := by
  dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- The list entries name boxes. -/
def Named : Prop := ∀ (c : Dev nD) (t : Fin cfg0.N) (k : Fin k0_t1_loop.trips), k0_chk1 k (word (iblk m c 2 t) k.val)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d))

/-- The invariant between points: the scratches at some contents, and the generator's register. -/
theorem inv_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ ∃ r, prngReg c r) := by
  unfold Pipeline.ΦA
  rw [scopedRest0_eq]
  refine congrArg (fun p : sProp 𝕄 => iprop(p ∗ ∃ r, prngReg c r)) ?_
  refine congrArg₂ (fun p q : sProp 𝕄 => iprop(p ∗ q)) (congrArg _ (funext fun f => (owns_whole (c : Thread nD τ) cc0_scratch0 fullShare f).symm)) ?_
  exact congrArg₂ (fun p q : sProp 𝕄 => iprop(p ∗ q)) (congrArg _ (funext fun f => (owns_whole (c : Thread nD τ) cc0_scratch1 fullShare f).symm))
    (congrArg _ (funext fun f => (owns_whole (c : Thread nD τ) cc0_scratch2 fullShare f).symm))

theorem sound_point (hn : Named m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1, before_2, before_3, before_4, before_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, inv_eq]
  iintro ⟨⟨⟨HS0, HS1, HS2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (sound_body c Set.univ (grid0.coords t) _ _ _ _ _ _ _ _ _ _ _ _ _ (iblk m c 0 t) (iblk m c 1 t) (iblk m c 2 t) (iblk m c 3 t)
    (iblk m c 4 t) (iblk m c 5 t) (hn c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  iintro H0 H1 H2 H3 H4 H5 H6 H7 H8 H9 HS0 HS1 HS2
  isplitl [HS0 HS1 HS2 HP]
  · isplitl [HS0 HS1 HS2]
    · isplitl [HS0]; · iexact HS0
      isplitl [HS1]; · iexact HS1
      iexact HS2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (hn : Named m) (c : Dev nD) :
    BodyObligation (dats (F := F) m 0 c) (defs₀ (F := F)) Variants.none () Set.univ forgets0 := fun t => by
  rw [bigSep_W0, bigSep_W0, defs₀_row]
  exact triple_restated (sound_point m hn c t) rfl .rfl fun _ => .rfl

/-! ## The run -/

/-- What a run leaves: every window's array but the count's at its data's, every other buffer as the region found it. -/
def Post (r : PUnit × MemSt nD τ sig (Elt F)) : Prop :=
  ∀ c : Dev nD, (∀ w : Fin 10, forgets0 w = false → r.2.mem (((cfgs 0).spec w).arr.view.loc (c.tc : Thread nD τ)) = (dats m 0 c).arrAt w cfg0.N)
    ∧ ∀ b ∈ Pipeline.restRefs sig (cfgs 0).spec, r.2.mem ((c.tc : Thread nD τ).loc b) = V m c b

set_option backward.isDefEq.respectTransparency.types false in
set_option maxHeartbeats 800000 in
theorem run_rel (hn : Named m) : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m hn c).loose) (hshare := fun c => (dats m 0 c).share_full fun _ => rfl)
    (howed := fun _ _ => rfl) (V := V m) (hmain := hmain m Variants.none) (hA := dats_A m) (hΦ := fun _ _ => rfl)

theorem run_all (hn : Named m) : θ_run defs (onTc (τ := τ) (main (F := F))) (s₀ m ρ)
    (fun r => Post m r ∧ r.2.sem = fun _ => 0) :=
  (θ_run defs _ _).mono (fun _ h => ⟨fun c => ⟨fun w hw => (Pipeline.Dat.toRForget_arrAt_iff (dats m 0 c) (fgt := forgets0) hw _ _).1 ((h.1 c).1 w), (h.1 c).2⟩, h.2⟩) (run_rel m ρ hn)

/-- The frame: the arguments end as launched and every counter at zero. -/
theorem framed (hn : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 3 rfl).trans (((dats m 0 c).arrAt_in 3 rfl _).trans ((dats_A m c 3).trans (V_main_arg1 m c))),
      ((h.1 c).1 4 rfl).trans (((dats m 0 c).arrAt_in 4 rfl _).trans ((dats_A m c 4).trans (V_main_arg2 m c)))⟩, h.2⟩) (run_all m ρ hn)

/-! ## The list entries from the selection -/

/-- The best of the scores and their places. -/
def best (c : Dev nD) : Vec F S4x1000 .f32 × IVec S4x1000 32 :=
  Host.topK S4x1000 1 (FloatOps.cmpfTotal .gt) (shapeCast S4x5000 (m ((c : Thread nD τ).loc main_arg0) : Vec F S4x5000x1 .f32) shapeCasts_S4x5000x1_S4x5000) sliceFits_S4x5000_S4x1000

theorem listed_lt (c : Dev nD) (j : S4x1000.Idx) : ((best m c).2 j).toNat < 5000 := Nms.best_lt _ _ _ j

theorem V_list (c : Dev nD) : V m c main_v4 = shapeCast S4x1x1000 ((best m c).2 : Vec F S4x1000 .i32) shapeCasts_S4x1000_S4x1x1000 := by
  unfold V
  entry_read
  rfl

/-- A point's list entries are those of its image's row of the list. -/
theorem word_entry (c : Dev nD) (t : Fin cfg0.N) (n : Nat) : word (iblk m c 2 t) n
    = (best m c).2 (ix2 (⟨(grid0.coords t 0).val, (grid0.coords t 0).isLt⟩ : Fin 4) (⟨n % 1000, Nat.mod_lt _ (by decide)⟩ : Fin 1000)) := by
  have e : ∀ t, win0_2.index t = ![(grid0.coords t 0).val, 0, 0] := by decide +kernel
  unfold word
  blk_simp [iblk, e]
  rw [show ((View.whole main_v4).slice (win0_2.rect t)).emb (ix3 0 0 ⟨n % 1000, Nat.mod_lt _ (by decide)⟩)
      = ix3 (⟨(grid0.coords t 0).val, (grid0.coords t 0).isLt⟩ : Fin 4) (0 : Fin 1) (⟨n % 1000, Nat.mod_lt _ (by decide)⟩ : Fin 1000) from ?_]
  · refine (congrFun (V_list m c) _).trans ?_
    pointwise
  · funext a
    fin_cases a
    all_goals (apply Fin.ext; blk_simp [e]; try simp)

theorem chk_of_lt (k : Fin k0_t1_loop.trips) (v : BitVec 32) (h : v.toNat < 5000) : k0_chk1 k v := by
  refine ⟨?_, fun _ => ?_⟩
  · intro a
    match a with
    | ⟨0, _⟩ => show 0 + 1 ≤ 1; omega
    | ⟨1, _⟩ => show v.toNat + 1 ≤ 5000; omega
    | ⟨2, _⟩ => show 0 + 4 ≤ 4; omega
  · intro a
    match a with
    | ⟨0, _⟩ => show 0 + 1 ≤ 1; omega
    | ⟨1, _⟩ => show v.toNat + 1 ≤ 5000; omega
    | ⟨2, _⟩ => show 0 + 1 ≤ 1; omega

/-- Every point's list entries are in range. -/
theorem named : Named m := fun c t k => by
  rw [word_entry]
  exact chk_of_lt k _ (listed_lt m c _)

end Cert.Proof.NmsB

end
-- ==== Proof.Decode.Bits.lean ====
/-
  The decode reference as printed leaves its arguments as they were.
-/
module
public import proofs.«01_k».proof.Proof.Gen.DecodeRef
public import Idealize.ShloMosaic.Lib.Claim
public import Idealize.ShloMosaic.Lib.Quiescent
@[expose] public section
set_option maxRecDepth 16384
noncomputable section
namespace Cert.Proof.DecodeB
open Cert.DecodeRef Cert.DecodeRef.Gen
open Idealize.ShloMosaic Idealize.ShloMosaic.TcCoe Idealize.SL.Sem Idealize.ShloMosaic.Tactic

variable {F : FTy → Type} [FloatOps F] (m : (ℓ : Loc nD τ sig) → Buf (Elt F) ℓ) (g : Dev nD → PrngReg)

theorem ref_args : θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run

/-- The reference runs, its arguments end as launched and every counter at zero. -/
theorem ref_framed : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => h c, sem_eq_zero_of_no_sems (by decide) r.2⟩) (ref_args m g)

end Cert.Proof.DecodeB
end
-- ==== Proof.lean ====
/-
  `Cert.Claim`: the frames of the masks, decode and suppression calls and of their references, and the equality of their results.
-/
module

public import proofs.«01_k».proof.Defs
public import proofs.«01_k».proof.Proof.Gen.Masks
public import proofs.«01_k».proof.Proof.Gen.Masks.Skeleton
public import proofs.«01_k».proof.Proof.Gen.Masks.Launch
public import proofs.«01_k».proof.Proof.Gen.Masks.Points
public import proofs.«01_k».proof.Proof.Gen.Masks.Frame
public import proofs.«01_k».proof.Proof.Gen.MasksIdeal
public import proofs.«01_k».proof.Proof.Gen.MasksIdeal.Skeleton
public import proofs.«01_k».proof.Proof.Gen.MasksIdeal.Launch
public import proofs.«01_k».proof.Proof.Gen.MasksIdeal.Points
public import proofs.«01_k».proof.Proof.Gen.MasksIdeal.Frame
public import proofs.«01_k».proof.Proof.Gen.MasksRefIdeal
public import proofs.«01_k».proof.Proof.Gen.Pre_in_range
public import proofs.«01_k».proof.Proof.Gen.MasksRefIdeal.Run
public import proofs.«01_k».proof.Proof.Gen.MasksRefIdeal.Read
public import proofs.«01_k».proof.Proof.Gen.DecodeIdeal.Value
public import proofs.«01_k».proof.Proof.Gen.DecodeRefIdeal
public import proofs.«01_k».proof.Proof.Gen.Decode.Frame
public import proofs.«01_k».proof.Proof.Gen.Nms.Frame
public import proofs.«01_k».proof.Proof.Gen.NmsIdeal.Frame
public import proofs.«01_k».proof.Proof.Gen.NmsRefIdeal.Run
public import proofs.«01_k».proof.Proof.Gen.DecodeIdeal.Frame
public import proofs.«01_k».proof.Proof.Run
public import proofs.«01_k».proof.Proof.Bits.Run
public import proofs.«01_k».proof.Proof.Out
public import proofs.«01_k».proof.Proof.RefValue
public import proofs.«01_k».proof.Proof.Decode.Claim
public import proofs.«01_k».proof.Proof.Nms.Run
public import proofs.«01_k».proof.Proof.Nms.Keep
public import proofs.«01_k».proof.Proof.Nms.Claim
public import proofs.«01_k».proof.Proof.Nms.Bits.Run
public import proofs.«01_k».proof.Proof.Nms.Bits.Keep
public import proofs.«01_k».proof.Proof.Decode.Bits
public import Idealize.ShloMosaic.Adequacy
public import Idealize.ShloMosaic.Init
public import Idealize.ShloMosaic.Lib.Quiescent

@[expose] public section

noncomputable section

namespace Cert.Proof

open Idealize.ShloMosaic Idealize.SL.Sem

section
open Cert.MasksRefIdeal

/-- The reference's masks. -/
theorem ref_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v63) = Read.val_main_v63 (F := Ideal) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (Read.val_main_v63_eq (StableHlo.launchContents m c)), (h c).2⟩) (Value.run m g)

/-- The reference runs, its arguments end as launched and every counter at zero. -/
theorem ref_framed (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems (by decide) r.2⟩) (ref_result m g)

end

/-- The reference's masks are the call's. -/
theorem masks_eq (m : (ℓ : Loc Cert.MasksIdeal.nD Cert.MasksIdeal.τ Cert.MasksIdeal.sig) → Buf (Elt Ideal) ℓ) (c : Dev Cert.MasksIdeal.nD)
    (h : ∀ j, (Ideal.lst m c j).toNat < 5000) :
    Cert.MasksRefIdeal.Read.val_main_v63 (F := Ideal) (Ideal.ctl m c) (m ((c.tc : Thread Cert.MasksIdeal.nD Cert.MasksIdeal.τ).loc Cert.MasksIdeal.main_arg1))
      (Ideal.lst m c) (Ideal.cnt m c) = fun y => Ideal.mask m c (y 0) (y 1) (y 2) (y 3) := by
  funext y
  have e : y = ix4 (y 0 : Fin 4) (y 1 : Fin 100) (y 2 : Fin 512) (y 3 : Fin 512) := by
    funext a; fin_cases a <;> rfl
  refine (congrArg _ e).trans ((Ref.out_apply _ _ _ _ h _ _ _ _).trans ?_)
  rfl

theorem algebraic : Cert.algebraic_MasksIdeal_MasksRefIdeal (hMasksIdeal := Cert.MasksIdeal.Gen.facts) (hMasksRefIdeal := Cert.MasksRefIdeal.Gen.facts)
    (hPre_in_range := Cert.Pre_in_range.Gen.facts) := by
  intro m g m' g' hpre hag
  have hn := Ideal.named_of_range m hpre
  refine ⟨fun c y => Ideal.mask m c (y 0) (y 1) (y 2) (y 3), ?_, ?_⟩
  · exact (θ_run _ _ _).mono (fun _ h c => ⟨h.1 c, h.2.1 c⟩) (θ_run_and (Ideal.result m hn g) (Ideal.framed m g hn))
  · refine (θ_run _ _ _).mono (fun r h c => ⟨(h c).1.trans ?_, (h c).2⟩) (ref_result m' g')
    obtain ⟨h0, h1, h2, h3⟩ := hag c
    rw [h0, h1, h2, h3]
    exact masks_eq m c fun j => Ideal.entry_lt _ _ _ _ (hpre c) j

theorem claim : Cert.Claim := ⟨Cert.Masks.Gen.facts, Cert.MasksIdeal.Gen.facts, Cert.MasksRefIdeal.Gen.facts,
  Cert.Decode.Gen.facts, Cert.DecodeIdeal.Gen.facts, Cert.DecodeRef.Gen.facts, Cert.DecodeRefIdeal.Gen.facts,
  Cert.Nms.Gen.facts, Cert.NmsIdeal.Gen.facts, Cert.NmsRef.Gen.facts, Cert.NmsRefIdeal.Gen.facts, Cert.Pre_in_range.Gen.facts,
  fun m g h => Bits.framed m g (Bits.named_of_range m h), fun m g h => Ideal.framed m g (Ideal.named_of_range m h),
  fun m g _ => ref_framed m g, fun m g _ => ref_framed m g,
  fun m g _ => Cert.Decode.Gen.frame m g, fun m g _ => Cert.DecodeIdeal.Gen.frame m g, fun m g _ => DecodeB.ref_framed m g, fun m g _ => Decode.ref_framed m g,
  fun m g _ => NmsB.framed m g (NmsB.named m), fun m g _ => NmsI.framed m g (NmsI.named m),
  fun m g _ => NmsRefB.framed m g, fun m g _ => NmsRef.framed m g,
  trivial, algebraic, trivial, Decode.algebraic, trivial, NmsC.algebraic⟩

end Cert.Proof

end
